-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_FfnMix (m : (ℓ : Loc Cert.FfnMix.nD Cert.FfnMix.τ Cert.FfnMix.sig) → Buf (Elt Bits) ℓ) : Prop :=
  True

def Pre_FfnMixIdeal (m : (ℓ : Loc Cert.FfnMixIdeal.nD Cert.FfnMixIdeal.τ Cert.FfnMixIdeal.sig) → Buf (Elt Ideal) ℓ) : Prop :=
  True

def Pre_RefFfnMixIdeal (m : (ℓ : Loc Cert.RefFfnMixIdeal.nD Cert.RefFfnMixIdeal.τ Cert.RefFfnMixIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_RefFfnMidIdeal (m : (ℓ : Loc Cert.RefFfnMidIdeal.nD Cert.RefFfnMidIdeal.τ Cert.RefFfnMidIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_RefInprojIdeal (m : (ℓ : Loc Cert.RefInprojIdeal.nD Cert.RefInprojIdeal.τ Cert.RefInprojIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_RefGateIdeal (m : (ℓ : Loc Cert.RefGateIdeal.nD Cert.RefGateIdeal.τ Cert.RefGateIdeal.sig) → Buf (Elt Ideal) ℓ) : Prop :=
  True

def Pre_Pages [hPre_pages_named : Cert.Pre_pages_named.Facts] (m : (ℓ : Loc Cert.Pages.nD Cert.Pages.τ Cert.Pages.sig) → Buf (Elt Bits) ℓ) : Prop :=
  ∀ c : Dev Cert.Pages.nD,
    (Cert.Pre_pages_named.fn (F := Bits) (m ((c.tc : Thread Cert.Pages.nD Cert.Pages.τ).loc Cert.Pages.main_arg0)) (m ((c.tc : Thread Cert.Pages.nD Cert.Pages.τ).loc Cert.Pages.main_arg1))) = (fun _ => 1#1)

def Pre_PagesIdeal [hPre_pages_named : Cert.Pre_pages_named.Facts] (m : (ℓ : Loc Cert.PagesIdeal.nD Cert.PagesIdeal.τ Cert.PagesIdeal.sig) → Buf (Elt Ideal) ℓ) : Prop :=
  ∀ c : Dev Cert.PagesIdeal.nD,
    (Cert.Pre_pages_named.fn (F := Ideal) (m ((c.tc : Thread Cert.PagesIdeal.nD Cert.PagesIdeal.τ).loc Cert.PagesIdeal.main_arg0)) (m ((c.tc : Thread Cert.PagesIdeal.nD Cert.PagesIdeal.τ).loc Cert.PagesIdeal.main_arg1))) = (fun _ => 1#1)

def Pre_RefPagesIdeal (m : (ℓ : Loc Cert.RefPagesIdeal.nD Cert.RefPagesIdeal.τ Cert.RefPagesIdeal.sig) → Buf (Elt Ideal) ℓ) : Prop :=
  True

def Pre_RefPagesIdeal_pages_named [hPre_pages_named : Cert.Pre_pages_named.Facts] (m : (ℓ : Loc Cert.RefPagesIdeal.nD Cert.RefPagesIdeal.τ Cert.RefPagesIdeal.sig) → Buf (Elt Ideal) ℓ) : Prop :=
  ∀ c : Dev Cert.RefPagesIdeal.nD,
    (Cert.Pre_pages_named.fn (F := Ideal) (m ((c.tc : Thread Cert.RefPagesIdeal.nD Cert.RefPagesIdeal.τ).loc Cert.RefPagesIdeal.main_arg0)) (m ((c.tc : Thread Cert.RefPagesIdeal.nD Cert.RefPagesIdeal.τ).loc Cert.RefPagesIdeal.main_arg1))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_FfnMix [hFfnMix : Cert.FfnMix.Facts] : Prop :=
  ∀ (m : (ℓ : Loc Cert.FfnMix.nD Cert.FfnMix.τ Cert.FfnMix.sig) → Buf (Elt Bits) ℓ) (g : Dev Cert.FfnMix.nD → PrngReg), Pre_FfnMix m →
    θ_run (Cert.FfnMix.defs (F := Bits)) (onTc (τ := Cert.FfnMix.τ) (Cert.FfnMix.main (F := Bits))) ⟨m, fun _ => 0, g⟩ (fun r => (∀ c : Dev Cert.FfnMix.nD,
      r.2.mem ((c.tc : Thread Cert.FfnMix.nD Cert.FfnMix.τ).loc Cert.FfnMix.main_arg0) = m ((c.tc : Thread Cert.FfnMix.nD Cert.FfnMix.τ).loc Cert.FfnMix.main_arg0)
      ∧ r.2.mem ((c.tc : Thread Cert.FfnMix.nD Cert.FfnMix.τ).loc Cert.FfnMix.main_arg1) = m ((c.tc : Thread Cert.FfnMix.nD Cert.FfnMix.τ).loc Cert.FfnMix.main_arg1)
      ∧ r.2.mem ((c.tc : Thread Cert.FfnMix.nD Cert.FfnMix.τ).loc Cert.FfnMix.main_arg2) = m ((c.tc : Thread Cert.FfnMix.nD Cert.FfnMix.τ).loc Cert.FfnMix.main_arg2)
      ∧ r.2.mem ((c.tc : Thread Cert.FfnMix.nD Cert.FfnMix.τ).loc Cert.FfnMix.main_arg3) = m ((c.tc : Thread Cert.FfnMix.nD Cert.FfnMix.τ).loc Cert.FfnMix.main_arg3)
      ∧ r.2.mem ((c.tc : Thread Cert.FfnMix.nD Cert.FfnMix.τ).loc Cert.FfnMix.main_arg4) = m ((c.tc : Thread Cert.FfnMix.nD Cert.FfnMix.τ).loc Cert.FfnMix.main_arg4)
      ∧ r.2.mem ((c.tc : Thread Cert.FfnMix.nD Cert.FfnMix.τ).loc Cert.FfnMix.main_arg5) = m ((c.tc : Thread Cert.FfnMix.nD Cert.FfnMix.τ).loc Cert.FfnMix.main_arg5)
      ∧ r.2.mem ((c.tc : Thread Cert.FfnMix.nD Cert.FfnMix.τ).loc Cert.FfnMix.main_arg6) = m ((c.tc : Thread Cert.FfnMix.nD Cert.FfnMix.τ).loc Cert.FfnMix.main_arg6)
      ∧ r.2.mem ((c.tc : Thread Cert.FfnMix.nD Cert.FfnMix.τ).loc Cert.FfnMix.main_arg7) = m ((c.tc : Thread Cert.FfnMix.nD Cert.FfnMix.τ).loc Cert.FfnMix.main_arg7)
      ∧ r.2.mem ((c.tc : Thread Cert.FfnMix.nD Cert.FfnMix.τ).loc Cert.FfnMix.main_arg8) = m ((c.tc : Thread Cert.FfnMix.nD Cert.FfnMix.τ).loc Cert.FfnMix.main_arg8))
      ∧ r.2.sem = fun _ => 0)

def quiescent_FfnMixIdeal [hFfnMixIdeal : Cert.FfnMixIdeal.Facts] : Prop :=
  ∀ (m : (ℓ : Loc Cert.FfnMixIdeal.nD Cert.FfnMixIdeal.τ Cert.FfnMixIdeal.sig) → Buf (Elt Ideal) ℓ) (g : Dev Cert.FfnMixIdeal.nD → PrngReg), Pre_FfnMixIdeal m →
    θ_run (Cert.FfnMixIdeal.defs (F := Ideal)) (onTc (τ := Cert.FfnMixIdeal.τ) (Cert.FfnMixIdeal.main (F := Ideal))) ⟨m, fun _ => 0, g⟩ (fun r => (∀ c : Dev Cert.FfnMixIdeal.nD,
      r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
      ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
      ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
      ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
      ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
      ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
      ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
      ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7)
      ∧ r.2.mem ((c.tc : Thread Cert.FfnMixIdeal.nD Cert.FfnMixIdeal.τ).loc Cert.FfnMixIdeal.main_arg8) = m ((c.tc : Thread Cert.FfnMixIdeal.nD Cert.FfnMixIdeal.τ).loc Cert.FfnMixIdeal.main_arg8))
      ∧ r.2.sem = fun _ => 0)

def quiescent_RefFfnMixIdeal [hRefFfnMixIdeal : Cert.RefFfnMixIdeal.Facts] : Prop :=
  ∀ (m : (ℓ : Loc Cert.RefFfnMixIdeal.nD Cert.RefFfnMixIdeal.τ Cert.RefFfnMixIdeal.sig) → Buf (Elt Ideal) ℓ) (g : Dev Cert.RefFfnMixIdeal.nD → PrngReg), Pre_RefFfnMixIdeal m →
    θ_run (Cert.RefFfnMixIdeal.defs (F := Ideal)) (onTc (τ := Cert.RefFfnMixIdeal.τ) (Cert.RefFfnMixIdeal.main (F := Ideal))) ⟨m, fun _ => 0, g⟩ (fun r => (∀ c : Dev Cert.RefFfnMixIdeal.nD,
      r.2.mem ((c.tc : Thread Cert.RefFfnMixIdeal.nD Cert.RefFfnMixIdeal.τ).loc Cert.RefFfnMixIdeal.main_arg0) = m ((c.tc : Thread Cert.RefFfnMixIdeal.nD Cert.RefFfnMixIdeal.τ).loc Cert.RefFfnMixIdeal.main_arg0)
      ∧ r.2.mem ((c.tc : Thread Cert.RefFfnMixIdeal.nD Cert.RefFfnMixIdeal.τ).loc Cert.RefFfnMixIdeal.main_arg1) = m ((c.tc : Thread Cert.RefFfnMixIdeal.nD Cert.RefFfnMixIdeal.τ).loc Cert.RefFfnMixIdeal.main_arg1)
      ∧ r.2.mem ((c.tc : Thread Cert.RefFfnMixIdeal.nD Cert.RefFfnMixIdeal.τ).loc Cert.RefFfnMixIdeal.main_arg2) = m ((c.tc : Thread Cert.RefFfnMixIdeal.nD Cert.RefFfnMixIdeal.τ).loc Cert.RefFfnMixIdeal.main_arg2)
      ∧ r.2.mem ((c.tc : Thread Cert.RefFfnMixIdeal.nD Cert.RefFfnMixIdeal.τ).loc Cert.RefFfnMixIdeal.main_arg3) = m ((c.tc : Thread Cert.RefFfnMixIdeal.nD Cert.RefFfnMixIdeal.τ).loc Cert.RefFfnMixIdeal.main_arg3)
      ∧ r.2.mem ((c.tc : Thread Cert.RefFfnMixIdeal.nD Cert.RefFfnMixIdeal.τ).loc Cert.RefFfnMixIdeal.main_arg4) = m ((c.tc : Thread Cert.RefFfnMixIdeal.nD Cert.RefFfnMixIdeal.τ).loc Cert.RefFfnMixIdeal.main_arg4)
      ∧ r.2.mem ((c.tc : Thread Cert.RefFfnMixIdeal.nD Cert.RefFfnMixIdeal.τ).loc Cert.RefFfnMixIdeal.main_arg5) = m ((c.tc : Thread Cert.RefFfnMixIdeal.nD Cert.RefFfnMixIdeal.τ).loc Cert.RefFfnMixIdeal.main_arg5)
      ∧ r.2.mem ((c.tc : Thread Cert.RefFfnMixIdeal.nD Cert.RefFfnMixIdeal.τ).loc Cert.RefFfnMixIdeal.main_arg6) = m ((c.tc : Thread Cert.RefFfnMixIdeal.nD Cert.RefFfnMixIdeal.τ).loc Cert.RefFfnMixIdeal.main_arg6)
      ∧ r.2.mem ((c.tc : Thread Cert.RefFfnMixIdeal.nD Cert.RefFfnMixIdeal.τ).loc Cert.RefFfnMixIdeal.main_arg7) = m ((c.tc : Thread Cert.RefFfnMixIdeal.nD Cert.RefFfnMixIdeal.τ).loc Cert.RefFfnMixIdeal.main_arg7)
      ∧ r.2.mem ((c.tc : Thread Cert.RefFfnMixIdeal.nD Cert.RefFfnMixIdeal.τ).loc Cert.RefFfnMixIdeal.main_arg8) = m ((c.tc : Thread Cert.RefFfnMixIdeal.nD Cert.RefFfnMixIdeal.τ).loc Cert.RefFfnMixIdeal.main_arg8))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5)
      ∧ r.2.mem ((c.tc : Thread Cert.FfnMid.nD Cert.FfnMid.τ).loc Cert.FfnMid.main_arg6) = m ((c.tc : Thread Cert.FfnMid.nD Cert.FfnMid.τ).loc Cert.FfnMid.main_arg6)
      ∧ r.2.mem ((c.tc : Thread Cert.FfnMid.nD Cert.FfnMid.τ).loc Cert.FfnMid.main_arg7) = m ((c.tc : Thread Cert.FfnMid.nD Cert.FfnMid.τ).loc Cert.FfnMid.main_arg7))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
      ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6)
      ∧ r.2.mem ((c.tc : Thread Cert.FfnMidIdeal.nD Cert.FfnMidIdeal.τ).loc Cert.FfnMidIdeal.main_arg7) = m ((c.tc : Thread Cert.FfnMidIdeal.nD Cert.FfnMidIdeal.τ).loc Cert.FfnMidIdeal.main_arg7))
      ∧ r.2.sem = fun _ => 0)

def quiescent_RefFfnMidIdeal [hRefFfnMidIdeal : Cert.RefFfnMidIdeal.Facts] : Prop :=
  ∀ (m : (ℓ : Loc Cert.RefFfnMidIdeal.nD Cert.RefFfnMidIdeal.τ Cert.RefFfnMidIdeal.sig) → Buf (Elt Ideal) ℓ) (g : Dev Cert.RefFfnMidIdeal.nD → PrngReg), Pre_RefFfnMidIdeal m →
    θ_run (Cert.RefFfnMidIdeal.defs (F := Ideal)) (onTc (τ := Cert.RefFfnMidIdeal.τ) (Cert.RefFfnMidIdeal.main (F := Ideal))) ⟨m, fun _ => 0, g⟩ (fun r => (∀ c : Dev Cert.RefFfnMidIdeal.nD,
      r.2.mem ((c.tc : Thread Cert.RefFfnMidIdeal.nD Cert.RefFfnMidIdeal.τ).loc Cert.RefFfnMidIdeal.main_arg0) = m ((c.tc : Thread Cert.RefFfnMidIdeal.nD Cert.RefFfnMidIdeal.τ).loc Cert.RefFfnMidIdeal.main_arg0)
      ∧ r.2.mem ((c.tc : Thread Cert.RefFfnMidIdeal.nD Cert.RefFfnMidIdeal.τ).loc Cert.RefFfnMidIdeal.main_arg1) = m ((c.tc : Thread Cert.RefFfnMidIdeal.nD Cert.RefFfnMidIdeal.τ).loc Cert.RefFfnMidIdeal.main_arg1)
      ∧ r.2.mem ((c.tc : Thread Cert.RefFfnMidIdeal.nD Cert.RefFfnMidIdeal.τ).loc Cert.RefFfnMidIdeal.main_arg2) = m ((c.tc : Thread Cert.RefFfnMidIdeal.nD Cert.RefFfnMidIdeal.τ).loc Cert.RefFfnMidIdeal.main_arg2)
      ∧ r.2.mem ((c.tc : Thread Cert.RefFfnMidIdeal.nD Cert.RefFfnMidIdeal.τ).loc Cert.RefFfnMidIdeal.main_arg3) = m ((c.tc : Thread Cert.RefFfnMidIdeal.nD Cert.RefFfnMidIdeal.τ).loc Cert.RefFfnMidIdeal.main_arg3)
      ∧ r.2.mem ((c.tc : Thread Cert.RefFfnMidIdeal.nD Cert.RefFfnMidIdeal.τ).loc Cert.RefFfnMidIdeal.main_arg4) = m ((c.tc : Thread Cert.RefFfnMidIdeal.nD Cert.RefFfnMidIdeal.τ).loc Cert.RefFfnMidIdeal.main_arg4)
      ∧ r.2.mem ((c.tc : Thread Cert.RefFfnMidIdeal.nD Cert.RefFfnMidIdeal.τ).loc Cert.RefFfnMidIdeal.main_arg5) = m ((c.tc : Thread Cert.RefFfnMidIdeal.nD Cert.RefFfnMidIdeal.τ).loc Cert.RefFfnMidIdeal.main_arg5)
      ∧ r.2.mem ((c.tc : Thread Cert.RefFfnMidIdeal.nD Cert.RefFfnMidIdeal.τ).loc Cert.RefFfnMidIdeal.main_arg6) = m ((c.tc : Thread Cert.RefFfnMidIdeal.nD Cert.RefFfnMidIdeal.τ).loc Cert.RefFfnMidIdeal.main_arg6)
      ∧ r.2.mem ((c.tc : Thread Cert.RefFfnMidIdeal.nD Cert.RefFfnMidIdeal.τ).loc Cert.RefFfnMidIdeal.main_arg7) = m ((c.tc : Thread Cert.RefFfnMidIdeal.nD Cert.RefFfnMidIdeal.τ).loc Cert.RefFfnMidIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_RefInprojIdeal [hRefInprojIdeal : Cert.RefInprojIdeal.Facts] : Prop :=
  ∀ (m : (ℓ : Loc Cert.RefInprojIdeal.nD Cert.RefInprojIdeal.τ Cert.RefInprojIdeal.sig) → Buf (Elt Ideal) ℓ) (g : Dev Cert.RefInprojIdeal.nD → PrngReg), Pre_RefInprojIdeal m →
    θ_run (Cert.RefInprojIdeal.defs (F := Ideal)) (onTc (τ := Cert.RefInprojIdeal.τ) (Cert.RefInprojIdeal.main (F := Ideal))) ⟨m, fun _ => 0, g⟩ (fun r => (∀ c : Dev Cert.RefInprojIdeal.nD,
      r.2.mem ((c.tc : Thread Cert.RefInprojIdeal.nD Cert.RefInprojIdeal.τ).loc Cert.RefInprojIdeal.main_arg0) = m ((c.tc : Thread Cert.RefInprojIdeal.nD Cert.RefInprojIdeal.τ).loc Cert.RefInprojIdeal.main_arg0)
      ∧ r.2.mem ((c.tc : Thread Cert.RefInprojIdeal.nD Cert.RefInprojIdeal.τ).loc Cert.RefInprojIdeal.main_arg1) = m ((c.tc : Thread Cert.RefInprojIdeal.nD Cert.RefInprojIdeal.τ).loc Cert.RefInprojIdeal.main_arg1)
      ∧ r.2.mem ((c.tc : Thread Cert.RefInprojIdeal.nD Cert.RefInprojIdeal.τ).loc Cert.RefInprojIdeal.main_arg2) = m ((c.tc : Thread Cert.RefInprojIdeal.nD Cert.RefInprojIdeal.τ).loc Cert.RefInprojIdeal.main_arg2)
      ∧ r.2.mem ((c.tc : Thread Cert.RefInprojIdeal.nD Cert.RefInprojIdeal.τ).loc Cert.RefInprojIdeal.main_arg3) = m ((c.tc : Thread Cert.RefInprojIdeal.nD Cert.RefInprojIdeal.τ).loc Cert.RefInprojIdeal.main_arg3)
      ∧ r.2.mem ((c.tc : Thread Cert.RefInprojIdeal.nD Cert.RefInprojIdeal.τ).loc Cert.RefInprojIdeal.main_arg4) = m ((c.tc : Thread Cert.RefInprojIdeal.nD Cert.RefInprojIdeal.τ).loc Cert.RefInprojIdeal.main_arg4)
      ∧ r.2.mem ((c.tc : Thread Cert.RefInprojIdeal.nD Cert.RefInprojIdeal.τ).loc Cert.RefInprojIdeal.main_arg5) = m ((c.tc : Thread Cert.RefInprojIdeal.nD Cert.RefInprojIdeal.τ).loc Cert.RefInprojIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1))
      ∧ r.2.sem = fun _ => 0)

def quiescent_Pages [hPages : Cert.Pages.Facts] [hPre_pages_named : Cert.Pre_pages_named.Facts] : Prop :=
  ∀ (m : (ℓ : Loc Cert.Pages.nD Cert.Pages.τ Cert.Pages.sig) → Buf (Elt Bits) ℓ) (g : Dev Cert.Pages.nD → PrngReg), Pre_Pages m →
    θ_run (Cert.Pages.defs (F := Bits)) (onTc (τ := Cert.Pages.τ) (Cert.Pages.main (F := Bits))) ⟨m, fun _ => 0, g⟩ (fun r => (∀ c : Dev Cert.Pages.nD,
      r.2.mem ((c.tc : Thread Cert.Pages.nD Cert.Pages.τ).loc Cert.Pages.main_arg0) = m ((c.tc : Thread Cert.Pages.nD Cert.Pages.τ).loc Cert.Pages.main_arg0)
      ∧ r.2.mem ((c.tc : Thread Cert.Pages.nD Cert.Pages.τ).loc Cert.Pages.main_arg1) = m ((c.tc : Thread Cert.Pages.nD Cert.Pages.τ).loc Cert.Pages.main_arg1))
      ∧ r.2.sem = fun _ => 0)

def quiescent_PagesIdeal [hPagesIdeal : Cert.PagesIdeal.Facts] [hPre_pages_named : Cert.Pre_pages_named.Facts] : Prop :=
  ∀ (m : (ℓ : Loc Cert.PagesIdeal.nD Cert.PagesIdeal.τ Cert.PagesIdeal.sig) → Buf (Elt Ideal) ℓ) (g : Dev Cert.PagesIdeal.nD → PrngReg), Pre_PagesIdeal m →
    θ_run (Cert.PagesIdeal.defs (F := Ideal)) (onTc (τ := Cert.PagesIdeal.τ) (Cert.PagesIdeal.main (F := Ideal))) ⟨m, fun _ => 0, g⟩ (fun r => (∀ c : Dev Cert.PagesIdeal.nD,
      r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0)
      ∧ r.2.mem ((c.tc : Thread Cert.PagesIdeal.nD Cert.PagesIdeal.τ).loc Cert.PagesIdeal.main_arg1) = m ((c.tc : Thread Cert.PagesIdeal.nD Cert.PagesIdeal.τ).loc Cert.PagesIdeal.main_arg1))
      ∧ r.2.sem = fun _ => 0)

def quiescent_RefPagesIdeal [hRefPagesIdeal : Cert.RefPagesIdeal.Facts] : Prop :=
  ∀ (m : (ℓ : Loc Cert.RefPagesIdeal.nD Cert.RefPagesIdeal.τ Cert.RefPagesIdeal.sig) → Buf (Elt Ideal) ℓ) (g : Dev Cert.RefPagesIdeal.nD → PrngReg), Pre_RefPagesIdeal m →
    θ_run (Cert.RefPagesIdeal.defs (F := Ideal)) (onTc (τ := Cert.RefPagesIdeal.τ) (Cert.RefPagesIdeal.main (F := Ideal))) ⟨m, fun _ => 0, g⟩ (fun r => (∀ c : Dev Cert.RefPagesIdeal.nD,
      r.2.mem ((c.tc : Thread Cert.RefPagesIdeal.nD Cert.RefPagesIdeal.τ).loc Cert.RefPagesIdeal.main_arg0) = m ((c.tc : Thread Cert.RefPagesIdeal.nD Cert.RefPagesIdeal.τ).loc Cert.RefPagesIdeal.main_arg0)
      ∧ r.2.mem ((c.tc : Thread Cert.RefPagesIdeal.nD Cert.RefPagesIdeal.τ).loc Cert.RefPagesIdeal.main_arg1) = m ((c.tc : Thread Cert.RefPagesIdeal.nD Cert.RefPagesIdeal.τ).loc Cert.RefPagesIdeal.main_arg1))
      ∧ r.2.sem = fun _ => 0)

def quiescent_RefPagesIdeal_pre_pages_named [hRefPagesIdeal : Cert.RefPagesIdeal.Facts] [hPre_pages_named : Cert.Pre_pages_named.Facts] : Prop :=
  ∀ (m : (ℓ : Loc Cert.RefPagesIdeal.nD Cert.RefPagesIdeal.τ Cert.RefPagesIdeal.sig) → Buf (Elt Ideal) ℓ) (g : Dev Cert.RefPagesIdeal.nD → PrngReg), Pre_RefPagesIdeal_pages_named m →
    θ_run (Cert.RefPagesIdeal.defs (F := Ideal)) (onTc (τ := Cert.RefPagesIdeal.τ) (Cert.RefPagesIdeal.main (F := Ideal))) ⟨m, fun _ => 0, g⟩ (fun r => (∀ c : Dev Cert.RefPagesIdeal.nD,
      r.2.mem ((c.tc : Thread Cert.RefPagesIdeal.nD Cert.RefPagesIdeal.τ).loc Cert.RefPagesIdeal.main_arg0) = m ((c.tc : Thread Cert.RefPagesIdeal.nD Cert.RefPagesIdeal.τ).loc Cert.RefPagesIdeal.main_arg0)
      ∧ r.2.mem ((c.tc : Thread Cert.RefPagesIdeal.nD Cert.RefPagesIdeal.τ).loc Cert.RefPagesIdeal.main_arg1) = m ((c.tc : Thread Cert.RefPagesIdeal.nD Cert.RefPagesIdeal.τ).loc Cert.RefPagesIdeal.main_arg1))
      ∧ r.2.sem = fun _ => 0)

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v20) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_FfnMix_FfnMixIdeal : Prop :=
  True

def algebraic_FfnMixIdeal_RefFfnMixIdeal [hFfnMixIdeal : Cert.FfnMixIdeal.Facts] [hRefFfnMixIdeal : Cert.RefFfnMixIdeal.Facts] : Prop :=
  ∀ (m : (ℓ : Loc Cert.FfnMixIdeal.nD Cert.FfnMixIdeal.τ Cert.FfnMixIdeal.sig) → Buf (Elt Ideal) ℓ) (g : Dev Cert.FfnMixIdeal.nD → PrngReg)
    (m' : (ℓ : Loc Cert.RefFfnMixIdeal.nD Cert.RefFfnMixIdeal.τ Cert.RefFfnMixIdeal.sig) → Buf (Elt Ideal) ℓ) (g' : Dev Cert.RefFfnMixIdeal.nD → PrngReg), Pre_FfnMixIdeal m →
    (∀ c : Dev Cert.FfnMixIdeal.nD,
      m' ((c.tc : Thread Cert.RefFfnMixIdeal.nD Cert.RefFfnMixIdeal.τ).loc Cert.RefFfnMixIdeal.main_arg0) = m ((c.tc : Thread Cert.FfnMixIdeal.nD Cert.FfnMixIdeal.τ).loc Cert.FfnMixIdeal.main_arg0)
      ∧ m' ((c.tc : Thread Cert.RefFfnMixIdeal.nD Cert.RefFfnMixIdeal.τ).loc Cert.RefFfnMixIdeal.main_arg1) = m ((c.tc : Thread Cert.FfnMixIdeal.nD Cert.FfnMixIdeal.τ).loc Cert.FfnMixIdeal.main_arg1)
      ∧ m' ((c.tc : Thread Cert.RefFfnMixIdeal.nD Cert.RefFfnMixIdeal.τ).loc Cert.RefFfnMixIdeal.main_arg2) = m ((c.tc : Thread Cert.FfnMixIdeal.nD Cert.FfnMixIdeal.τ).loc Cert.FfnMixIdeal.main_arg2)
      ∧ m' ((c.tc : Thread Cert.RefFfnMixIdeal.nD Cert.RefFfnMixIdeal.τ).loc Cert.RefFfnMixIdeal.main_arg3) = m ((c.tc : Thread Cert.FfnMixIdeal.nD Cert.FfnMixIdeal.τ).loc Cert.FfnMixIdeal.main_arg3)
      ∧ m' ((c.tc : Thread Cert.RefFfnMixIdeal.nD Cert.RefFfnMixIdeal.τ).loc Cert.RefFfnMixIdeal.main_arg4) = m ((c.tc : Thread Cert.FfnMixIdeal.nD Cert.FfnMixIdeal.τ).loc Cert.FfnMixIdeal.main_arg4)
      ∧ m' ((c.tc : Thread Cert.RefFfnMixIdeal.nD Cert.RefFfnMixIdeal.τ).loc Cert.RefFfnMixIdeal.main_arg5) = m ((c.tc : Thread Cert.FfnMixIdeal.nD Cert.FfnMixIdeal.τ).loc Cert.FfnMixIdeal.main_arg5)
      ∧ m' ((c.tc : Thread Cert.RefFfnMixIdeal.nD Cert.RefFfnMixIdeal.τ).loc Cert.RefFfnMixIdeal.main_arg6) = m ((c.tc : Thread Cert.FfnMixIdeal.nD Cert.FfnMixIdeal.τ).loc Cert.FfnMixIdeal.main_arg6)
      ∧ m' ((c.tc : Thread Cert.RefFfnMixIdeal.nD Cert.RefFfnMixIdeal.τ).loc Cert.RefFfnMixIdeal.main_arg7) = m ((c.tc : Thread Cert.FfnMixIdeal.nD Cert.FfnMixIdeal.τ).loc Cert.FfnMixIdeal.main_arg7)
      ∧ m' ((c.tc : Thread Cert.RefFfnMixIdeal.nD Cert.RefFfnMixIdeal.τ).loc Cert.RefFfnMixIdeal.main_arg8) = m ((c.tc : Thread Cert.FfnMixIdeal.nD Cert.FfnMixIdeal.τ).loc Cert.FfnMixIdeal.main_arg8)) →
    ∃ (v0 : (c : Dev Cert.FfnMixIdeal.nD) → Buf (Elt Ideal) ((c.tc : Thread Cert.FfnMixIdeal.nD Cert.FfnMixIdeal.τ).loc Cert.FfnMixIdeal.main_v10)),
      θ_run (Cert.FfnMixIdeal.defs (F := Ideal)) (onTc (τ := Cert.FfnMixIdeal.τ) (Cert.FfnMixIdeal.main (F := Ideal))) ⟨m, fun _ => 0, g⟩ (fun r => ∀ c : Dev Cert.FfnMixIdeal.nD,
          r.2.mem ((c.tc : Thread Cert.FfnMixIdeal.nD Cert.FfnMixIdeal.τ).loc Cert.FfnMixIdeal.main_v10) = v0 c
          ∧ r.2.mem ((c.tc : Thread Cert.FfnMixIdeal.nD Cert.FfnMixIdeal.τ).loc Cert.FfnMixIdeal.main_arg0) = m ((c.tc : Thread Cert.FfnMixIdeal.nD Cert.FfnMixIdeal.τ).loc Cert.FfnMixIdeal.main_arg0)
          ∧ r.2.mem ((c.tc : Thread Cert.FfnMixIdeal.nD Cert.FfnMixIdeal.τ).loc Cert.FfnMixIdeal.main_arg1) = m ((c.tc : Thread Cert.FfnMixIdeal.nD Cert.FfnMixIdeal.τ).loc Cert.FfnMixIdeal.main_arg1)
          ∧ r.2.mem ((c.tc : Thread Cert.FfnMixIdeal.nD Cert.FfnMixIdeal.τ).loc Cert.FfnMixIdeal.main_arg2) = m ((c.tc : Thread Cert.FfnMixIdeal.nD Cert.FfnMixIdeal.τ).loc Cert.FfnMixIdeal.main_arg2)
          ∧ r.2.mem ((c.tc : Thread Cert.FfnMixIdeal.nD Cert.FfnMixIdeal.τ).loc Cert.FfnMixIdeal.main_arg3) = m ((c.tc : Thread Cert.FfnMixIdeal.nD Cert.FfnMixIdeal.τ).loc Cert.FfnMixIdeal.main_arg3)
          ∧ r.2.mem ((c.tc : Thread Cert.FfnMixIdeal.nD Cert.FfnMixIdeal.τ).loc Cert.FfnMixIdeal.main_arg4) = m ((c.tc : Thread Cert.FfnMixIdeal.nD Cert.FfnMixIdeal.τ).loc Cert.FfnMixIdeal.main_arg4)
          ∧ r.2.mem ((c.tc : Thread Cert.FfnMixIdeal.nD Cert.FfnMixIdeal.τ).loc Cert.FfnMixIdeal.main_arg5) = m ((c.tc : Thread Cert.FfnMixIdeal.nD Cert.FfnMixIdeal.τ).loc Cert.FfnMixIdeal.main_arg5)
          ∧ r.2.mem ((c.tc : Thread Cert.FfnMixIdeal.nD Cert.FfnMixIdeal.τ).loc Cert.FfnMixIdeal.main_arg6) = m ((c.tc : Thread Cert.FfnMixIdeal.nD Cert.FfnMixIdeal.τ).loc Cert.FfnMixIdeal.main_arg6)
          ∧ r.2.mem ((c.tc : Thread Cert.FfnMixIdeal.nD Cert.FfnMixIdeal.τ).loc Cert.FfnMixIdeal.main_arg7) = m ((c.tc : Thread Cert.FfnMixIdeal.nD Cert.FfnMixIdeal.τ).loc Cert.FfnMixIdeal.main_arg7)
          ∧ r.2.mem ((c.tc : Thread Cert.FfnMixIdeal.nD Cert.FfnMixIdeal.τ).loc Cert.FfnMixIdeal.main_arg8) = m ((c.tc : Thread Cert.FfnMixIdeal.nD Cert.FfnMixIdeal.τ).loc Cert.FfnMixIdeal.main_arg8))
      ∧ θ_run (Cert.RefFfnMixIdeal.defs (F := Ideal)) (onTc (τ := Cert.RefFfnMixIdeal.τ) (Cert.RefFfnMixIdeal.main (F := Ideal))) ⟨m', fun _ => 0, g'⟩ (fun r => ∀ c : Dev Cert.RefFfnMixIdeal.nD,
          r.2.mem ((c.tc : Thread Cert.RefFfnMixIdeal.nD Cert.RefFfnMixIdeal.τ).loc Cert.RefFfnMixIdeal.main_v39) = v0 c
          ∧ r.2.mem ((c.tc : Thread Cert.RefFfnMixIdeal.nD Cert.RefFfnMixIdeal.τ).loc Cert.RefFfnMixIdeal.main_arg0) = m' ((c.tc : Thread Cert.RefFfnMixIdeal.nD Cert.RefFfnMixIdeal.τ).loc Cert.RefFfnMixIdeal.main_arg0)
          ∧ r.2.mem ((c.tc : Thread Cert.RefFfnMixIdeal.nD Cert.RefFfnMixIdeal.τ).loc Cert.RefFfnMixIdeal.main_arg1) = m' ((c.tc : Thread Cert.RefFfnMixIdeal.nD Cert.RefFfnMixIdeal.τ).loc Cert.RefFfnMixIdeal.main_arg1)
          ∧ r.2.mem ((c.tc : Thread Cert.RefFfnMixIdeal.nD Cert.RefFfnMixIdeal.τ).loc Cert.RefFfnMixIdeal.main_arg2) = m' ((c.tc : Thread Cert.RefFfnMixIdeal.nD Cert.RefFfnMixIdeal.τ).loc Cert.RefFfnMixIdeal.main_arg2)
          ∧ r.2.mem ((c.tc : Thread Cert.RefFfnMixIdeal.nD Cert.RefFfnMixIdeal.τ).loc Cert.RefFfnMixIdeal.main_arg3) = m' ((c.tc : Thread Cert.RefFfnMixIdeal.nD Cert.RefFfnMixIdeal.τ).loc Cert.RefFfnMixIdeal.main_arg3)
          ∧ r.2.mem ((c.tc : Thread Cert.RefFfnMixIdeal.nD Cert.RefFfnMixIdeal.τ).loc Cert.RefFfnMixIdeal.main_arg4) = m' ((c.tc : Thread Cert.RefFfnMixIdeal.nD Cert.RefFfnMixIdeal.τ).loc Cert.RefFfnMixIdeal.main_arg4)
          ∧ r.2.mem ((c.tc : Thread Cert.RefFfnMixIdeal.nD Cert.RefFfnMixIdeal.τ).loc Cert.RefFfnMixIdeal.main_arg5) = m' ((c.tc : Thread Cert.RefFfnMixIdeal.nD Cert.RefFfnMixIdeal.τ).loc Cert.RefFfnMixIdeal.main_arg5)
          ∧ r.2.mem ((c.tc : Thread Cert.RefFfnMixIdeal.nD Cert.RefFfnMixIdeal.τ).loc Cert.RefFfnMixIdeal.main_arg6) = m' ((c.tc : Thread Cert.RefFfnMixIdeal.nD Cert.RefFfnMixIdeal.τ).loc Cert.RefFfnMixIdeal.main_arg6)
          ∧ r.2.mem ((c.tc : Thread Cert.RefFfnMixIdeal.nD Cert.RefFfnMixIdeal.τ).loc Cert.RefFfnMixIdeal.main_arg7) = m' ((c.tc : Thread Cert.RefFfnMixIdeal.nD Cert.RefFfnMixIdeal.τ).loc Cert.RefFfnMixIdeal.main_arg7)
          ∧ r.2.mem ((c.tc : Thread Cert.RefFfnMixIdeal.nD Cert.RefFfnMixIdeal.τ).loc Cert.RefFfnMixIdeal.main_arg8) = m' ((c.tc : Thread Cert.RefFfnMixIdeal.nD Cert.RefFfnMixIdeal.τ).loc Cert.RefFfnMixIdeal.main_arg8))

def preserves_FfnMid_FfnMidIdeal : Prop :=
  True

def algebraic_FfnMidIdeal_RefFfnMidIdeal [hFfnMidIdeal : Cert.FfnMidIdeal.Facts] [hRefFfnMidIdeal : Cert.RefFfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.RefFfnMidIdeal.nD Cert.RefFfnMidIdeal.τ Cert.RefFfnMidIdeal.sig) → Buf (Elt Ideal) ℓ) (g' : Dev Cert.RefFfnMidIdeal.nD → PrngReg), Pre_FfnMidIdeal m →
    (∀ c : Dev Cert.FfnMidIdeal.nD,
      m' ((c.tc : Thread Cert.RefFfnMidIdeal.nD Cert.RefFfnMidIdeal.τ).loc Cert.RefFfnMidIdeal.main_arg0) = m ((c.tc : Thread Cert.FfnMidIdeal.nD Cert.FfnMidIdeal.τ).loc Cert.FfnMidIdeal.main_arg0)
      ∧ m' ((c.tc : Thread Cert.RefFfnMidIdeal.nD Cert.RefFfnMidIdeal.τ).loc Cert.RefFfnMidIdeal.main_arg1) = m ((c.tc : Thread Cert.FfnMidIdeal.nD Cert.FfnMidIdeal.τ).loc Cert.FfnMidIdeal.main_arg1)
      ∧ m' ((c.tc : Thread Cert.RefFfnMidIdeal.nD Cert.RefFfnMidIdeal.τ).loc Cert.RefFfnMidIdeal.main_arg2) = m ((c.tc : Thread Cert.FfnMidIdeal.nD Cert.FfnMidIdeal.τ).loc Cert.FfnMidIdeal.main_arg2)
      ∧ m' ((c.tc : Thread Cert.RefFfnMidIdeal.nD Cert.RefFfnMidIdeal.τ).loc Cert.RefFfnMidIdeal.main_arg3) = m ((c.tc : Thread Cert.FfnMidIdeal.nD Cert.FfnMidIdeal.τ).loc Cert.FfnMidIdeal.main_arg3)
      ∧ m' ((c.tc : Thread Cert.RefFfnMidIdeal.nD Cert.RefFfnMidIdeal.τ).loc Cert.RefFfnMidIdeal.main_arg4) = m ((c.tc : Thread Cert.FfnMidIdeal.nD Cert.FfnMidIdeal.τ).loc Cert.FfnMidIdeal.main_arg4)
      ∧ m' ((c.tc : Thread Cert.RefFfnMidIdeal.nD Cert.RefFfnMidIdeal.τ).loc Cert.RefFfnMidIdeal.main_arg5) = m ((c.tc : Thread Cert.FfnMidIdeal.nD Cert.FfnMidIdeal.τ).loc Cert.FfnMidIdeal.main_arg5)
      ∧ m' ((c.tc : Thread Cert.RefFfnMidIdeal.nD Cert.RefFfnMidIdeal.τ).loc Cert.RefFfnMidIdeal.main_arg6) = m ((c.tc : Thread Cert.FfnMidIdeal.nD Cert.FfnMidIdeal.τ).loc Cert.FfnMidIdeal.main_arg6)
      ∧ m' ((c.tc : Thread Cert.RefFfnMidIdeal.nD Cert.RefFfnMidIdeal.τ).loc Cert.RefFfnMidIdeal.main_arg7) = m ((c.tc : Thread Cert.FfnMidIdeal.nD Cert.FfnMidIdeal.τ).loc Cert.FfnMidIdeal.main_arg7)) →
    ∃ (v0 : (c : Dev Cert.FfnMidIdeal.nD) → Buf (Elt Ideal) ((c.tc : Thread Cert.FfnMidIdeal.nD Cert.FfnMidIdeal.τ).loc Cert.FfnMidIdeal.main_v9)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v9) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5)
          ∧ r.2.mem ((c.tc : Thread Cert.FfnMidIdeal.nD Cert.FfnMidIdeal.τ).loc Cert.FfnMidIdeal.main_arg6) = m ((c.tc : Thread Cert.FfnMidIdeal.nD Cert.FfnMidIdeal.τ).loc Cert.FfnMidIdeal.main_arg6)
          ∧ r.2.mem ((c.tc : Thread Cert.FfnMidIdeal.nD Cert.FfnMidIdeal.τ).loc Cert.FfnMidIdeal.main_arg7) = m ((c.tc : Thread Cert.FfnMidIdeal.nD Cert.FfnMidIdeal.τ).loc Cert.FfnMidIdeal.main_arg7))
      ∧ θ_run (Cert.RefFfnMidIdeal.defs (F := Ideal)) (onTc (τ := Cert.RefFfnMidIdeal.τ) (Cert.RefFfnMidIdeal.main (F := Ideal))) ⟨m', fun _ => 0, g'⟩ (fun r => ∀ c : Dev Cert.RefFfnMidIdeal.nD,
          r.2.mem ((c.tc : Thread Cert.RefFfnMidIdeal.nD Cert.RefFfnMidIdeal.τ).loc Cert.RefFfnMidIdeal.main_v26) = v0 c
          ∧ r.2.mem ((c.tc : Thread Cert.RefFfnMidIdeal.nD Cert.RefFfnMidIdeal.τ).loc Cert.RefFfnMidIdeal.main_arg0) = m' ((c.tc : Thread Cert.RefFfnMidIdeal.nD Cert.RefFfnMidIdeal.τ).loc Cert.RefFfnMidIdeal.main_arg0)
          ∧ r.2.mem ((c.tc : Thread Cert.RefFfnMidIdeal.nD Cert.RefFfnMidIdeal.τ).loc Cert.RefFfnMidIdeal.main_arg1) = m' ((c.tc : Thread Cert.RefFfnMidIdeal.nD Cert.RefFfnMidIdeal.τ).loc Cert.RefFfnMidIdeal.main_arg1)
          ∧ r.2.mem ((c.tc : Thread Cert.RefFfnMidIdeal.nD Cert.RefFfnMidIdeal.τ).loc Cert.RefFfnMidIdeal.main_arg2) = m' ((c.tc : Thread Cert.RefFfnMidIdeal.nD Cert.RefFfnMidIdeal.τ).loc Cert.RefFfnMidIdeal.main_arg2)
          ∧ r.2.mem ((c.tc : Thread Cert.RefFfnMidIdeal.nD Cert.RefFfnMidIdeal.τ).loc Cert.RefFfnMidIdeal.main_arg3) = m' ((c.tc : Thread Cert.RefFfnMidIdeal.nD Cert.RefFfnMidIdeal.τ).loc Cert.RefFfnMidIdeal.main_arg3)
          ∧ r.2.mem ((c.tc : Thread Cert.RefFfnMidIdeal.nD Cert.RefFfnMidIdeal.τ).loc Cert.RefFfnMidIdeal.main_arg4) = m' ((c.tc : Thread Cert.RefFfnMidIdeal.nD Cert.RefFfnMidIdeal.τ).loc Cert.RefFfnMidIdeal.main_arg4)
          ∧ r.2.mem ((c.tc : Thread Cert.RefFfnMidIdeal.nD Cert.RefFfnMidIdeal.τ).loc Cert.RefFfnMidIdeal.main_arg5) = m' ((c.tc : Thread Cert.RefFfnMidIdeal.nD Cert.RefFfnMidIdeal.τ).loc Cert.RefFfnMidIdeal.main_arg5)
          ∧ r.2.mem ((c.tc : Thread Cert.RefFfnMidIdeal.nD Cert.RefFfnMidIdeal.τ).loc Cert.RefFfnMidIdeal.main_arg6) = m' ((c.tc : Thread Cert.RefFfnMidIdeal.nD Cert.RefFfnMidIdeal.τ).loc Cert.RefFfnMidIdeal.main_arg6)
          ∧ r.2.mem ((c.tc : Thread Cert.RefFfnMidIdeal.nD Cert.RefFfnMidIdeal.τ).loc Cert.RefFfnMidIdeal.main_arg7) = m' ((c.tc : Thread Cert.RefFfnMidIdeal.nD Cert.RefFfnMidIdeal.τ).loc Cert.RefFfnMidIdeal.main_arg7))

def preserves_Inproj_InprojIdeal : Prop :=
  True

def algebraic_InprojIdeal_RefInprojIdeal [hInprojIdeal : Cert.InprojIdeal.Facts] [hRefInprojIdeal : Cert.RefInprojIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.RefInprojIdeal.nD Cert.RefInprojIdeal.τ Cert.RefInprojIdeal.sig) → Buf (Elt Ideal) ℓ) (g' : Dev Cert.RefInprojIdeal.nD → PrngReg), Pre_InprojIdeal m →
    (∀ c : Dev Cert.InprojIdeal.nD,
      m' ((c.tc : Thread Cert.RefInprojIdeal.nD Cert.RefInprojIdeal.τ).loc Cert.RefInprojIdeal.main_arg0) = m ((c.tc : Thread Cert.InprojIdeal.nD Cert.InprojIdeal.τ).loc Cert.InprojIdeal.main_arg0)
      ∧ m' ((c.tc : Thread Cert.RefInprojIdeal.nD Cert.RefInprojIdeal.τ).loc Cert.RefInprojIdeal.main_arg1) = m ((c.tc : Thread Cert.InprojIdeal.nD Cert.InprojIdeal.τ).loc Cert.InprojIdeal.main_arg1)
      ∧ m' ((c.tc : Thread Cert.RefInprojIdeal.nD Cert.RefInprojIdeal.τ).loc Cert.RefInprojIdeal.main_arg2) = m ((c.tc : Thread Cert.InprojIdeal.nD Cert.InprojIdeal.τ).loc Cert.InprojIdeal.main_arg2)
      ∧ m' ((c.tc : Thread Cert.RefInprojIdeal.nD Cert.RefInprojIdeal.τ).loc Cert.RefInprojIdeal.main_arg3) = m ((c.tc : Thread Cert.InprojIdeal.nD Cert.InprojIdeal.τ).loc Cert.InprojIdeal.main_arg3)
      ∧ m' ((c.tc : Thread Cert.RefInprojIdeal.nD Cert.RefInprojIdeal.τ).loc Cert.RefInprojIdeal.main_arg4) = m ((c.tc : Thread Cert.InprojIdeal.nD Cert.InprojIdeal.τ).loc Cert.InprojIdeal.main_arg4)
      ∧ m' ((c.tc : Thread Cert.RefInprojIdeal.nD Cert.RefInprojIdeal.τ).loc Cert.RefInprojIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v42_0)) (v1 : (c : Dev Cert.InprojIdeal.nD) → Buf (Elt Ideal) ((c.tc : Thread Cert.InprojIdeal.nD Cert.InprojIdeal.τ).loc Cert.InprojIdeal.main_v42_1)) (v2 : (c : Dev Cert.InprojIdeal.nD) → Buf (Elt Ideal) ((c.tc : Thread Cert.InprojIdeal.nD Cert.InprojIdeal.τ).loc Cert.InprojIdeal.main_v42_2)) (v3 : (c : Dev Cert.InprojIdeal.nD) → Buf (Elt Ideal) ((c.tc : Thread Cert.InprojIdeal.nD Cert.InprojIdeal.τ).loc Cert.InprojIdeal.main_v42_3)) (v4 : (c : Dev Cert.InprojIdeal.nD) → Buf (Elt Ideal) ((c.tc : Thread Cert.InprojIdeal.nD Cert.InprojIdeal.τ).loc Cert.InprojIdeal.main_v42_4)) (v5 : (c : Dev Cert.InprojIdeal.nD) → Buf (Elt Ideal) ((c.tc : Thread Cert.InprojIdeal.nD Cert.InprojIdeal.τ).loc Cert.InprojIdeal.main_v42_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v42_0) = v0 c
          ∧ r.2.mem ((c.tc : Thread Cert.InprojIdeal.nD Cert.InprojIdeal.τ).loc Cert.InprojIdeal.main_v42_1) = v1 c
          ∧ r.2.mem ((c.tc : Thread Cert.InprojIdeal.nD Cert.InprojIdeal.τ).loc Cert.InprojIdeal.main_v42_2) = v2 c
          ∧ r.2.mem ((c.tc : Thread Cert.InprojIdeal.nD Cert.InprojIdeal.τ).loc Cert.InprojIdeal.main_v42_3) = v3 c
          ∧ r.2.mem ((c.tc : Thread Cert.InprojIdeal.nD Cert.InprojIdeal.τ).loc Cert.InprojIdeal.main_v42_4) = v4 c
          ∧ r.2.mem ((c.tc : Thread Cert.InprojIdeal.nD Cert.InprojIdeal.τ).loc Cert.InprojIdeal.main_v42_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.RefInprojIdeal.defs (F := Ideal)) (onTc (τ := Cert.RefInprojIdeal.τ) (Cert.RefInprojIdeal.main (F := Ideal))) ⟨m', fun _ => 0, g'⟩ (fun r => ∀ c : Dev Cert.RefInprojIdeal.nD,
          r.2.mem ((c.tc : Thread Cert.RefInprojIdeal.nD Cert.RefInprojIdeal.τ).loc Cert.RefInprojIdeal.main_v197) = v0 c
          ∧ r.2.mem ((c.tc : Thread Cert.RefInprojIdeal.nD Cert.RefInprojIdeal.τ).loc Cert.RefInprojIdeal.main_v212) = v1 c
          ∧ r.2.mem ((c.tc : Thread Cert.RefInprojIdeal.nD Cert.RefInprojIdeal.τ).loc Cert.RefInprojIdeal.main_v17) = v2 c
          ∧ r.2.mem ((c.tc : Thread Cert.RefInprojIdeal.nD Cert.RefInprojIdeal.τ).loc Cert.RefInprojIdeal.main_v18) = v3 c
          ∧ r.2.mem ((c.tc : Thread Cert.RefInprojIdeal.nD Cert.RefInprojIdeal.τ).loc Cert.RefInprojIdeal.main_v157) = v4 c
          ∧ r.2.mem ((c.tc : Thread Cert.RefInprojIdeal.nD Cert.RefInprojIdeal.τ).loc Cert.RefInprojIdeal.main_v215) = v5 c
          ∧ r.2.mem ((c.tc : Thread Cert.RefInprojIdeal.nD Cert.RefInprojIdeal.τ).loc Cert.RefInprojIdeal.main_arg0) = m' ((c.tc : Thread Cert.RefInprojIdeal.nD Cert.RefInprojIdeal.τ).loc Cert.RefInprojIdeal.main_arg0)
          ∧ r.2.mem ((c.tc : Thread Cert.RefInprojIdeal.nD Cert.RefInprojIdeal.τ).loc Cert.RefInprojIdeal.main_arg1) = m' ((c.tc : Thread Cert.RefInprojIdeal.nD Cert.RefInprojIdeal.τ).loc Cert.RefInprojIdeal.main_arg1)
          ∧ r.2.mem ((c.tc : Thread Cert.RefInprojIdeal.nD Cert.RefInprojIdeal.τ).loc Cert.RefInprojIdeal.main_arg2) = m' ((c.tc : Thread Cert.RefInprojIdeal.nD Cert.RefInprojIdeal.τ).loc Cert.RefInprojIdeal.main_arg2)
          ∧ r.2.mem ((c.tc : Thread Cert.RefInprojIdeal.nD Cert.RefInprojIdeal.τ).loc Cert.RefInprojIdeal.main_arg3) = m' ((c.tc : Thread Cert.RefInprojIdeal.nD Cert.RefInprojIdeal.τ).loc Cert.RefInprojIdeal.main_arg3)
          ∧ r.2.mem ((c.tc : Thread Cert.RefInprojIdeal.nD Cert.RefInprojIdeal.τ).loc Cert.RefInprojIdeal.main_arg4) = m' ((c.tc : Thread Cert.RefInprojIdeal.nD Cert.RefInprojIdeal.τ).loc Cert.RefInprojIdeal.main_arg4)
          ∧ r.2.mem ((c.tc : Thread Cert.RefInprojIdeal.nD Cert.RefInprojIdeal.τ).loc Cert.RefInprojIdeal.main_arg5) = m' ((c.tc : Thread Cert.RefInprojIdeal.nD Cert.RefInprojIdeal.τ).loc Cert.RefInprojIdeal.main_arg5))

def preserves_Gate_GateIdeal : Prop :=
  True

def algebraic_GateIdeal_RefGateIdeal [hGateIdeal : Cert.GateIdeal.Facts] [hRefGateIdeal : Cert.RefGateIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v50) = v0 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1))

def preserves_Pages_PagesIdeal : Prop :=
  True

def algebraic_PagesIdeal_RefPagesIdeal [hPagesIdeal : Cert.PagesIdeal.Facts] [hRefPagesIdeal : Cert.RefPagesIdeal.Facts] [hPre_pages_named : Cert.Pre_pages_named.Facts] : Prop :=
  ∀ (m : (ℓ : Loc Cert.PagesIdeal.nD Cert.PagesIdeal.τ Cert.PagesIdeal.sig) → Buf (Elt Ideal) ℓ) (g : Dev Cert.PagesIdeal.nD → PrngReg)
    (m' : (ℓ : Loc Cert.RefPagesIdeal.nD Cert.RefPagesIdeal.τ Cert.RefPagesIdeal.sig) → Buf (Elt Ideal) ℓ) (g' : Dev Cert.RefPagesIdeal.nD → PrngReg), Pre_PagesIdeal m →
    (∀ c : Dev Cert.PagesIdeal.nD,
      m' ((c.tc : Thread Cert.RefPagesIdeal.nD Cert.RefPagesIdeal.τ).loc Cert.RefPagesIdeal.main_arg0) = m ((c.tc : Thread Cert.PagesIdeal.nD Cert.PagesIdeal.τ).loc Cert.PagesIdeal.main_arg0)
      ∧ m' ((c.tc : Thread Cert.RefPagesIdeal.nD Cert.RefPagesIdeal.τ).loc Cert.RefPagesIdeal.main_arg1) = m ((c.tc : Thread Cert.PagesIdeal.nD Cert.PagesIdeal.τ).loc Cert.PagesIdeal.main_arg1)) →
    ∃ (v0 : (c : Dev Cert.PagesIdeal.nD) → Buf (Elt Ideal) ((c.tc : Thread Cert.PagesIdeal.nD Cert.PagesIdeal.τ).loc Cert.PagesIdeal.main_v0)),
      θ_run (Cert.PagesIdeal.defs (F := Ideal)) (onTc (τ := Cert.PagesIdeal.τ) (Cert.PagesIdeal.main (F := Ideal))) ⟨m, fun _ => 0, g⟩ (fun r => ∀ c : Dev Cert.PagesIdeal.nD,
          r.2.mem ((c.tc : Thread Cert.PagesIdeal.nD Cert.PagesIdeal.τ).loc Cert.PagesIdeal.main_v0) = v0 c
          ∧ r.2.mem ((c.tc : Thread Cert.PagesIdeal.nD Cert.PagesIdeal.τ).loc Cert.PagesIdeal.main_arg0) = m ((c.tc : Thread Cert.PagesIdeal.nD Cert.PagesIdeal.τ).loc Cert.PagesIdeal.main_arg0)
          ∧ r.2.mem ((c.tc : Thread Cert.PagesIdeal.nD Cert.PagesIdeal.τ).loc Cert.PagesIdeal.main_arg1) = m ((c.tc : Thread Cert.PagesIdeal.nD Cert.PagesIdeal.τ).loc Cert.PagesIdeal.main_arg1))
      ∧ θ_run (Cert.RefPagesIdeal.defs (F := Ideal)) (onTc (τ := Cert.RefPagesIdeal.τ) (Cert.RefPagesIdeal.main (F := Ideal))) ⟨m', fun _ => 0, g'⟩ (fun r => ∀ c : Dev Cert.RefPagesIdeal.nD,
          r.2.mem ((c.tc : Thread Cert.RefPagesIdeal.nD Cert.RefPagesIdeal.τ).loc Cert.RefPagesIdeal.main_v11) = v0 c
          ∧ r.2.mem ((c.tc : Thread Cert.RefPagesIdeal.nD Cert.RefPagesIdeal.τ).loc Cert.RefPagesIdeal.main_arg0) = m' ((c.tc : Thread Cert.RefPagesIdeal.nD Cert.RefPagesIdeal.τ).loc Cert.RefPagesIdeal.main_arg0)
          ∧ r.2.mem ((c.tc : Thread Cert.RefPagesIdeal.nD Cert.RefPagesIdeal.τ).loc Cert.RefPagesIdeal.main_arg1) = m' ((c.tc : Thread Cert.RefPagesIdeal.nD Cert.RefPagesIdeal.τ).loc Cert.RefPagesIdeal.main_arg1))

def Claim : Prop :=
  ∃ (hFfn : Cert.Ffn.Facts) (hFfnIdeal : Cert.FfnIdeal.Facts) (hRefFfnIdeal : Cert.RefFfnIdeal.Facts) (hFfnMix : Cert.FfnMix.Facts) (hFfnMixIdeal : Cert.FfnMixIdeal.Facts) (hRefFfnMixIdeal : Cert.RefFfnMixIdeal.Facts) (hFfnMid : Cert.FfnMid.Facts) (hFfnMidIdeal : Cert.FfnMidIdeal.Facts) (hRefFfnMidIdeal : Cert.RefFfnMidIdeal.Facts) (hInproj : Cert.Inproj.Facts) (hInprojIdeal : Cert.InprojIdeal.Facts) (hRefInprojIdeal : Cert.RefInprojIdeal.Facts) (hGate : Cert.Gate.Facts) (hGateIdeal : Cert.GateIdeal.Facts) (hRefGateIdeal : Cert.RefGateIdeal.Facts) (hPages : Cert.Pages.Facts) (hPagesIdeal : Cert.PagesIdeal.Facts) (hRefPagesIdeal : Cert.RefPagesIdeal.Facts) (hPre_pages_named : Cert.Pre_pages_named.Facts),
    quiescent_Ffn (hFfn := hFfn)
    ∧ quiescent_FfnIdeal (hFfnIdeal := hFfnIdeal)
    ∧ quiescent_RefFfnIdeal (hRefFfnIdeal := hRefFfnIdeal)
    ∧ quiescent_FfnMix (hFfnMix := hFfnMix)
    ∧ quiescent_FfnMixIdeal (hFfnMixIdeal := hFfnMixIdeal)
    ∧ quiescent_RefFfnMixIdeal (hRefFfnMixIdeal := hRefFfnMixIdeal)
    ∧ quiescent_FfnMid (hFfnMid := hFfnMid)
    ∧ quiescent_FfnMidIdeal (hFfnMidIdeal := hFfnMidIdeal)
    ∧ quiescent_RefFfnMidIdeal (hRefFfnMidIdeal := hRefFfnMidIdeal)
    ∧ quiescent_Inproj (hInproj := hInproj)
    ∧ quiescent_InprojIdeal (hInprojIdeal := hInprojIdeal)
    ∧ quiescent_RefInprojIdeal (hRefInprojIdeal := hRefInprojIdeal)
    ∧ quiescent_Gate (hGate := hGate)
    ∧ quiescent_GateIdeal (hGateIdeal := hGateIdeal)
    ∧ quiescent_RefGateIdeal (hRefGateIdeal := hRefGateIdeal)
    ∧ quiescent_Pages (hPages := hPages) (hPre_pages_named := hPre_pages_named)
    ∧ quiescent_PagesIdeal (hPagesIdeal := hPagesIdeal) (hPre_pages_named := hPre_pages_named)
    ∧ quiescent_RefPagesIdeal (hRefPagesIdeal := hRefPagesIdeal)
    ∧ quiescent_RefPagesIdeal_pre_pages_named (hRefPagesIdeal := hRefPagesIdeal) (hPre_pages_named := hPre_pages_named)
    ∧ preserves_Ffn_FfnIdeal
    ∧ algebraic_FfnIdeal_RefFfnIdeal (hFfnIdeal := hFfnIdeal) (hRefFfnIdeal := hRefFfnIdeal)
    ∧ preserves_FfnMix_FfnMixIdeal
    ∧ algebraic_FfnMixIdeal_RefFfnMixIdeal (hFfnMixIdeal := hFfnMixIdeal) (hRefFfnMixIdeal := hRefFfnMixIdeal)
    ∧ preserves_FfnMid_FfnMidIdeal
    ∧ algebraic_FfnMidIdeal_RefFfnMidIdeal (hFfnMidIdeal := hFfnMidIdeal) (hRefFfnMidIdeal := hRefFfnMidIdeal)
    ∧ preserves_Inproj_InprojIdeal
    ∧ algebraic_InprojIdeal_RefInprojIdeal (hInprojIdeal := hInprojIdeal) (hRefInprojIdeal := hRefInprojIdeal)
    ∧ preserves_Gate_GateIdeal
    ∧ algebraic_GateIdeal_RefGateIdeal (hGateIdeal := hGateIdeal) (hRefGateIdeal := hRefGateIdeal)
    ∧ preserves_Pages_PagesIdeal
    ∧ algebraic_PagesIdeal_RefPagesIdeal (hPagesIdeal := hPagesIdeal) (hRefPagesIdeal := hRefPagesIdeal) (hPre_pages_named := hPre_pages_named)
-- ==== Pre_pages_named.lean ====
abbrev S2x5120x128x512 : Shape := ⟨4, ![2, 5120, 128, 512]⟩
abbrev S32x128 : Shape := ⟨2, ![32, 128]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : FVec F S2x5120x128x512 .f32) (main_arg1 : IVec S32x128 32) : IVec S32x128 1 :=
  let main_c : IVec S_ 32 := constantI S_ 32 0#32
  let main_v0 : IVec S32x128 32 := broadcastInDim S32x128 ![] bcast_S_S32x128 main_c
  let main_v1 : IVec S32x128 1 := cmpi .sge main_arg1 main_v0
  let main_c_0 : IVec S_ 32 := constantI S_ 32 5120#32
  let main_v2 : IVec S32x128 32 := broadcastInDim S32x128 ![] bcast_S_S32x128 main_c_0
  let main_v3 : IVec S32x128 1 := cmpi .slt main_arg1 main_v2
  let main_v4 : IVec S32x128 1 := andi main_v1 main_v3
  main_v4
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 15
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x11x256, .bf16⟩
  | .hbm, ⟨7, _⟩ => ⟨S11x1024x256, .bf16⟩
  | .hbm, ⟨8, _⟩ => ⟨S1024x2816, .bf16⟩
  | .hbm, ⟨9, _⟩ => ⟨S1024x11x256, .bf16⟩
  | .hbm, ⟨10, _⟩ => ⟨S11x1024x256, .bf16⟩
  | .hbm, ⟨11, _⟩ => ⟨S2816x1024, .bf16⟩
  | .hbm, ⟨12, _⟩ => ⟨S11x256x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v24 : BitVec 32 := Scalar.addi c0_i32 c11_i32
  let c1_i32 : BitVec 32 := 1#32
  ⟨c0_i32, v24, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v33 : Index := Scalar.indexCast arg9
  let c0_22 : Index := 0#32
  let c0_23 : Index := 0#32
  ![v33.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v46 : Index := Scalar.indexCast arg9
  let c0_30 : Index := 0#32
  let c0_31 : Index := 0#32
  ![v46.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFfnIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== FfnMix.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 20
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x2816, .bf16⟩
  | .hbm, ⟨10, _⟩ => ⟨S1024x11x256, .bf16⟩
  | .hbm, ⟨11, _⟩ => ⟨S11x1024x256, .bf16⟩
  | .hbm, ⟨12, _⟩ => ⟨S1024x2816, .bf16⟩
  | .hbm, ⟨13, _⟩ => ⟨S1024x11x256, .bf16⟩
  | .hbm, ⟨14, _⟩ => ⟨S11x1024x256, .bf16⟩
  | .hbm, ⟨15, _⟩ => ⟨S2816x1024, .bf16⟩
  | .hbm, ⟨16, _⟩ => ⟨S11x256x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v32 : BitVec 32 := Scalar.addi c0_i32 c11_i32
  let c1_i32 : BitVec 32 := 1#32
  ⟨c0_i32, v32, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v55 : Index := Scalar.indexCast arg13
  let c0_36 : Index := 0#32
  let c0_37 : Index := 0#32
  ![v55.toNat, 0, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v68 : Index := Scalar.indexCast arg13
  let c0_44 : Index := 0#32
  let c0_45 : Index := 0#32
  ![v68.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFfnMixIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 64
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S1024x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S1x1024, .f32⟩
  | .hbm, ⟨62, _⟩ => ⟨S32768x1024, .f32⟩
  | .hbm, ⟨63, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== FfnMid.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x11x256, .bf16⟩
  | .hbm, ⟨10, _⟩ => ⟨S11x1024x256, .bf16⟩
  | .hbm, ⟨11, _⟩ => ⟨S1024x2816, .bf16⟩
  | .hbm, ⟨12, _⟩ => ⟨S1024x11x256, .bf16⟩
  | .hbm, ⟨13, _⟩ => ⟨S11x1024x256, .bf16⟩
  | .hbm, ⟨14, _⟩ => ⟨S2816x1024, .bf16⟩
  | .hbm, ⟨15, _⟩ => ⟨S11x256x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S11x1024x256, .bf16⟩
  | .local _ .vmem, ⟨9, _⟩ => ⟨S11x1024x256, .bf16⟩
  | .local _ .vmem, ⟨10, _⟩ => ⟨S11x256x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c11_i32 : BitVec 32 := 11#32
  let v32 : BitVec 32 := Scalar.addi c0_i32 c11_i32
  let c1_i32 : BitVec 32 := 1#32
  ⟨c0_i32, v32, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v41 : Index := Scalar.indexCast arg12
  let c0_31 : Index := 0#32
  let c0_32 : Index := 0#32
  ![v41.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v54 : Index := Scalar.indexCast arg12
  let c0_39 : Index := 0#32
  let c0_40 : Index := 0#32
  ![v54.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefFfnMidIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .bf16⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x2560 : Shape := ⟨2, ![1024, 2560]⟩
abbrev S4x64x64 : Shape := ⟨3, ![4, 64, 64]⟩
abbrev S256 : Shape := ⟨1, ![256]⟩
abbrev S3x256 : Shape := ⟨2, ![3, 256]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4x16x256 : Shape := ⟨3, ![4, 16, 256]⟩
abbrev S4x8x256 : Shape := ⟨3, ![4, 8, 256]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x1024 : Shape := ⟨2, ![1, 1024]⟩
abbrev S1x256 : Shape := ⟨2, ![1, 256]⟩
abbrev S32768x512 : Shape := ⟨2, ![32768, 512]⟩
abbrev S32768x256 : Shape := ⟨2, ![32768, 256]⟩
abbrev S512x1024 : Shape := ⟨2, ![512, 1024]⟩
abbrev S512x128 : Shape := ⟨2, ![512, 128]⟩
abbrev S1x16x256 : Shape := ⟨3, ![1, 16, 256]⟩
abbrev S1x8x256 : Shape := ⟨3, ![1, 8, 256]⟩
abbrev S512x512 : Shape := ⟨2, ![512, 512]⟩
abbrev S512x256 : Shape := ⟨2, ![512, 256]⟩
abbrev S528x256 : Shape := ⟨2, ![528, 256]⟩
abbrev S520x256 : Shape := ⟨2, ![520, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S16x256 : Shape := ⟨2, ![16, 256]⟩
abbrev S8x256 : Shape := ⟨2, ![8, 256]⟩

abbrev nBuf : Space → Nat
  | .hbm => 59
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2560, .f32⟩
  | .hbm, ⟨3, _⟩ => ⟨S4x64x64, .f32⟩
  | .hbm, ⟨4, _⟩ => ⟨S256, .f32⟩
  | .hbm, ⟨5, _⟩ => ⟨S3x256, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S_, .f32⟩
  | .hbm, ⟨33, _⟩ => ⟨S4x16x256, .f32⟩
  | .hbm, ⟨34, _⟩ => ⟨S_, .f32⟩
  | .hbm, ⟨35, _⟩ => ⟨S4x8x256, .f32⟩
  | .hbm, ⟨36, _⟩ => ⟨S1024x2560, .bf16⟩
  | .hbm, ⟨37, _⟩ => ⟨S4x4, .i32⟩
  | .hbm, ⟨38, _⟩ => ⟨S4x4, .i32⟩
  | .hbm, ⟨39, _⟩ => ⟨S_, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S4x4, .f32⟩
  | .hbm, ⟨44, _⟩ => ⟨S4x1x4x1, .f32⟩
  | .hbm, ⟨45, _⟩ => ⟨S4x64x1x64, .f32⟩
  | .hbm, ⟨46, _⟩ => ⟨S4x64x4x64, .f32⟩
  | .hbm, ⟨47, _⟩ => ⟨S4x64x4x64, .f32⟩
  | .hbm, ⟨48, _⟩ => ⟨S4x64x4x64, .f32⟩
  | .hbm, ⟨49, _⟩ => ⟨S256x256, .f32⟩
  | .hbm, ⟨50, _⟩ => ⟨S256x256, .bf16⟩
  | .hbm, ⟨51, _⟩ => ⟨S1x1024, .f32⟩
  | .hbm, ⟨52, _⟩ => ⟨S1x256, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x256, .f32⟩
  | .hbm, ⟨57, _⟩ => ⟨S32768x256, .f32⟩
  | .hbm, ⟨58, _⟩ => ⟨S32768x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S256x256, .bf16⟩
  | .local _ .vmem, ⟨9, _⟩ => ⟨S1x256, .f32⟩
  | .local _ .vmem, ⟨10, _⟩ => ⟨S3x256, .f32⟩
  | .local _ .vmem, ⟨11, _⟩ => ⟨S1x16x256, .f32⟩
  | .local _ .vmem, ⟨12, _⟩ => ⟨S1x16x256, .f32⟩
  | .local _ .vmem, ⟨13, _⟩ => ⟨S1x8x256, .f32⟩
  | .local _ .vmem, ⟨14, _⟩ => ⟨S1x8x256, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x512, .bf16⟩
  | .local _ .vmem, ⟨26, _⟩ => ⟨S512x512, .bf16⟩
  | .local _ .vmem, ⟨27, _⟩ => ⟨S528x256, .f32⟩
  | .local _ .vmem, ⟨28, _⟩ => ⟨S520x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_v42_4 : Ref sig .tc := ⟨.hbm, 57, rfl⟩
abbrev main_v42_5 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RefInprojIdeal.lean ====
abbrev S32768x1024 : Shape := ⟨2, ![32768, 1024]⟩
abbrev S1024 : Shape := ⟨1, ![1024]⟩
abbrev S1024x2560 : Shape := ⟨2, ![1024, 2560]⟩
abbrev S4x64x64 : Shape := ⟨3, ![4, 64, 64]⟩
abbrev S256 : Shape := ⟨1, ![256]⟩
abbrev S3x256 : Shape := ⟨2, ![3, 256]⟩
abbrev S8192 : Shape := ⟨1, ![8192]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2560 : Shape := ⟨2, ![32768, 2560]⟩
abbrev S32768x512 : Shape := ⟨2, ![32768, 512]⟩
abbrev S32768x256 : Shape := ⟨2, ![32768, 256]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S4x8192x256 : Shape := ⟨3, ![4, 8192, 256]⟩
abbrev S4x15x256 : Shape := ⟨3, ![4, 15, 256]⟩
abbrev S4x8207x256 : Shape := ⟨3, ![4, 8207, 256]⟩
abbrev S4x8207x64 : Shape := ⟨3, ![4, 8207, 64]⟩
abbrev S4x8192x64 : Shape := ⟨3, ![4, 8192, 64]⟩
abbrev S1x8192x1 : Shape := ⟨3, ![1, 8192, 1]⟩
abbrev S1x64x64 : Shape := ⟨3, ![1, 64, 64]⟩
abbrev S64x64 : Shape := ⟨2, ![64, 64]⟩
abbrev S1x1x256 : Shape := ⟨3, ![1, 1, 256]⟩
abbrev S4x2x256 : Shape := ⟨3, ![4, 2, 256]⟩
abbrev S4x8194x256 : Shape := ⟨3, ![4, 8194, 256]⟩
abbrev S1x256 : Shape := ⟨2, ![1, 256]⟩
abbrev S4x8192x8x64 : Shape := ⟨4, ![4, 8192, 8, 64]⟩
abbrev S4x8192x8x32 : Shape := ⟨4, ![4, 8192, 8, 32]⟩
abbrev S4x8192x512 : Shape := ⟨3, ![4, 8192, 512]⟩

abbrev nBuf : Space → Nat
  | .hbm => 237
  | .vmem => 0
  | .smem => 0
  | _ => 0

abbrev hbmTy0_0 (i : Nat) : BufTy := match i % 128 with
  | 0 => ⟨S32768x1024, .f32⟩
  | 1 => ⟨S1024, .f32⟩
  | 2 => ⟨S1024x2560, .f32⟩
  | 3 => ⟨S4x64x64, .f32⟩
  | 4 => ⟨S256, .f32⟩
  | 5 => ⟨S3x256, .f32⟩
  | 6 => ⟨S8192, .i32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S32768x2560, .f32⟩
  | 24 => ⟨S32768x512, .f32⟩
  | 25 => ⟨S32768x512, .f32⟩
  | 26 => ⟨S32768x512, .f32⟩
  | 27 => ⟨S32768x256, .f32⟩
  | 28 => ⟨S32768x256, .f32⟩
  | 29 => ⟨S32768x256, .f32⟩
  | 30 => ⟨S32768x256, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S8192, .f32⟩
  | 40 => ⟨S8192x1, .f32⟩
  | 41 => ⟨S1x32, .f32⟩
  | 42 => ⟨S8192x32, .f32⟩
  | 43 => ⟨S8192x32, .f32⟩
  | 44 => ⟨S8192x32, .f32⟩
  | 45 => ⟨S8192x32, .f32⟩
  | 46 => ⟨S1x8192x1x32, .f32⟩
  | 47 => ⟨S8192x32, .f32⟩
  | 48 => ⟨S1x8192x1x32, .f32⟩
  | 49 => ⟨S4x8192x256, .f32⟩
  | 50 => ⟨S_, .f32⟩
  | 51 => ⟨S4x15x256, .f32⟩
  | 52 => ⟨S4x8207x256, .f32⟩
  | 53 => ⟨S4x8207x64, .f32⟩
  | 54 => ⟨S4x8192x64, .f32⟩
  | 55 => ⟨S4x8192x64, .f32⟩
  | 56 => ⟨S4x8192x64, .f32⟩
  | 57 => ⟨S_, .i32⟩
  | 58 => ⟨S8192, .i32⟩
  | 59 => ⟨S8192, .i32⟩
  | 60 => ⟨S_, .i32⟩
  | 61 => ⟨S8192, .i32⟩
  | 62 => ⟨S8192, .i32⟩
  | 63 => ⟨S8192, .f32⟩
  | 64 => ⟨S1x8192x1, .f32⟩
  | 65 => ⟨S4x8192x64, .f32⟩
  | 66 => ⟨S4x8192x64, .f32⟩
  | 67 => ⟨S4x8192x64, .f32⟩
  | 68 => ⟨S4x8192x64, .f32⟩
  | 69 => ⟨S1x64x64, .f32⟩
  | 70 => ⟨S64x64, .f32⟩
  | 71 => ⟨S4x8192x64, .f32⟩
  | 72 => ⟨S4x8207x64, .f32⟩
  | 73 => ⟨S4x8192x64, .f32⟩
  | 74 => ⟨S4x8192x64, .f32⟩
  | 75 => ⟨S4x8192x64, .f32⟩
  | 76 => ⟨S4x8192x64, .f32⟩
  | 77 => ⟨S4x8192x64, .f32⟩
  | 78 => ⟨S4x8192x64, .f32⟩
  | 79 => ⟨S4x8192x64, .f32⟩
  | 80 => ⟨S_, .i32⟩
  | 81 => ⟨S8192, .i32⟩
  | 82 => ⟨S8192, .i32⟩
  | 83 => ⟨S_, .i32⟩
  | 84 => ⟨S8192, .i32⟩
  | 85 => ⟨S8192, .i32⟩
  | 86 => ⟨S8192, .f32⟩
  | 87 => ⟨S1x8192x1, .f32⟩
  | 88 => ⟨S4x8192x64, .f32⟩
  | 89 => ⟨S4x8192x64, .f32⟩
  | 90 => ⟨S4x8192x64, .f32⟩
  | 91 => ⟨S4x8192x64, .f32⟩
  | 92 => ⟨S1x64x64, .f32⟩
  | 93 => ⟨S64x64, .f32⟩
  | 94 => ⟨S4x8192x64, .f32⟩
  | 95 => ⟨S4x8207x64, .f32⟩
  | 96 => ⟨S4x8192x64, .f32⟩
  | 97 => ⟨S4x8192x64, .f32⟩
  | 98 => ⟨S4x8192x64, .f32⟩
  | 99 => ⟨S4x8192x64, .f32⟩
  | 100 => ⟨S4x8192x64, .f32⟩
  | 101 => ⟨S4x8192x64, .f32⟩
  | 102 => ⟨S4x8192x64, .f32⟩
  | 103 => ⟨S4x8192x64, .f32⟩
  | 104 => ⟨S4x8192x64, .f32⟩
  | 105 => ⟨S4x8192x64, .f32⟩
  | 106 => ⟨S4x8192x64, .f32⟩
  | 107 => ⟨S4x8192x64, .f32⟩
  | 108 => ⟨S4x8192x64, .f32⟩
  | 109 => ⟨S4x8192x64, .f32⟩
  | 110 => ⟨S4x8192x64, .f32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S8192, .f32⟩
  | 118 => ⟨S1x8192x1, .f32⟩
  | 119 => ⟨S4x8192x64, .f32⟩
  | 120 => ⟨S4x8192x64, .f32⟩
  | 121 => ⟨S4x8192x64, .f32⟩
  | 122 => ⟨S4x8192x64, .f32⟩
  | 123 => ⟨S1x64x64, .f32⟩
  | 124 => ⟨S64x64, .f32⟩
  | 125 => ⟨S4x8192x64, .f32⟩
  | 126 => ⟨S4x8207x64, .f32⟩
  | 127 => ⟨S4x8192x64, .f32⟩
  | _ => ⟨S32768x1024, .f32⟩

abbrev hbmTy0_1 (i : Nat) : BufTy := match i % 128 with
  | 0 => ⟨S4x8192x64, .f32⟩
  | 1 => ⟨S4x8192x64, .f32⟩
  | 2 => ⟨S4x8192x64, .f32⟩
  | 3 => ⟨S4x8192x64, .f32⟩
  | 4 => ⟨S4x8192x64, .f32⟩
  | 5 => ⟨S4x8192x64, .f32⟩
  | 6 => ⟨S4x8192x64, .f32⟩
  | 7 => ⟨S4x8192x64, .f32⟩
  | 8 => ⟨S4x8192x64, .f32⟩
  | 9 => ⟨S4x8192x64, .f32⟩
  | 10 => ⟨S4x8192x64, .f32⟩
  | 11 => ⟨S4x8192x64, .f32⟩
  | 12 => ⟨S4x8192x64, .f32⟩
  | 13 => ⟨S4x8192x64, .f32⟩
  | 14 => ⟨S4x8192x64, .f32⟩
  | 15 => ⟨S4x8192x64, .f32⟩
  | 16 => ⟨S4x8192x64, .f32⟩
  | 17 => ⟨S4x8192x64, .f32⟩
  | 18 => ⟨S4x8192x64, .f32⟩
  | 19 => ⟨S4x8192x64, .f32⟩
  | 20 => ⟨S4x8192x64, .f32⟩
  | 21 => ⟨S4x8192x64, .f32⟩
  | 22 => ⟨S4x8192x64, .f32⟩
  | 23 => ⟨S4x8192x64, .f32⟩
  | 24 => ⟨S4x8192x64, .f32⟩
  | 25 => ⟨S4x8192x64, .f32⟩
  | 26 => ⟨S4x8192x64, .f32⟩
  | 27 => ⟨S4x8192x64, .f32⟩
  | 28 => ⟨S4x8192x64, .f32⟩
  | 29 => ⟨S4x8192x64, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S1x8192x1, .f32⟩
  | 38 => ⟨S4x8192x64, .f32⟩
  | 39 => ⟨S4x8192x64, .f32⟩
  | 40 => ⟨S4x8192x64, .f32⟩
  | 41 => ⟨S4x8192x64, .f32⟩
  | 42 => ⟨S1x64x64, .f32⟩
  | 43 => ⟨S64x64, .f32⟩
  | 44 => ⟨S4x8192x64, .f32⟩
  | 45 => ⟨S4x8192x256, .f32⟩
  | 46 => ⟨S1x1x256, .f32⟩
  | 47 => ⟨S4x8192x256, .f32⟩
  | 48 => ⟨S4x8192x256, .f32⟩
  | 49 => ⟨S32768x256, .f32⟩
  | 50 => ⟨S_, .f32⟩
  | 51 => ⟨S4x2x256, .f32⟩
  | 52 => ⟨S4x8192x256, .f32⟩
  | 53 => ⟨S4x8194x256, .f32⟩
  | 54 => ⟨S4x8192x256, .f32⟩
  | 55 => ⟨S1x256, .f32⟩
  | 56 => ⟨S256, .f32⟩
  | 57 => ⟨S1x1x256, .f32⟩
  | 58 => ⟨S4x8192x256, .f32⟩
  | 59 => ⟨S4x8192x256, .f32⟩
  | 60 => ⟨S4x8192x256, .f32⟩
  | 61 => ⟨S1x256, .f32⟩
  | 62 => ⟨S256, .f32⟩
  | 63 => ⟨S1x1x256, .f32⟩
  | 64 => ⟨S4x8192x256, .f32⟩
  | 65 => ⟨S4x8192x256, .f32⟩
  | 66 => ⟨S4x8192x256, .f32⟩
  | 67 => ⟨S4x8192x256, .f32⟩
  | 68 => ⟨S1x256, .f32⟩
  | 69 => ⟨S256, .f32⟩
  | 70 => ⟨S1x1x256, .f32⟩
  | 71 => ⟨S4x8192x256, .f32⟩
  | 72 => ⟨S4x8192x256, .f32⟩
  | 73 => ⟨S4x8192x256, .f32⟩
  | 74 => ⟨S4x8192x256, .f32⟩
  | 75 => ⟨S4x8192x256, .f32⟩
  | 76 => ⟨S4x8192x8x64, .f32⟩
  | 77 => ⟨S4x8192x8x32, .f32⟩
  | 78 => ⟨S4x8192x8x32, .f32⟩
  | 79 => ⟨S4x8192x8x32, .f32⟩
  | 80 => ⟨S4x8192x8x32, .f32⟩
  | 81 => ⟨S4x8192x8x32, .f32⟩
  | 82 => ⟨S4x8192x8x32, .f32⟩
  | 83 => ⟨S4x8192x8x32, .f32⟩
  | 84 => ⟨S4x8192x8x32, .f32⟩
  | 85 => ⟨S4x8192x8x32, .f32⟩
  | 86 => ⟨S4x8192x8x32, .f32⟩
  | 87 => ⟨S4x8192x8x32, .f32⟩
  | 88 => ⟨S4x8192x8x32, .f32⟩
  | 89 => ⟨S4x8192x8x64, .f32⟩
  | 90 => ⟨S32768x512, .f32⟩
  | 91 => ⟨S4x8192x8x64, .f32⟩
  | 92 => ⟨S4x8192x8x32, .f32⟩
  | 93 => ⟨S4x8192x8x32, .f32⟩
  | 94 => ⟨S4x8192x8x32, .f32⟩
  | 95 => ⟨S4x8192x8x32, .f32⟩
  | 96 => ⟨S4x8192x8x32, .f32⟩
  | 97 => ⟨S4x8192x8x32, .f32⟩
  | 98 => ⟨S4x8192x8x32, .f32⟩
  | 99 => ⟨S4x8192x8x32, .f32⟩
  | 100 => ⟨S4x8192x8x32, .f32⟩
  | 101 => ⟨S4x8192x8x32, .f32⟩
  | 102 => ⟨S4x8192x8x32, .f32⟩
  | 103 => ⟨S4x8192x8x32, .f32⟩
  | 104 => ⟨S4x8192x8x64, .f32⟩
  | 105 => ⟨S32768x512, .f32⟩
  | 106 => ⟨S4x8192x512, .f32⟩
  | 107 => ⟨S32768x512, .f32⟩
  | 108 => ⟨S32768x512, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_6 : Ref sig .tc := ⟨.hbm, 80, rfl⟩
abbrev main_v66 : Ref sig .tc := ⟨.hbm, 81, rfl⟩
abbrev main_v67 : Ref sig .tc := ⟨.hbm, 82, rfl⟩
abbrev main_c_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c_8 : Ref sig .tc := ⟨.hbm, 111, rfl⟩
abbrev main_v95 : Ref sig .tc := ⟨.hbm, 112, rfl⟩
abbrev main_v96 : Ref sig .tc := ⟨.hbm, 113, rfl⟩
abbrev main_c_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_c_10 : Ref sig .tc := ⟨.hbm, 158, rfl⟩
abbrev main_v140 : Ref sig .tc := ⟨.hbm, 159, rfl⟩
abbrev main_v141 : Ref sig .tc := ⟨.hbm, 160, rfl⟩
abbrev main_c_11 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_cst_12 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩

abbrev nD : Nat := 1
abbrev τ : Topo := Topo.v7x

variable {F : FTy → Type} [FloatOps F]
-- ==== Gate.lean ====
abbrev S32x128x512 : Shape := ⟨3, ![32, 128, 512]⟩
abbrev S32x1x512 : Shape := ⟨3, ![32, 1, 512]⟩
abbrev S32x64x1024 : Shape := ⟨3, ![32, 64, 1024]⟩
abbrev S32x8x128 : Shape := ⟨3, ![32, 8, 128]⟩
abbrev S1x64x1024 : Shape := ⟨3, ![1, 64, 1024]⟩
abbrev S1x1x512 : Shape := ⟨3, ![1, 1, 512]⟩
abbrev S1x8x128 : Shape := ⟨3, ![1, 8, 128]⟩
abbrev S64x1024 : Shape := ⟨2, ![64, 1024]⟩
abbrev S64x512 : Shape := ⟨2, ![64, 512]⟩
abbrev S1x512 : Shape := ⟨2, ![1, 512]⟩
abbrev S512x128 : Shape := ⟨2, ![512, 128]⟩
abbrev S64x128 : Shape := ⟨2, ![64, 128]⟩
abbrev S128 : Shape := ⟨1, ![128]⟩
abbrev S1x128 : Shape := ⟨2, ![1, 128]⟩
abbrev S5x128 : Shape := ⟨2, ![5, 128]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S32x128x512, .f32⟩
  | .hbm, ⟨1, _⟩ => ⟨S32x1x512, .f32⟩
  | .hbm, ⟨2, _⟩ => ⟨S32x64x1024, .f32⟩
  | .hbm, ⟨3, _⟩ => ⟨S32x8x128, .i32⟩
  | .local _ .vmem, ⟨0, _⟩ => ⟨S1x64x1024, .f32⟩
  | .local _ .vmem, ⟨1, _⟩ => ⟨S1x64x1024, .f32⟩
  | .local _ .vmem, ⟨2, _⟩ => ⟨S1x1x512, .f32⟩
  | .local _ .vmem, ⟨3, _⟩ => ⟨S1x1x512, .f32⟩
  | .local _ .vmem, ⟨4, _⟩ => ⟨S1x8x128, .i32⟩
  | .local _ .vmem, ⟨5, _⟩ => ⟨S1x8x128, .i32⟩
  | _, _ => ⟨S32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefGateIdeal.lean ====
abbrev S32x128x512 : Shape := ⟨3, ![32, 128, 512]⟩
abbrev S32x1x512 : Shape := ⟨3, ![32, 1, 512]⟩
abbrev S32x64x2x8x64 : Shape := ⟨5, ![32, 64, 2, 8, 64]⟩
abbrev S_ : Shape := ⟨0, ![]⟩
abbrev S32x64x8x64 : Shape := ⟨4, ![32, 64, 8, 64]⟩
abbrev S32x8x64 : Shape := ⟨3, ![32, 8, 64]⟩
abbrev S32x120x64 : Shape := ⟨3, ![32, 120, 64]⟩
abbrev S32x128x64 : Shape := ⟨3, ![32, 128, 64]⟩
abbrev S64 : Shape := ⟨1, ![64]⟩
abbrev S32x128 : Shape := ⟨2, ![32, 128]⟩
abbrev S32x128x1 : Shape := ⟨3, ![32, 128, 1]⟩
abbrev S1x1x64 : Shape := ⟨3, ![1, 1, 64]⟩
abbrev S32x1x128 : Shape := ⟨3, ![32, 1, 128]⟩
abbrev S32x3x128 : Shape := ⟨3, ![32, 3, 128]⟩
abbrev S32x5x128 : Shape := ⟨3, ![32, 5, 128]⟩
abbrev S32x8x128 : Shape := ⟨3, ![32, 8, 128]⟩

abbrev nBuf : Space → Nat
  | .hbm => 84
  | .vmem => 0
  | .smem => 0
  | _ => 0

abbrev bufTy : (tb : Table) → Fin (tcTables nBuf tb) → BufTy
  | .hbm, ⟨0, _⟩ => ⟨S32x128x512, .f32⟩
  | .hbm, ⟨1, _⟩ => ⟨S32x1x512, .f32⟩
  | .hbm, ⟨2, _⟩ => ⟨S32x64x2x8x64, .f32⟩
  | .hbm, ⟨3, _⟩ => ⟨S_, .f32⟩
  | .hbm, ⟨4, _⟩ => ⟨S32x64x8x64, .f32⟩
  | .hbm, ⟨5, _⟩ => ⟨S_, .f32⟩
  | .hbm, ⟨6, _⟩ => ⟨S32x64x8x64, .f32⟩
  | .hbm, ⟨7, _⟩ => ⟨S32x64x8x64, .f32⟩
  | .hbm, ⟨8, _⟩ => ⟨S32x8x64, .f32⟩
  | .hbm, ⟨9, _⟩ => ⟨S32x8x64, .f32⟩
  | .hbm, ⟨10, _⟩ => ⟨S_, .f32⟩
  | .hbm, ⟨11, _⟩ => ⟨S32x120x64, .f32⟩
  | .hbm, ⟨12, _⟩ => ⟨S32x128x64, .f32⟩
  | .hbm, ⟨13, _⟩ => ⟨S64, .i32⟩
  | .hbm, ⟨14, _⟩ => ⟨S_, .f32⟩
  | .hbm, ⟨15, _⟩ => ⟨S32x128, .f32⟩
  | .hbm, ⟨16, _⟩ => ⟨S32x128x1, .f32⟩
  | .hbm, ⟨17, _⟩ => ⟨S32x128x64, .f32⟩
  | .hbm, ⟨18, _⟩ => ⟨S32x128x64, .i1⟩
  | .hbm, ⟨19, _⟩ => ⟨S_, .i32⟩
  | .hbm, ⟨20, _⟩ => ⟨S_, .i32⟩
  | .hbm, ⟨21, _⟩ => ⟨S32x128x64, .i32⟩
  | .hbm, ⟨22, _⟩ => ⟨S32x128x64, .i32⟩
  | .hbm, ⟨23, _⟩ => ⟨S32x128x64, .i32⟩
  | .hbm, ⟨24, _⟩ => ⟨S_, .i32⟩
  | .hbm, ⟨25, _⟩ => ⟨S32x128, .i32⟩
  | .hbm, ⟨26, _⟩ => ⟨S32x128x1, .i32⟩
  | .hbm, ⟨27, _⟩ => ⟨S1x1x64, .i32⟩
  | .hbm, ⟨28, _⟩ => ⟨S32x128x64, .i32⟩
  | .hbm, ⟨29, _⟩ => ⟨S32x128x64, .i32⟩
  | .hbm, ⟨30, _⟩ => ⟨S32x128x64, .i1⟩
  | .hbm, ⟨31, _⟩ => ⟨S_, .f32⟩
  | .hbm, ⟨32, _⟩ => ⟨S_, .f32⟩
  | .hbm, ⟨33, _⟩ => ⟨S32x128x64, .f32⟩
  | .hbm, ⟨34, _⟩ => ⟨S32x128x64, .f32⟩
  | .hbm, ⟨35, _⟩ => ⟨S_, .f32⟩
  | .hbm, ⟨36, _⟩ => ⟨S32x128, .f32⟩
  | .hbm, ⟨37, _⟩ => ⟨S32x128x1, .f32⟩
  | .hbm, ⟨38, _⟩ => ⟨S32x128x64, .f32⟩
  | .hbm, ⟨39, _⟩ => ⟨S32x128x64, .i1⟩
  | .hbm, ⟨40, _⟩ => ⟨S_, .i32⟩
  | .hbm, ⟨41, _⟩ => ⟨S_, .i32⟩
  | .hbm, ⟨42, _⟩ => ⟨S32x128x64, .i32⟩
  | .hbm, ⟨43, _⟩ => ⟨S32x128x64, .i32⟩
  | .hbm, ⟨44, _⟩ => ⟨S32x128x64, .i32⟩
  | .hbm, ⟨45, _⟩ => ⟨S_, .i32⟩
  | .hbm, ⟨46, _⟩ => ⟨S32x128, .i32⟩
  | .hbm, ⟨47, _⟩ => ⟨S32x128x1, .i32⟩
  | .hbm, ⟨48, _⟩ => ⟨S1x1x64, .i32⟩
  | .hbm, ⟨49, _⟩ => ⟨S32x128x64, .i32⟩
  | .hbm, ⟨50, _⟩ => ⟨S32x128x64, .i32⟩
  | .hbm, ⟨51, _⟩ => ⟨S32x128x64, .i1⟩
  | .hbm, ⟨52, _⟩ => ⟨S_, .f32⟩
  | .hbm, ⟨53, _⟩ => ⟨S_, .f32⟩
  | .hbm, ⟨54, _⟩ => ⟨S32x128x64, .f32⟩
  | .hbm, ⟨55, _⟩ => ⟨S32x128x64, .f32⟩
  | .hbm, ⟨56, _⟩ => ⟨S_, .f32⟩
  | .hbm, ⟨57, _⟩ => ⟨S32x128, .f32⟩
  | .hbm, ⟨58, _⟩ => ⟨S32x128x1, .f32⟩
  | .hbm, ⟨59, _⟩ => ⟨S32x128x64, .f32⟩
  | .hbm, ⟨60, _⟩ => ⟨S32x128x64, .i1⟩
  | .hbm, ⟨61, _⟩ => ⟨S_, .i32⟩
  | .hbm, ⟨62, _⟩ => ⟨S_, .i32⟩
  | .hbm, ⟨63, _⟩ => ⟨S32x128x64, .i32⟩
  | .hbm, ⟨64, _⟩ => ⟨S32x128x64, .i32⟩
  | .hbm, ⟨65, _⟩ => ⟨S32x128x64, .i32⟩
  | .hbm, ⟨66, _⟩ => ⟨S_, .i32⟩
  | .hbm, ⟨67, _⟩ => ⟨S32x128, .i32⟩
  | .hbm, ⟨68, _⟩ => ⟨S32x128x1, .i32⟩
  | .hbm, ⟨69, _⟩ => ⟨S1x1x64, .i32⟩
  | .hbm, ⟨70, _⟩ => ⟨S32x128x64, .i32⟩
  | .hbm, ⟨71, _⟩ => ⟨S32x128x64, .i32⟩
  | .hbm, ⟨72, _⟩ => ⟨S32x128x64, .i1⟩
  | .hbm, ⟨73, _⟩ => ⟨S_, .f32⟩
  | .hbm, ⟨74, _⟩ => ⟨S_, .f32⟩
  | .hbm, ⟨75, _⟩ => ⟨S32x128x64, .f32⟩
  | .hbm, ⟨76, _⟩ => ⟨S32x128x64, .f32⟩
  | .hbm, ⟨77, _⟩ => ⟨S32x1x128, .i32⟩
  | .hbm, ⟨78, _⟩ => ⟨S32x1x128, .i32⟩
  | .hbm, ⟨79, _⟩ => ⟨S32x1x128, .i32⟩
  | .hbm, ⟨80, _⟩ => ⟨S32x3x128, .i32⟩
  | .hbm, ⟨81, _⟩ => ⟨S_, .i32⟩
  | .hbm, ⟨82, _⟩ => ⟨S32x5x128, .i32⟩
  | .hbm, ⟨83, _⟩ => ⟨S32x8x128, .i32⟩
  | _, _ => ⟨S32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_call3_v0 : Ref sig .tc := ⟨.hbm, 53, rfl⟩
abbrev main_call3_v1 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v37 : Ref sig .tc := ⟨.hbm, 65, rfl⟩
abbrev main_c_11 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_call5_v0 : Ref sig .tc := ⟨.hbm, 74, rfl⟩
abbrev main_call5_v1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_13 : Ref sig .tc := ⟨.hbm, 81, rfl⟩
abbrev main_v49 : Ref sig .tc := ⟨.hbm, 82, rfl⟩
abbrev main_v50 : Ref sig .tc := ⟨.hbm, 83, rfl⟩

abbrev nD : Nat := 1
abbrev τ : Topo := Topo.v7x

variable {F : FTy → Type} [FloatOps F]
-- ==== Pages.lean ====
abbrev S2x5120x128x512 : Shape := ⟨4, ![2, 5120, 128, 512]⟩
abbrev S32x128 : Shape := ⟨2, ![32, 128]⟩
abbrev S32x128x512 : Shape := ⟨3, ![32, 128, 512]⟩
abbrev S1x1x128x512 : Shape := ⟨4, ![1, 1, 128, 512]⟩
abbrev S1x1 : Shape := ⟨2, ![1, 1]⟩
abbrev S1x8x512 : Shape := ⟨3, ![1, 8, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 2
  | .vmem => 18
  | .smem => 1
  | _ => 0

abbrev bufTy : (tb : Table) → Fin (tcTables nBuf tb) → BufTy
  | .hbm, ⟨0, _⟩ => ⟨S2x5120x128x512, .f32⟩
  | .hbm, ⟨1, _⟩ => ⟨S32x128x512, .f32⟩
  | .local _ .vmem, ⟨0, _⟩ => ⟨S1x1x128x512, .f32⟩
  | .local _ .vmem, ⟨1, _⟩ => ⟨S1x1x128x512, .f32⟩
  | .local _ .vmem, ⟨2, _⟩ => ⟨S1x1x128x512, .f32⟩
  | .local _ .vmem, ⟨3, _⟩ => ⟨S1x1x128x512, .f32⟩
  | .local _ .vmem, ⟨4, _⟩ => ⟨S1x1x128x512, .f32⟩
  | .local _ .vmem, ⟨5, _⟩ => ⟨S1x1x128x512, .f32⟩
  | .local _ .vmem, ⟨6, _⟩ => ⟨S1x1x128x512, .f32⟩
  | .local _ .vmem, ⟨7, _⟩ => ⟨S1x1x128x512, .f32⟩
  | .local _ .vmem, ⟨8, _⟩ => ⟨S1x1x128x512, .f32⟩
  | .local _ .vmem, ⟨9, _⟩ => ⟨S1x1x128x512, .f32⟩
  | .local _ .vmem, ⟨10, _⟩ => ⟨S1x1x128x512, .f32⟩
  | .local _ .vmem, ⟨11, _⟩ => ⟨S1x1x128x512, .f32⟩
  | .local _ .vmem, ⟨12, _⟩ => ⟨S1x1x128x512, .f32⟩
  | .local _ .vmem, ⟨13, _⟩ => ⟨S1x1x128x512, .f32⟩
  | .local _ .vmem, ⟨14, _⟩ => ⟨S1x1x128x512, .f32⟩
  | .local _ .vmem, ⟨15, _⟩ => ⟨S1x1x128x512, .f32⟩
  | .local _ .vmem, ⟨16, _⟩ => ⟨S1x8x512, .f32⟩
  | .local _ .vmem, ⟨17, _⟩ => ⟨S1x8x512, .f32⟩
  | .local _ .smem, ⟨0, _⟩ => ⟨S32x128, .i32⟩
  | _, _ => ⟨S2x5120x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def cc0_transform_0 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x128) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_1 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x128) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_2 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x128) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_3 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x128) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_4 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x128) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_5 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x128) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x128) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S32x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x128) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefPagesIdeal.lean ====
abbrev S2x5120x128x512 : Shape := ⟨4, ![2, 5120, 128, 512]⟩
abbrev S32x128 : Shape := ⟨2, ![32, 128]⟩
abbrev S_ : Shape := ⟨0, ![]⟩
abbrev S32x128x1 : Shape := ⟨3, ![32, 128, 1]⟩
abbrev S32x128x2 : Shape := ⟨3, ![32, 128, 2]⟩
abbrev S32x128x128x512 : Shape := ⟨4, ![32, 128, 128, 512]⟩
abbrev S32x128x512 : Shape := ⟨3, ![32, 128, 512]⟩

abbrev nBuf : Space → Nat
  | .hbm => 18
  | .vmem => 0
  | .smem => 0
  | _ => 0

abbrev bufTy : (tb : Table) → Fin (tcTables nBuf tb) → BufTy
  | .hbm, ⟨0, _⟩ => ⟨S2x5120x128x512, .f32⟩
  | .hbm, ⟨1, _⟩ => ⟨S32x128, .i32⟩
  | .hbm, ⟨2, _⟩ => ⟨S_, .i32⟩
  | .hbm, ⟨3, _⟩ => ⟨S32x128, .i32⟩
  | .hbm, ⟨4, _⟩ => ⟨S32x128, .i1⟩
  | .hbm, ⟨5, _⟩ => ⟨S_, .i32⟩
  | .hbm, ⟨6, _⟩ => ⟨S32x128, .i32⟩
  | .hbm, ⟨7, _⟩ => ⟨S32x128, .i32⟩
  | .hbm, ⟨8, _⟩ => ⟨S32x128, .i32⟩
  | .hbm, ⟨9, _⟩ => ⟨S_, .i32⟩
  | .hbm, ⟨10, _⟩ => ⟨S32x128, .i32⟩
  | .hbm, ⟨11, _⟩ => ⟨S32x128, .i32⟩
  | .hbm, ⟨12, _⟩ => ⟨S32x128x1, .i32⟩
  | .hbm, ⟨13, _⟩ => ⟨S32x128x1, .i32⟩
  | .hbm, ⟨14, _⟩ => ⟨S32x128x2, .i32⟩
  | .hbm, ⟨15, _⟩ => ⟨S32x128x128x512, .f32⟩
  | .hbm, ⟨16, _⟩ => ⟨S_, .f32⟩
  | .hbm, ⟨17, _⟩ => ⟨S32x128x512, .f32⟩
  | _, _ => ⟨S2x5120x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.MixBlock.lean ====
/-
  What one grid point of the residual-mix and feed-forward call leaves in its output block: the rows' mixed input, its
  RMS norm, the eleven feed-forward chunks added up in order, and the final RMS norm, as one term of the point's input
  blocks (`out_A`). Holds for any reading of the floats.
-/
module

public import proofs.«01_k».proof.Proof.Gen.FfnMixIdeal.Value

@[expose] public section

set_option maxRecDepth 16384

noncomputable section

namespace Cert.FfnMixIdeal.Block

open Cert.FfnMixIdeal Cert.FfnMixIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A whole-block store, read back. -/
theorem read_store {e : EltTy} (v : View sig .tc .vmem S512x1024 e) (f : v.ty.Contents (Elt F)) (w : S512x1024.Idx → Elt F e)
    (L : List (View.Piece (Elt F) S512x1024 e)) :
    v.read (Elt F) (v.writes (Elt F) f (⟨Rect.unit ![0, 0] S512x1024.size inb_S512x1024_S512x1024_0_0, w⟩ :: L)) = w := by
  rw [View.read_writes_eq_canon v f (⟨Rect.unit ![0, 0] S512x1024.size inb_S512x1024_S512x1024_0_0, w⟩ :: L)
    (fun y => ⟨_, List.mem_cons_self, View.mem_set_unit_zero hz inb_S512x1024_S512x1024_0_0 y⟩), View.canon_cons_unit_zero hz]

/-- Chunk `k` of a gate or up weight. -/
def upChunk (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weight. -/
def downChunk (w : Vec F S11x256x1024 .bf16) (k : Fin k0_t1_loop.trips) : Vec F S1x256x1024 .bf16 :=
  View.ld w (Rect.unit (s := S11x256x1024) (k0_off2 k) S1x256x1024.size (k0_off2_inb k))

/-- The accumulator after the first `k` chunks, from `z`. -/
def acc (h : Vec F S512x1024 .bf16) (wg wu : Vec F S11x1024x256 .bf16) (wd : Vec F S11x256x1024 .bf16)
    (z : Vec F S512x1024 .f32) : ℕ → Vec F S512x1024 .f32
  | 0 => z
  | k + 1 => if hk : k < k0_t1_loop.trips then
      k0_pay1 h (upChunk wg ⟨k, hk⟩) (upChunk wu ⟨k, hk⟩) (acc h wg wu wd z k) (downChunk wd ⟨k, hk⟩) else acc h wg wu wd z k

/-- What one chunk leaves in the accumulator, from what it finds there. -/
theorem trip_read (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (X_arg6 : BufTy.Contents (Elt F) arg6.view.ty) (X_arg7 : BufTy.Contents (Elt F) arg7.view.ty) (X_arg8 : BufTy.Contents (Elt F) arg8.view.ty) (X_arg11 : BufTy.Contents (Elt F) arg11.view.ty) (k : Fin k0_t1_loop.trips) (f G : BufTy.Contents (Elt F) arg12.view.ty) (L : List (View.Piece (Elt F) S512x1024 .f32)) :
    arg12.view.read (Elt F) (arg12.view.writes (Elt F) G (tripL_k0_t1 (F := F) 𝒱 c bd i arg1 harg1 arg2 harg2 arg3 harg3 arg4 harg4 arg5 harg5 arg6 harg6 arg7 harg7 arg8 harg8 arg9 harg9 arg10 harg10 arg11 harg11 arg12 harg12 X_arg6 X_arg7 X_arg8 X_arg11 k f ++ L))
      = k0_pay1 (arg11.view.read (Elt F) X_arg11) (upChunk (arg6.view.read (Elt F) X_arg6) k) (upChunk (arg7.view.read (Elt F) X_arg7) k)
          (arg12.view.read (Elt F) f) (downChunk (arg8.view.read (Elt F) X_arg8) k) := by
  unfold tripL_k0_t1 trip_k0_t1
  dsimp only
  sl_unfold_words
  rw [List.singleton_append, read_store]
  simp only [View.readAt_eq_ld]
  rw [View.ld_unit_zero (S := S512x1024) hz, View.ld_unit_zero (S := S512x1024) hz]
  rfl

/-- The accumulator after the first `k` chunks, read. -/
theorem pb_read (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole) (X_arg6 : BufTy.Contents (Elt F) arg6.view.ty) (X_arg7 : BufTy.Contents (Elt F) arg7.view.ty) (X_arg8 : BufTy.Contents (Elt F) arg8.view.ty) (X_arg11 : BufTy.Contents (Elt F) arg11.view.ty) (G : BufTy.Contents (Elt F) arg12.view.ty) (k : ℕ) (hk : k ≤ k0_t1_loop.trips) :
    arg12.view.read (Elt F) (arg12.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg6 X_arg7 X_arg8 X_arg11 G k))
      = acc (arg11.view.read (Elt F) X_arg11) (arg6.view.read (Elt F) X_arg6) (arg7.view.read (Elt F) X_arg7)
          (arg8.view.read (Elt F) X_arg8) (arg12.view.read (Elt F) G) k := by
  induction k with
  | zero => rfl
  | succ k ih =>
    rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 X_arg6 X_arg7 X_arg8 X_arg11 G ⟨k, hk⟩, trip_read, ih (by omega), acc, dif_pos (show k < k0_t1_loop.trips from hk)]

/-- The first and the last 512 rows of the mixing weight. -/
abbrev mixLo (w : Vec F S1024x1024 .bf16) : Vec F S512x1024 .bf16 :=
  View.ld w (Rect.unit (s := S1024x1024) ![0, 0] S512x1024.size inb_S1024x1024_S512x1024_0_0)
abbrev mixHi (w : Vec F S1024x1024 .bf16) : Vec F S512x1024 .bf16 :=
  View.ld w (Rect.unit (s := S1024x1024) ![512, 0] S512x1024.size inb_S1024x1024_S512x1024_512_0)

/-- What a point leaves in its output block. -/
theorem out_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1024 .f32) (harg12 : arg12.IsWhole)
    (x0 : Vec F S512x1024 .f32) (x1 : Vec F S512x512 .bf16) (x2 : Vec F S512x512 .bf16) (x3 : Vec F S1024x1024 .bf16) (x4 : Vec F S1x1024 .f32) (x5 : Vec F S11x1024x256 .bf16) (x6 : Vec F S11x1024x256 .bf16) (x7 : Vec F S11x256x1024 .bf16) (x8 : Vec F S1x1024 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = k0_pay2 (k0_pay3 x0 x1 (mixLo x3) x2 (mixHi x3))
          (acc (k0_pay4 x0 x1 (mixLo x3) x2 (mixHi x3) x4) x5 x6 x7 (k0_pay5 (F := F)) k0_t1_loop.trips) x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  rw [View.canon_cons_unit_zero hz]
  simp only [View.readAt_eq_ld, harg1.read_unread, harg2.read_unread, harg3.read_unread, harg4.read_unread, harg5.read_unread,
    harg6.read_unread, harg7.read_unread, harg8.read_unread, harg9.read_unread]
  rw [View.readCov_unit_zero (S := S512x1024) arg10.view hz]
  unfold View.readCov
  rw [View.readAt_eq_ld, View.writes_append]
  rw [show Scf.trips (0#32) (Scalar.addi 0#32 11#32) 1#32 = k0_t1_loop.trips from rfl,
    pb_read (F := F) Variants.none c none i arg1 harg1 arg2 harg2 arg3 harg3 arg4 harg4 arg5 harg5 arg6 harg6 arg7 harg7 arg8 harg8 arg9 harg9 arg10 harg10 arg11 harg11 arg12 harg12 _ _ _ _ _ _ le_rfl]
  rw [read_store, read_store]
  rw [harg6.read_unread, harg7.read_unread, harg8.read_unread]
  rw [View.ld_unit_zero (S := S512x1024) hz, View.ld_unit_zero (S := S512x1024) hz, View.ld_unit_zero (S := S512x512) hz,
    View.ld_unit_zero (S := S512x512) hz, View.ld_unit_zero (S := S1x1024) hz, View.ld_unit_zero (S := S1x1024) hz]

end Cert.FfnMixIdeal.Block

end
-- ==== Proof.MixAlg.lean ====
/-
  The feed-forward call's mathematics, one row at a time over the extended reals: the residual mix, the RMS norm and the
  feed-forward product as plain sums (`mixRow`, `rmsRow`, `ffnRow`, `outRow`), the kernel's block values read as them
  (`pay1_apply` … `acc_apply`), the eleven partial sums joined to one (`sum_chunks`), and the reference's result read as
  the same row (`ref_apply`).
-/
module

public import proofs.«01_k».proof.Proof.MixBlock
public import proofs.«01_k».proof.Proof.Gen.RefFfnMixIdeal.Run
public import Idealize.ShloMosaic.Lib.Pointwise
public import Idealize.ShloMosaic.Lib.Tactic.CleanTypes

@[expose] public section

set_option maxRecDepth 16384

noncomputable section

namespace Cert.FfnMixIdeal.Block

open Cert.FfnMixIdeal Cert.FfnMixIdeal.Gen Idealize.ShloMosaic Idealize.ShloMosaic.TcCoe Idealize.SL.Sem

/-- A row plus the two halves of the mixed heads times the two halves of the mixing weight. -/
def mixRow (x : Fin 1024 → EReal) (a p : Fin 512 → EReal) (wo : Fin 1024 → Fin 1024 → EReal) : Fin 1024 → EReal := fun j =>
  x j + (∑ k : Fin 512, a k * wo ⟨k.val, by omega⟩ j + ∑ k : Fin 512, p k * wo ⟨512 + k.val, by omega⟩ j)

/-- The RMS norm of a row, times its gain. -/
def rmsRow (z g : Fin 1024 → EReal) : Fin 1024 → EReal := fun j =>
  z j * Ideal.rsqrt (Ideal.div (∑ k : Fin 1024, z k * z k) (Ideal.ofBits .f32 0x44800000#32) + Ideal.ofBits .f32 0x358637BD#32) * g j

/-- One column of a row times a weight. -/
def proj (h : Fin 1024 → EReal) (w : Fin 1024 → Fin 2816 → EReal) (f : Fin 2816) : EReal := ∑ k : Fin 1024, h k * w k f

/-- One hidden feature, gated, times its down weight. -/
def hid (h : Fin 1024 → EReal) (wg wu : Fin 1024 → Fin 2816 → EReal) (wd : Fin 2816 → Fin 1024 → EReal) (j : Fin 1024)
    (f : Fin 2816) : EReal :=
  proj h wg f * Ideal.div 1 (1 + Ideal.exp (-(proj h wg f))) * proj h wu f * wd f j

/-- The feed-forward product of a row. -/
def ffnRow (h : Fin 1024 → EReal) (wg wu : Fin 1024 → Fin 2816 → EReal) (wd : Fin 2816 → Fin 1024 → EReal) : Fin 1024 → EReal :=
  fun j => ∑ f : Fin 2816, hid h wg wu wd j f

/-- The call's row of results. -/
def outRow (y ng : Fin 1024 → EReal) (wg wu : Fin 1024 → Fin 2816 → EReal) (wd : Fin 2816 → Fin 1024 → EReal)
    (nf : Fin 1024 → EReal) : Fin 1024 → EReal :=
  rmsRow (fun j => y j + Ideal.ofBits .f32 0x3F000000#32 * ffnRow (rmsRow y ng) wg wu wd j) nf

/-- Eleven partial sums of 256 terms are the sum of the 2816. -/
theorem sum_chunks (T : Fin 2816 → EReal) :
    ∑ c : Fin 11, ∑ f : Fin 256, T ⟨c.val * 256 + f.val, by omega⟩ = ∑ j : Fin 2816, T j := by
  rw [← Fintype.sum_prod_type']
  refine Fintype.sum_equiv (finProdFinEquiv (m := 11) (n := 256)) _ T fun x => congrArg T (Fin.ext ?_)
  show x.1.val * 256 + x.2.val = x.2.val + 256 * x.1.val
  omega

theorem trips_eq : k0_t1_loop.trips = 11 := by decide

theorem up_apply (w : Vec Ideal S11x1024x256 .bf16) (k : Fin k0_t1_loop.trips) (a : Fin 1024) (b : Fin 256) :
    upChunk w k (ix3 0 a b) = w (ix3 ⟨k.val, lt_of_lt_of_eq k.isLt trips_eq⟩ a b) := by
  have e0 : k0_off1 k 0 = k.val := by rw [k0_off1_eq]; rfl
  have e1 : k0_off1 k 1 = 0 := by rw [k0_off1_eq]; rfl
  have e2 : k0_off1 k 2 = 0 := by rw [k0_off1_eq]; rfl
  unfold upChunk
  pointwise
  simp only [e0, e1, e2, zero_add]
  rfl

theorem down_apply (w : Vec Ideal S11x256x1024 .bf16) (k : Fin k0_t1_loop.trips) (a : Fin 256) (b : Fin 1024) :
    downChunk w k (ix3 0 a b) = w (ix3 ⟨k.val, lt_of_lt_of_eq k.isLt trips_eq⟩ a b) := by
  have e0 : k0_off2 k 0 = k.val := by rw [k0_off2_eq]; rfl
  have e1 : k0_off2 k 1 = 0 := by rw [k0_off2_eq]; rfl
  have e2 : k0_off2 k 2 = 0 := by rw [k0_off2_eq]; rfl
  unfold downChunk
  pointwise
  simp only [e0, e1, e2, zero_add]
  rfl

theorem pay1_apply (v54 : Vec Ideal S512x1024 .bf16) (v56 : Vec Ideal S1x1024x256 .bf16) (v60 : Vec Ideal S1x1024x256 .bf16) (v67 : Vec Ideal S512x1024 .f32) (v69 : Vec Ideal S1x256x1024 .bf16) (r : Fin 512) (l : Fin 1024) :
    k0_pay1 v54 v56 v60 v67 v69 (ix2 r l) = v67 (ix2 r l) + ∑ f : Fin 256,
      ((∑ k : Fin 1024, v54 (ix2 r k) * v56 (ix3 0 k f)) * Ideal.logistic (∑ k : Fin 1024, v54 (ix2 r k) * v56 (ix3 0 k f))
        * (∑ k : Fin 1024, v54 (ix2 r k) * v60 (ix3 0 k f))) * v69 (ix3 0 f l) := by
  pointwise [k0_pay1]

theorem pay3_apply (v0 : Vec Ideal S512x1024 .f32) (v1 : Vec Ideal S512x512 .bf16) (w : Vec Ideal S1024x1024 .bf16) (v5 : Vec Ideal S512x512 .bf16) (r : Fin 512) (l : Fin 1024) :
    k0_pay3 v0 v1 (mixLo w) v5 (mixHi w) (ix2 r l)
      = mixRow (fun j => v0 (ix2 r j)) (fun j => v1 (ix2 r j)) (fun j => v5 (ix2 r j)) (fun k j => w (ix2 k j)) l := by
  unfold mixRow
  rw [← add_assoc]
  pointwise [k0_pay3, mixLo, mixHi]

theorem pay4_apply (v0 : Vec Ideal S512x1024 .f32) (v1 : Vec Ideal S512x512 .bf16) (v2 : Vec Ideal S512x1024 .bf16) (v5 : Vec Ideal S512x512 .bf16) (v6 : Vec Ideal S512x1024 .bf16) (v10 : Vec Ideal S1x1024 .f32)(r : Fin 512) (l : Fin 1024) :
    k0_pay4 v0 v1 v2 v5 v6 v10 (ix2 r l)
      = rmsRow (fun j => k0_pay3 v0 v1 v2 v5 v6 (ix2 r j)) (fun j => v10 (ix2 0 j)) l := by
  unfold rmsRow
  pointwise [k0_pay4]

theorem pay2_apply (v33 : Vec Ideal S512x1024 .f32) (v35 : Vec Ideal S512x1024 .f32) (v39 : Vec Ideal S1x1024 .f32)(r : Fin 512) (l : Fin 1024) :
    k0_pay2 v33 v35 v39 (ix2 r l)
      = rmsRow (fun j => v33 (ix2 r j) + Ideal.ofBits .f32 0x3F000000#32 * v35 (ix2 r j)) (fun j => v39 (ix2 0 j)) l := by
  unfold rmsRow
  pointwise [k0_pay2]

theorem pay5_apply (r : Fin 512) (l : Fin 1024) : k0_pay5 (F := Ideal) (ix2 r l) = 0 := by
  pointwise [k0_pay5]

/-- The accumulator after `n` chunks, at one row: the partial sums so far. -/
theorem acc_apply (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) (n : ℕ) (hn : n ≤ 11) :
    acc h g u d (k0_pay5 (F := Ideal)) n (ix2 r l)
      = ∑ c : Fin n, ∑ f : Fin 256, hid (fun k => h (ix2 r k)) wg wu wd l ⟨c.val * 256 + f.val, by omega⟩ := by
  induction n with
  | zero => rw [acc, pay5_apply]; simp
  | succ n ih =>
    rw [acc, dif_pos (show n < k0_t1_loop.trips by rw [trips_eq]; omega), pay1_apply, ih (by omega), Fin.sum_univ_castSucc (n := n)]
    simp only [up_apply, down_apply, hg, hu, hd]
    rfl

/-- The whole accumulation at one row: the feed-forward product. -/
theorem acc_all (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) :
    acc h g u d (k0_pay5 (F := Ideal)) k0_t1_loop.trips (ix2 r l) = ffnRow (fun k => h (ix2 r k)) wg wu wd l := by
  rw [trips_eq, acc_apply h g u d wg wu wd hg hu hd r l 11 le_rfl, ffnRow]
  exact sum_chunks _

theorem ref_apply (m : (ℓ : Loc Cert.RefFfnMixIdeal.nD Cert.RefFfnMixIdeal.τ Cert.RefFfnMixIdeal.sig) → Buf (Elt Ideal) ℓ)
    (c : Dev Cert.RefFfnMixIdeal.nD) (r : Fin 32768) (l : Fin 1024) :
    Cert.RefFfnMixIdeal.Value.res_main_v39 m c (ix2 r l)
      = outRow (mixRow (fun j => m (c.tc.loc Cert.RefFfnMixIdeal.main_arg0) (ix2 r j)) (fun j => m (c.tc.loc Cert.RefFfnMixIdeal.main_arg1) (ix2 r j))
            (fun j => m (c.tc.loc Cert.RefFfnMixIdeal.main_arg2) (ix2 r j)) (fun k j => m (c.tc.loc Cert.RefFfnMixIdeal.main_arg3) (ix2 k j)))
          (fun j => m (c.tc.loc Cert.RefFfnMixIdeal.main_arg4) (ix1 j)) (fun k j => m (c.tc.loc Cert.RefFfnMixIdeal.main_arg5) (ix2 k j))
          (fun k j => m (c.tc.loc Cert.RefFfnMixIdeal.main_arg6) (ix2 k j)) (fun k j => m (c.tc.loc Cert.RefFfnMixIdeal.main_arg7) (ix2 k j))
          (fun j => m (c.tc.loc Cert.RefFfnMixIdeal.main_arg8) (ix1 j)) l := by
  unfold Cert.RefFfnMixIdeal.Value.res_main_v39
  clean_types
  pointwise
  simp only [outRow, rmsRow, ffnRow, hid, proj, mixRow]

end Cert.FfnMixIdeal.Block

end
-- ==== Proof.MixRun.lean ====
/-
  The feed-forward call's run, read: its result array is the reference's composed term of the same arguments, block by
  block (`flushed_eq`), hence as a whole (`final_o`), and the claim `algebraic`.
-/
module

public import proofs.«01_k».proof.Proof.MixAlg
public import proofs.«01_k».proof.Defs

@[expose] public section

set_option maxRecDepth 16384

noncomputable section

namespace Cert.FfnMixIdeal.Block

open Cert.FfnMixIdeal Cert.FfnMixIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx9 : ∀ t : Fin grid0.N, win0_9.index t 0 = t.val ∧ win0_9.index t 1 = 0 := by decide +kernel

/-- The prepared gate weight, in chunks. -/
theorem V_gate (c : Dev nD) : V m c main_v2
    = transpose S11x1024x256 [1, 0, 2] (shapeCast S1024x11x256 (truncf (F := Ideal) .bf16 (m (c.tc.loc main_arg5)) bitsLt_bf16_f32)
        shapeCasts_S1024x2816_S1024x11x256) transposes_S1024x11x256_S11x1024x256_1_0_2 := by
  unfold V
  simp only [hostOps0]
  after_results_simp <;> rfl

/-- The prepared up weight, in chunks. -/
theorem V_up (c : Dev nD) : V m c main_v5
    = transpose S11x1024x256 [1, 0, 2] (shapeCast S1024x11x256 (truncf (F := Ideal) .bf16 (m (c.tc.loc main_arg6)) bitsLt_bf16_f32)
        shapeCasts_S1024x2816_S1024x11x256) transposes_S1024x11x256_S11x1024x256_1_0_2 := by
  unfold V
  simp only [hostOps0]
  after_results_simp <;> rfl

/-- The prepared down weight, in chunks. -/
theorem V_down (c : Dev nD) : V m c main_v7
    = shapeCast S11x256x1024 (truncf (F := Ideal) .bf16 (m (c.tc.loc main_arg7)) bitsLt_bf16_f32) shapeCasts_S2816x1024_S11x256x1024 := by
  unfold V
  simp only [hostOps0]
  after_results_simp <;> rfl

/-- The gain of the inner norm, as a row. -/
theorem V_ng (c : Dev nD) : V m c main_v8
    = shapeCast S1x1024 (m (c.tc.loc main_arg4)) shapeCasts_S1024_S1x1024 := by
  unfold V
  simp only [hostOps0]
  after_results_simp <;> rfl

/-- The gain of the final norm, as a row. -/
theorem V_nf (c : Dev nD) : V m c main_v9
    = shapeCast S1x1024 (m (c.tc.loc main_arg8)) shapeCasts_S1024_S1x1024 := by
  unfold V
  simp only [hostOps0]
  after_results_simp <;> rfl

theorem blk0 (c : Dev nD) (t : Fin cfg0.N) (r : Fin 512) (l : Fin 1024) :
    (iblk m c 0 t : Vec Ideal S512x1024 .f32) (ix2 r l)
      = m (c.tc.loc main_arg0) (ix2 ⟨t.val * 512 + r.val, by have := lt_of_lt_of_eq t.isLt N_0; omega⟩ l) := by
  unfold iblk
  rw [View.read_apply]
  show V m c main_arg0 _ = _
  rw [V_main_arg0]
  refine congrArg _ (funext fun a => Fin.ext ?_)
  match a with
  | ⟨0, _⟩ => show win0_0.index t 0 * 512 + 1 * r.val = t.val * 512 + r.val; rw [(idx0 t).1]; omega
  | ⟨1, _⟩ => show win0_0.index t 1 * 1024 + 1 * l.val = l.val; rw [(idx0 t).2]; omega

theorem blk1 (c : Dev nD) (t : Fin cfg0.N) (r : Fin 512) (l : Fin 512) :
    (iblk m c 1 t : Vec Ideal S512x512 .bf16) (ix2 r l)
      = m (c.tc.loc main_arg1) (ix2 ⟨t.val * 512 + r.val, by have := lt_of_lt_of_eq t.isLt N_0; omega⟩ l) := by
  unfold iblk
  rw [View.read_apply]
  show V m c main_arg1 _ = _
  rw [V_main_arg1]
  refine congrArg _ (funext fun a => Fin.ext ?_)
  match a with
  | ⟨0, _⟩ => show win0_1.index t 0 * 512 + 1 * r.val = t.val * 512 + r.val; rw [(idx1 t).1]; omega
  | ⟨1, _⟩ => show win0_1.index t 1 * 512 + 1 * l.val = l.val; rw [(idx1 t).2]; omega

theorem blk2 (c : Dev nD) (t : Fin cfg0.N) (r : Fin 512) (l : Fin 512) :
    (iblk m c 2 t : Vec Ideal S512x512 .bf16) (ix2 r l)
      = m (c.tc.loc main_arg2) (ix2 ⟨t.val * 512 + r.val, by have := lt_of_lt_of_eq t.isLt N_0; omega⟩ l) := by
  unfold iblk
  rw [View.read_apply]
  show V m c main_arg2 _ = _
  rw [V_main_arg2]
  refine congrArg _ (funext fun a => Fin.ext ?_)
  match a with
  | ⟨0, _⟩ => show win0_2.index t 0 * 512 + 1 * r.val = t.val * 512 + r.val; rw [(idx2 t).1]; omega
  | ⟨1, _⟩ => show win0_2.index t 1 * 512 + 1 * l.val = l.val; rw [(idx2 t).2]; omega

theorem idx3 : ∀ (t : Fin grid0.N) (a : Fin 2), win0_3.index t a = 0 := by decide +kernel
theorem blk3 (c : Dev nD) (t : Fin cfg0.N) : (iblk m c 3 t : Vec Ideal S1024x1024 .bf16) = V m c main_arg3 := by
  funext j
  unfold iblk
  rw [View.read_apply]
  show V m c main_arg3 _ = _
  refine congrArg _ (funext fun a => Fin.ext ?_)
  match a with
  | ⟨0, _⟩ => show win0_3.index t 0 * 1024 + 1 * (j 0).val = (j 0).val; rw [idx3 t 0]; omega
  | ⟨1, _⟩ => show win0_3.index t 1 * 1024 + 1 * (j 1).val = (j 1).val; rw [idx3 t 1]; omega

theorem idx4 : ∀ (t : Fin grid0.N) (a : Fin 2), win0_4.index t a = 0 := by decide +kernel
theorem blk4 (c : Dev nD) (t : Fin cfg0.N) : (iblk m c 4 t : Vec Ideal S1x1024 .f32) = V m c main_v8 := by
  funext j
  unfold iblk
  rw [View.read_apply]
  show V m c main_v8 _ = _
  refine congrArg _ (funext fun a => Fin.ext ?_)
  match a with
  | ⟨0, _⟩ => show win0_4.index t 0 * 1 + 1 * (j 0).val = (j 0).val; rw [idx4 t 0]; omega
  | ⟨1, _⟩ => show win0_4.index t 1 * 1024 + 1 * (j 1).val = (j 1).val; rw [idx4 t 1]; omega

theorem idx5 : ∀ (t : Fin grid0.N) (a : Fin 3), win0_5.index t a = 0 := by decide +kernel
theorem blk5 (c : Dev nD) (t : Fin cfg0.N) : (iblk m c 5 t : Vec Ideal S11x1024x256 .bf16) = V m c main_v2 := by
  funext j
  unfold iblk
  rw [View.read_apply]
  show V m c main_v2 _ = _
  refine congrArg _ (funext fun a => Fin.ext ?_)
  match a with
  | ⟨0, _⟩ => show win0_5.index t 0 * 11 + 1 * (j 0).val = (j 0).val; rw [idx5 t 0]; omega
  | ⟨1, _⟩ => show win0_5.index t 1 * 1024 + 1 * (j 1).val = (j 1).val; rw [idx5 t 1]; omega
  | ⟨2, _⟩ => show win0_5.index t 2 * 256 + 1 * (j 2).val = (j 2).val; rw [idx5 t 2]; omega

theorem idx6 : ∀ (t : Fin grid0.N) (a : Fin 3), win0_6.index t a = 0 := by decide +kernel
theorem blk6 (c : Dev nD) (t : Fin cfg0.N) : (iblk m c 6 t : Vec Ideal S11x1024x256 .bf16) = V m c main_v5 := by
  funext j
  unfold iblk
  rw [View.read_apply]
  show V m c main_v5 _ = _
  refine congrArg _ (funext fun a => Fin.ext ?_)
  match a with
  | ⟨0, _⟩ => show win0_6.index t 0 * 11 + 1 * (j 0).val = (j 0).val; rw [idx6 t 0]; omega
  | ⟨1, _⟩ => show win0_6.index t 1 * 1024 + 1 * (j 1).val = (j 1).val; rw [idx6 t 1]; omega
  | ⟨2, _⟩ => show win0_6.index t 2 * 256 + 1 * (j 2).val = (j 2).val; rw [idx6 t 2]; omega

theorem idx7 : ∀ (t : Fin grid0.N) (a : Fin 3), win0_7.index t a = 0 := by decide +kernel
theorem blk7 (c : Dev nD) (t : Fin cfg0.N) : (iblk m c 7 t : Vec Ideal S11x256x1024 .bf16) = V m c main_v7 := by
  funext j
  unfold iblk
  rw [View.read_apply]
  show V m c main_v7 _ = _
  refine congrArg _ (funext fun a => Fin.ext ?_)
  match a with
  | ⟨0, _⟩ => show win0_7.index t 0 * 11 + 1 * (j 0).val = (j 0).val; rw [idx7 t 0]; omega
  | ⟨1, _⟩ => show win0_7.index t 1 * 256 + 1 * (j 1).val = (j 1).val; rw [idx7 t 1]; omega
  | ⟨2, _⟩ => show win0_7.index t 2 * 1024 + 1 * (j 2).val = (j 2).val; rw [idx7 t 2]; omega

theorem idx8 : ∀ (t : Fin grid0.N) (a : Fin 2), win0_8.index t a = 0 := by decide +kernel
theorem blk8 (c : Dev nD) (t : Fin cfg0.N) : (iblk m c 8 t : Vec Ideal S1x1024 .f32) = V m c main_v9 := by
  funext j
  unfold iblk
  rw [View.read_apply]
  show V m c main_v9 _ = _
  refine congrArg _ (funext fun a => Fin.ext ?_)
  match a with
  | ⟨0, _⟩ => show win0_8.index t 0 * 1 + 1 * (j 0).val = (j 0).val; rw [idx8 t 0]; omega
  | ⟨1, _⟩ => show win0_8.index t 1 * 1024 + 1 * (j 1).val = (j 1).val; rw [idx8 t 1]; omega

theorem gate_apply (c : Dev nD) (t : Fin cfg0.N) (b : Fin 11) (k : Fin 1024) (f : Fin 256) :
    (iblk m c 5 t : Vec Ideal S11x1024x256 .bf16) (ix3 b k f) = m (c.tc.loc main_arg5) (ix2 k ⟨b.val * 256 + f.val, by omega⟩) := by
  rw [blk5, V_gate]; pointwise

theorem up_w_apply (c : Dev nD) (t : Fin cfg0.N) (b : Fin 11) (k : Fin 1024) (f : Fin 256) :
    (iblk m c 6 t : Vec Ideal S11x1024x256 .bf16) (ix3 b k f) = m (c.tc.loc main_arg6) (ix2 k ⟨b.val * 256 + f.val, by omega⟩) := by
  rw [blk6, V_up]; pointwise

theorem down_w_apply (c : Dev nD) (t : Fin cfg0.N) (b : Fin 11) (f : Fin 256) (k : Fin 1024) :
    (iblk m c 7 t : Vec Ideal S11x256x1024 .bf16) (ix3 b f k) = m (c.tc.loc main_arg7) (ix2 ⟨b.val * 256 + f.val, by omega⟩ k) := by
  rw [blk7, V_down]
  refine (shapeCast_apply _ _ _ (ix2 ⟨b.val * 256 + f.val, by omega⟩ k) ?_).trans rfl
  rw [Shape.rowMajor_val_two, Shape.rowMajor_val_three]
  show (b.val * 256 + f.val) * 1024 + k.val = (b.val * 256 + f.val) * 1024 + k.val
  rfl

theorem ng_apply (c : Dev nD) (t : Fin cfg0.N) (k : Fin 1024) :
    (iblk m c 4 t : Vec Ideal S1x1024 .f32) (ix2 0 k) = m (c.tc.loc main_arg4) (ix1 k) := by
  rw [blk4, V_ng]; pointwise

theorem nf_apply (c : Dev nD) (t : Fin cfg0.N) (k : Fin 1024) :
    (iblk m c 8 t : Vec Ideal S1x1024 .f32) (ix2 0 k) = m (c.tc.loc main_arg8) (ix1 k) := by
  rw [blk8, V_nf]; pointwise

theorem wo_apply (c : Dev nD) (t : Fin cfg0.N) (k j : Fin 1024) :
    (iblk m c 3 t : Vec Ideal S1024x1024 .bf16) (ix2 k j) = m (c.tc.loc main_arg3) (ix2 k j) := by
  rw [blk3, V_main_arg3]

/-- The result: row by row, the mix, the feed-forward sum and the final norm of the arguments. -/
def result (c : Dev nD) : Buf (Elt Ideal) ((c.tc : Thread nD τ).loc main_v10) := fun i : S32768x1024.Idx =>
  outRow (mixRow (fun j => m (c.tc.loc main_arg0) (ix2 (i 0) j)) (fun j => m (c.tc.loc main_arg1) (ix2 (i 0) j))
      (fun j => m (c.tc.loc main_arg2) (ix2 (i 0) j)) (fun k j => m (c.tc.loc main_arg3) (ix2 k j)))
    (fun j => m (c.tc.loc main_arg4) (ix1 j)) (fun k j => m (c.tc.loc main_arg5) (ix2 k j))
    (fun k j => m (c.tc.loc main_arg6) (ix2 k j)) (fun k j => m (c.tc.loc main_arg7) (ix2 k j))
    (fun j => m (c.tc.loc main_arg8) (ix1 j)) (i 1)

/-- The body's output block from its input blocks, at a row. -/
theorem body_apply (x0 : Vec Ideal S512x1024 .f32) (x1 x2 : Vec Ideal S512x512 .bf16) (x3 : Vec Ideal S1024x1024 .bf16)
    (x4 : Vec Ideal S1x1024 .f32) (x5 x6 : Vec Ideal S11x1024x256 .bf16) (x7 : Vec Ideal S11x256x1024 .bf16) (x8 : Vec Ideal S1x1024 .f32)
    (wg wu : Fin 1024 → Fin 2816 → EReal) (wd : Fin 2816 → Fin 1024 → EReal)
    (hg : ∀ (c : Fin 11) (k : Fin 1024) (f : Fin 256), x5 (ix3 c k f) = wg k ⟨c.val * 256 + f.val, by omega⟩)
    (hu : ∀ (c : Fin 11) (k : Fin 1024) (f : Fin 256), x6 (ix3 c k f) = wu k ⟨c.val * 256 + f.val, by omega⟩)
    (hd : ∀ (c : Fin 11) (f : Fin 256) (j : Fin 1024), x7 (ix3 c f j) = wd ⟨c.val * 256 + f.val, by omega⟩ j)
    (r : Fin 512) (l : Fin 1024) :
    k0_pay2 (k0_pay3 x0 x1 (mixLo x3) x2 (mixHi x3))
        (acc (k0_pay4 x0 x1 (mixLo x3) x2 (mixHi x3) x4) x5 x6 x7 (k0_pay5 (F := Ideal)) k0_t1_loop.trips) x8 (ix2 r l)
      = outRow (mixRow (fun j => x0 (ix2 r j)) (fun j => x1 (ix2 r j)) (fun j => x2 (ix2 r j)) (fun k j => x3 (ix2 k j)))
          (fun j => x4 (ix2 0 j)) wg wu wd (fun j => x8 (ix2 0 j)) l := by
  rw [pay2_apply]
  simp only [acc_all _ _ _ _ _ _ _ hg hu hd, pay4_apply, pay3_apply]
  rfl

/-- A point's output block, at a row: the row of results of the block's rows. -/
theorem block_apply (c : Dev nD) (t : Fin cfg0.N) (r : Fin 512) (l : Fin 1024) :
    (outsAt0 m c t : Vec Ideal S512x1024 .f32) (ix2 r l)
      = result m c (ix2 ⟨t.val * 512 + r.val, by have := lt_of_lt_of_eq t.isLt N_0; omega⟩ l) := by
  unfold outsAt0
  rw [out_A]
  refine (body_apply _ _ _ _ _ _ _ _ _ (fun k j => m (c.tc.loc main_arg5) (ix2 k j))
    (fun k j => m (c.tc.loc main_arg6) (ix2 k j)) (fun k j => m (c.tc.loc main_arg7) (ix2 k j))
    (gate_apply m c t) (up_w_apply m c t) (down_w_apply m c t) r l).trans ?_
  rw [funext (blk0 m c t r), funext (blk1 m c t r), funext (blk2 m c t r), funext (ng_apply m c t), funext (nf_apply m c t),
    funext fun k => funext (wo_apply m c t k)]
  rfl

/-- What point `t` writes back is the result, read through the point's block. -/
theorem flushed_eq (c : Dev nD) (t : Fin cfg0.N) :
    (dats m 0 c).flushed 9 t = ((cfg0.win 9).blk t).view.read (Elt Ideal) (result m c) := by
  rw [Value.flushed9]
  funext j
  obtain ⟨r, l, rfl⟩ : ∃ (r : Fin 512) (l : Fin 1024), j = ix2 r l := ⟨j 0, j 1, eq_ix2 j⟩
  rw [View.read_apply]
  show (outsAt0 m c t : Vec Ideal S512x1024 .f32) (ix2 r l) = _
  rw [block_apply]
  refine congrArg (result m c) (funext fun a => Fin.ext ?_)
  match a with
  | ⟨0, _⟩ => show t.val * 512 + r.val = win0_9.index t 0 * 512 + 1 * r.val; rw [(idx9 t).1]; omega
  | ⟨1, _⟩ => show l.val = win0_9.index t 1 * 1024 + 1 * l.val; rw [(idx9 t).2]; omega

/-- The blocks tile the result array. -/
theorem cover (i : S32768x1024.Idx) : ∃ t : Fin cfg0.N, (cfg0.win 9).flush t = true ∧ i ∈ ((cfg0.win 9).blk t).view.set := by
  have h0 : (i 0 : Nat) < 32768 := (i 0).isLt
  have h1 : (i 1 : Nat) < 1024 := (i 1).isLt
  refine ⟨⟨(i 0 : Nat) / 512, lt_of_lt_of_eq (by omega) N_0.symm⟩, flush0_9 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v10).slice (win0_9.rect t)).set
  rw [View.set_slice_whole, Rect.mem_set_unit]
  intro a
  match a with
  | ⟨0, _⟩ =>
    show win0_9.index t 0 * 512 ≤ (i 0 : Nat) ∧ (i 0 : Nat) < win0_9.index t 0 * 512 + 512
    rw [(idx9 t).1, hv]; omega
  | ⟨1, _⟩ =>
    show win0_9.index t 1 * 1024 ≤ (i 1 : Nat) ∧ (i 1 : Nat) < win0_9.index t 1 * 1024 + 1024
    rw [(idx9 t).2]; omega

/-- The result array after the run. -/
theorem final_o (c : Dev nD) : (dats m 0 c).arrAt 9 cfg0.N = result m c :=
  (dats m 0 c).arrAt_eq_of_cover 9 (result m c) (fun t _ => flushed_eq m c t) cover

/-- The claim: the kernel's result array and the reference's are equal over the extended reals. -/
theorem algebraic : Cert.algebraic_FfnMixIdeal_RefFfnMixIdeal := by
  intro m ρ m' ρ' _ hagree
  refine ⟨fun c => result m c, ?_, ?_⟩
  · exact (θ_run Cert.FfnMixIdeal.defs _ _).mono (fun _ h c => ⟨(h c).1.trans (final_o m c), (h c).2⟩)
      (Value.run_blocks (F := Ideal) m ρ)
  · refine (θ_run Cert.RefFfnMixIdeal.defs _ _).mono (fun _ h c => ⟨(h c).1.trans ?_, (h c).2⟩)
      (Cert.RefFfnMixIdeal.Value.run (F := Ideal) m' ρ')
    obtain ⟨e0, e1, e2, e3, e4, e5, e6, e7, e8⟩ := hagree c
    funext j
    obtain ⟨r, l, rfl⟩ : ∃ (r : Fin 32768) (l : Fin 1024), j = ix2 r l := ⟨j 0, j 1, eq_ix2 j⟩
    refine (ref_apply m' c r l).trans ?_
    rw [e0, e1, e2, e3, e4, e5, e6, e7, e8]
    rfl

end Cert.FfnMixIdeal.Block

end
-- ==== Proof.FfnBlock.lean ====
/-
  What one grid point of the first feed-forward call leaves in its output block: the rows plus half the sum of the eleven
  feed-forward chunks of their RMS norm, as one term of the point's input blocks (`out_A`). Holds for any reading of the
  floats.
-/
module

public import proofs.«01_k».proof.Proof.Gen.FfnIdeal.Value

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A whole-block store, read back. -/
theorem read_store {e : EltTy} (v : View sig .tc .vmem S512x1024 e) (f : v.ty.Contents (Elt F)) (w : S512x1024.Idx → Elt F e)
    (L : List (View.Piece (Elt F) S512x1024 e)) :
    v.read (Elt F) (v.writes (Elt F) f (⟨Rect.unit ![0, 0] S512x1024.size inb_S512x1024_S512x1024_0_0, w⟩ :: L)) = w := by
  rw [View.read_writes_eq_canon v f (⟨Rect.unit ![0, 0] S512x1024.size inb_S512x1024_S512x1024_0_0, w⟩ :: L)
    (fun y => ⟨_, List.mem_cons_self, View.mem_set_unit_zero hz inb_S512x1024_S512x1024_0_0 y⟩), View.canon_cons_unit_zero hz]

/-- Chunk `k` of a gate or up weight. -/
def upChunk (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weight. -/
def downChunk (w : Vec F S11x256x1024 .bf16) (k : Fin k0_t1_loop.trips) : Vec F S1x256x1024 .bf16 :=
  View.ld w (Rect.unit (s := S11x256x1024) (k0_off2 k) S1x256x1024.size (k0_off2_inb k))

/-- The accumulator after the first `k` chunks, from `z`. -/
def acc (h : Vec F S512x1024 .bf16) (wg wu : Vec F S11x1024x256 .bf16) (wd : Vec F S11x256x1024 .bf16)
    (z : Vec F S512x1024 .f32) : ℕ → Vec F S512x1024 .f32
  | 0 => z
  | k + 1 => if hk : k < k0_t1_loop.trips then
      k0_pay3 h (upChunk wg ⟨k, hk⟩) (upChunk wu ⟨k, hk⟩) (acc h wg wu wd z k) (downChunk wd ⟨k, hk⟩) else acc h wg wu wd z k

/-- What one chunk leaves in the accumulator, from what it finds there. -/
theorem trip_read (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (k : Fin k0_t1_loop.trips) (f G : BufTy.Contents (Elt F) arg8.view.ty) (L : List (View.Piece (Elt F) S512x1024 .f32)) :
    arg8.view.read (Elt F) (arg8.view.writes (Elt F) G (tripL_k0_t1 (F := F) 𝒱 c bd i arg1 harg1 arg2 harg2 arg3 harg3 arg4 harg4 arg5 harg5 arg6 harg6 arg7 harg7 arg8 harg8 X_arg3 X_arg4 X_arg5 X_arg7 k f ++ L))
      = k0_pay3 (arg7.view.read (Elt F) X_arg7) (upChunk (arg3.view.read (Elt F) X_arg3) k) (upChunk (arg4.view.read (Elt F) X_arg4) k)
          (arg8.view.read (Elt F) f) (downChunk (arg5.view.read (Elt F) X_arg5) k) := by
  unfold tripL_k0_t1 trip_k0_t1
  dsimp only
  sl_unfold_words
  rw [List.singleton_append, read_store]
  simp only [View.readAt_eq_ld]
  rw [View.ld_unit_zero (S := S512x1024) hz, View.ld_unit_zero (S := S512x1024) hz]
  rfl

/-- The accumulator after the first `k` chunks, read. -/
theorem pb_read (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (G : BufTy.Contents (Elt F) arg8.view.ty) (k : ℕ) (hk : k ≤ k0_t1_loop.trips) :
    arg8.view.read (Elt F) (arg8.view.writes (Elt F) G (pb_k0_t1 (F := F) 𝒱 c bd i arg1 harg1 arg2 harg2 arg3 harg3 arg4 harg4 arg5 harg5 arg6 harg6 arg7 harg7 arg8 harg8 X_arg3 X_arg4 X_arg5 X_arg7 G k))
      = acc (arg7.view.read (Elt F) X_arg7) (arg3.view.read (Elt F) X_arg3) (arg4.view.read (Elt F) X_arg4)
          (arg5.view.read (Elt F) X_arg5) (arg8.view.read (Elt F) G) k := by
  induction k with
  | zero => rfl
  | succ k ih =>
    rw [pb_k0_t1_succ (F := F) 𝒱 c bd i arg1 harg1 arg2 harg2 arg3 harg3 arg4 harg4 arg5 harg5 arg6 harg6 arg7 harg7 arg8 harg8 X_arg3 X_arg4 X_arg5 X_arg7 G ⟨k, hk⟩, trip_read, ih (by omega), acc, dif_pos (show k < k0_t1_loop.trips from hk)]

/-- What a point leaves in its output block. -/
theorem out_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S11x1024x256 .bf16) (harg3 : arg3.IsWhole) (arg4 : Memref sig .tc .vmem S11x1024x256 .bf16) (harg4 : arg4.IsWhole) (arg5 : Memref sig .tc .vmem S11x256x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole)
    (x0 : Vec F S512x1024 .f32) (x1 : Vec F S1x1024 .f32) (x2 : Vec F S11x1024x256 .bf16) (x3 : Vec F S11x1024x256 .bf16) (x4 : Vec F S11x256x1024 .bf16) :
    out0_A_5 c i arg1 harg1 arg2 harg2 arg3 harg3 arg4 harg4 arg5 harg5 arg6 harg6 arg7 harg7 arg8 harg8 x0 x1 x2 x3 x4
      = k0_pay4 x0 (acc (k0_pay1 x0 x1) x2 x3 x4 (k0_pay2 (F := F)) k0_t1_loop.trips) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_cons_unit_zero hz]
  simp only [View.readAt_eq_ld, harg1.read_unread, harg2.read_unread, harg3.read_unread, harg4.read_unread, harg5.read_unread]
  rw [View.readCov_unit_zero (S := S512x1024) arg6.view hz]
  unfold View.readCov
  rw [View.readAt_eq_ld, View.writes_append]
  rw [show Scf.trips (0#32) (Scalar.addi 0#32 11#32) 1#32 = k0_t1_loop.trips from rfl,
    pb_read (F := F) Variants.none c none i arg1 harg1 arg2 harg2 arg3 harg3 arg4 harg4 arg5 harg5 arg6 harg6 arg7 harg7 arg8 harg8 _ _ _ _ _ _ le_rfl]
  rw [read_store, read_store]
  rw [harg3.read_unread, harg4.read_unread, harg5.read_unread]
  rw [View.ld_unit_zero (S := S512x1024) hz, View.ld_unit_zero (S := S512x1024) hz, View.ld_unit_zero (S := S1x1024) hz]

end Cert.FfnIdeal.Block

end
-- ==== Proof.FfnAlg.lean ====
/-
  The first feed-forward call, one row at a time over the extended reals: the kernel's block values (`pay1_apply` …
  `acc_all`) and the reference's result (`ref_apply`) read as a row plus half the feed-forward product of its RMS norm.
-/
module

public import proofs.«01_k».proof.Proof.FfnBlock
public import proofs.«01_k».proof.Proof.MixAlg
public import proofs.«01_k».proof.Proof.Gen.RefFfnIdeal.Run

@[expose] public section

set_option maxRecDepth 16384

noncomputable section

namespace Cert.RefFfnIdeal.Value

open Cert.RefFfnIdeal Cert.RefFfnIdeal.Gen Idealize.ShloMosaic Idealize.ShloMosaic.TcCoe Idealize.SL.Sem

/-- The reference's result array, as its operations' term of the arguments. -/
def res_main_v20 {F : FTy → Type} [FloatOps F] (m : (ℓ : Loc nD τ sig) → Buf (Elt F) ℓ) (c : Dev nD) :
    Buf (Elt F) ((c.tc : Thread nD τ).loc main_v20) :=
  addf (m ((c.tc : Thread nD τ).loc main_arg0)) (mulf (broadcastInDim S32768x1024 ![] bcast_S_S32768x1024 (constant S_ .f32 0x3F000000#32)) (Host.dotGeneral dot_S32768x2816_S2816x1024_S32768x1024_1_0_0_1_n_n none (mulf (mulf (Host.dotGeneral dot_S32768x1024_S1024x2816_S32768x2816_1_0_0_1_n_n none (mulf (mulf (m ((c.tc : Thread nD τ).loc main_arg0)) (broadcastInDim S32768x1024 ![0, 1] bcast_S32768x1_S32768x1024_0_1 (Host.rsqrt (addf (Host.divf (broadcastInDim S32768x1 ![0] bcast_S32768_S32768x1_0 (Host.reduceAdd (mulf (m ((c.tc : Thread nD τ).loc main_arg0)) (m ((c.tc : Thread nD τ).loc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (m ((c.tc : Thread nD τ).loc main_arg1))))) (m ((c.tc : Thread nD τ).loc main_arg2))) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (Host.dotGeneral dot_S32768x1024_S1024x2816_S32768x2816_1_0_0_1_n_n none (mulf (mulf (m ((c.tc : Thread nD τ).loc main_arg0)) (broadcastInDim S32768x1024 ![0, 1] bcast_S32768x1_S32768x1024_0_1 (Host.rsqrt (addf (Host.divf (broadcastInDim S32768x1 ![0] bcast_S32768_S32768x1_0 (Host.reduceAdd (mulf (m ((c.tc : Thread nD τ).loc main_arg0)) (m ((c.tc : Thread nD τ).loc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (m ((c.tc : Thread nD τ).loc main_arg1))))) (m ((c.tc : Thread nD τ).loc main_arg2)))))))) (Host.dotGeneral dot_S32768x1024_S1024x2816_S32768x2816_1_0_0_1_n_n none (mulf (mulf (m ((c.tc : Thread nD τ).loc main_arg0)) (broadcastInDim S32768x1024 ![0, 1] bcast_S32768x1_S32768x1024_0_1 (Host.rsqrt (addf (Host.divf (broadcastInDim S32768x1 ![0] bcast_S32768_S32768x1_0 (Host.reduceAdd (mulf (m ((c.tc : Thread nD τ).loc main_arg0)) (m ((c.tc : Thread nD τ).loc main_arg0))) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (m ((c.tc : Thread nD τ).loc main_arg1))))) (m ((c.tc : Thread nD τ).loc main_arg3)))) (m ((c.tc : Thread nD τ).loc main_arg4))))

end Cert.RefFfnIdeal.Value

namespace Cert.FfnIdeal.Block

open Cert.FfnIdeal Cert.FfnIdeal.Gen Idealize.ShloMosaic Idealize.ShloMosaic.TcCoe Idealize.SL.Sem
open Cert.FfnMixIdeal.Block (rmsRow proj hid ffnRow sum_chunks)

/-- The call's row of results. -/
def halfRow (y ng : Fin 1024 → EReal) (wg wu : Fin 1024 → Fin 2816 → EReal) (wd : Fin 2816 → Fin 1024 → EReal) : Fin 1024 → EReal :=
  fun j => y j + Ideal.ofBits .f32 0x3F000000#32 * ffnRow (rmsRow y ng) wg wu wd j

theorem trips_eq : k0_t1_loop.trips = 11 := by decide

theorem up_apply (w : Vec Ideal S11x1024x256 .bf16) (k : Fin k0_t1_loop.trips) (a : Fin 1024) (b : Fin 256) :
    upChunk w k (ix3 0 a b) = w (ix3 ⟨k.val, lt_of_lt_of_eq k.isLt trips_eq⟩ a b) := by
  have e0 : k0_off1 k 0 = k.val := by rw [k0_off1_eq]; rfl
  have e1 : k0_off1 k 1 = 0 := by rw [k0_off1_eq]; rfl
  have e2 : k0_off1 k 2 = 0 := by rw [k0_off1_eq]; rfl
  unfold upChunk
  pointwise
  simp only [e0, e1, e2, zero_add]
  rfl

theorem down_apply (w : Vec Ideal S11x256x1024 .bf16) (k : Fin k0_t1_loop.trips) (a : Fin 256) (b : Fin 1024) :
    downChunk w k (ix3 0 a b) = w (ix3 ⟨k.val, lt_of_lt_of_eq k.isLt trips_eq⟩ a b) := by
  have e0 : k0_off2 k 0 = k.val := by rw [k0_off2_eq]; rfl
  have e1 : k0_off2 k 1 = 0 := by rw [k0_off2_eq]; rfl
  have e2 : k0_off2 k 2 = 0 := by rw [k0_off2_eq]; rfl
  unfold downChunk
  pointwise
  simp only [e0, e1, e2, zero_add]
  rfl

theorem pay3_apply (v54 : Vec Ideal S512x1024 .bf16) (v56 : Vec Ideal S1x1024x256 .bf16) (v60 : Vec Ideal S1x1024x256 .bf16) (v67 : Vec Ideal S512x1024 .f32) (v69 : Vec Ideal S1x256x1024 .bf16) (r : Fin 512) (l : Fin 1024) :
    k0_pay3 v54 v56 v60 v67 v69 (ix2 r l) = v67 (ix2 r l) + ∑ f : Fin 256,
      ((∑ k : Fin 1024, v54 (ix2 r k) * v56 (ix3 0 k f)) * Ideal.logistic (∑ k : Fin 1024, v54 (ix2 r k) * v56 (ix3 0 k f))
        * (∑ k : Fin 1024, v54 (ix2 r k) * v60 (ix3 0 k f))) * v69 (ix3 0 f l) := by
  pointwise [k0_pay3]

theorem pay1_apply (v0 : Vec Ideal S512x1024 .f32) (v2 : Vec Ideal S1x1024 .f32) (r : Fin 512) (l : Fin 1024) :
    k0_pay1 v0 v2 (ix2 r l) = rmsRow (fun j => v0 (ix2 r j)) (fun j => v2 (ix2 0 j)) l := by
  unfold rmsRow
  pointwise [k0_pay1]

theorem pay4_apply (v25 : Vec Ideal S512x1024 .f32) (v27 : Vec Ideal S512x1024 .f32) (r : Fin 512) (l : Fin 1024) :
    k0_pay4 v25 v27 (ix2 r l) = v25 (ix2 r l) + Ideal.ofBits .f32 0x3F000000#32 * v27 (ix2 r l) := by
  pointwise [k0_pay4]

theorem pay2_apply (r : Fin 512) (l : Fin 1024) : k0_pay2 (F := Ideal) (ix2 r l) = 0 := by
  pointwise [k0_pay2]

/-- The accumulator after `n` chunks, at one row: the partial sums so far. -/
theorem acc_apply (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) (n : ℕ) (hn : n ≤ 11) :
    acc h g u d (k0_pay2 (F := Ideal)) n (ix2 r l)
      = ∑ c : Fin n, ∑ f : Fin 256, hid (fun k => h (ix2 r k)) wg wu wd l ⟨c.val * 256 + f.val, by omega⟩ := by
  induction n with
  | zero => rw [acc, pay2_apply]; simp
  | succ n ih =>
    rw [acc, dif_pos (show n < k0_t1_loop.trips by rw [trips_eq]; omega), pay3_apply, ih (by omega), Fin.sum_univ_castSucc (n := n)]
    simp only [up_apply, down_apply, hg, hu, hd]
    rfl

/-- The whole accumulation at one row: the feed-forward product. -/
theorem acc_all (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) :
    acc h g u d (k0_pay2 (F := Ideal)) k0_t1_loop.trips (ix2 r l) = ffnRow (fun k => h (ix2 r k)) wg wu wd l := by
  rw [trips_eq, acc_apply h g u d wg wu wd hg hu hd r l 11 le_rfl, ffnRow]
  exact sum_chunks _

theorem ref_apply (m : (ℓ : Loc Cert.RefFfnIdeal.nD Cert.RefFfnIdeal.τ Cert.RefFfnIdeal.sig) → Buf (Elt Ideal) ℓ)
    (c : Dev Cert.RefFfnIdeal.nD) (r : Fin 32768) (l : Fin 1024) :
    Cert.RefFfnIdeal.Value.res_main_v20 m c (ix2 r l)
      = halfRow (fun j => m (c.tc.loc Cert.RefFfnIdeal.main_arg0) (ix2 r j))
          (fun j => m (c.tc.loc Cert.RefFfnIdeal.main_arg1) (ix1 j)) (fun k j => m (c.tc.loc Cert.RefFfnIdeal.main_arg2) (ix2 k j))
          (fun k j => m (c.tc.loc Cert.RefFfnIdeal.main_arg3) (ix2 k j)) (fun k j => m (c.tc.loc Cert.RefFfnIdeal.main_arg4) (ix2 k j)) l := by
  unfold Cert.RefFfnIdeal.Value.res_main_v20
  clean_types
  pointwise
  simp only [halfRow, rmsRow, ffnRow, hid, proj]

end Cert.FfnIdeal.Block

end
-- ==== Proof.FfnRun.lean ====
/-
  The first feed-forward call's run against the reference's: the prepared weights, each point's blocks, the block a point
  writes back, the blocks joined to the whole result, and the two programs' results equal (`algebraic`).
-/
module

public import proofs.«01_k».proof.Proof.FfnAlg
public import proofs.«01_k».proof.Defs

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin grid0.N, win0_0.index t 0 = t.val ∧ win0_0.index t 1 = 0 := by decide +kernel

theorem idx5 : ∀ t : Fin grid0.N, win0_5.index t 0 = t.val ∧ win0_5.index t 1 = 0 := by decide +kernel

/-- The prepared gate weight, in chunks. -/
theorem V_gate (c : Dev nD) : V m c main_v2
    = transpose S11x1024x256 [1, 0, 2] (shapeCast S1024x11x256 (truncf (F := Ideal) .bf16 (m (c.tc.loc main_arg2)) bitsLt_bf16_f32)
        shapeCasts_S1024x2816_S1024x11x256) transposes_S1024x11x256_S11x1024x256_1_0_2 := by
  unfold V
  simp only [hostOps0]
  after_results_simp <;> rfl

/-- The prepared up weight, in chunks. -/
theorem V_up (c : Dev nD) : V m c main_v5
    = transpose S11x1024x256 [1, 0, 2] (shapeCast S1024x11x256 (truncf (F := Ideal) .bf16 (m (c.tc.loc main_arg3)) bitsLt_bf16_f32)
        shapeCasts_S1024x2816_S1024x11x256) transposes_S1024x11x256_S11x1024x256_1_0_2 := by
  unfold V
  simp only [hostOps0]
  after_results_simp <;> rfl

/-- The prepared down weight, in chunks. -/
theorem V_down (c : Dev nD) : V m c main_v7
    = shapeCast S11x256x1024 (truncf (F := Ideal) .bf16 (m (c.tc.loc main_arg4)) bitsLt_bf16_f32) shapeCasts_S2816x1024_S11x256x1024 := by
  unfold V
  simp only [hostOps0]
  after_results_simp <;> rfl

/-- The gain of the norm, as a row. -/
theorem V_ng (c : Dev nD) : V m c main_v8
    = shapeCast S1x1024 (m (c.tc.loc main_arg1)) shapeCasts_S1024_S1x1024 := by
  unfold V
  simp only [hostOps0]
  after_results_simp <;> rfl

theorem blk0 (c : Dev nD) (t : Fin cfg0.N) (r : Fin 512) (l : Fin 1024) :
    (iblk m c 0 t : Vec Ideal S512x1024 .f32) (ix2 r l)
      = m (c.tc.loc main_arg0) (ix2 ⟨t.val * 512 + r.val, by have := lt_of_lt_of_eq t.isLt N_0; omega⟩ l) := by
  unfold iblk
  rw [View.read_apply]
  show V m c main_arg0 _ = _
  rw [V_main_arg0]
  refine congrArg _ (funext fun a => Fin.ext ?_)
  match a with
  | ⟨0, _⟩ => show win0_0.index t 0 * 512 + 1 * r.val = t.val * 512 + r.val; rw [(idx0 t).1]; omega
  | ⟨1, _⟩ => show win0_0.index t 1 * 1024 + 1 * l.val = l.val; rw [(idx0 t).2]; omega

theorem idx1 : ∀ (t : Fin grid0.N) (a : Fin 2), win0_1.index t a = 0 := by decide +kernel
theorem blk1 (c : Dev nD) (t : Fin cfg0.N) : (iblk m c 1 t : Vec Ideal S1x1024 .f32) = V m c main_v8 := by
  funext j
  unfold iblk
  rw [View.read_apply]
  show V m c main_v8 _ = _
  refine congrArg _ (funext fun a => Fin.ext ?_)
  match a with
  | ⟨0, _⟩ => show win0_1.index t 0 * 1 + 1 * (j 0).val = (j 0).val; rw [idx1 t 0]; omega
  | ⟨1, _⟩ => show win0_1.index t 1 * 1024 + 1 * (j 1).val = (j 1).val; rw [idx1 t 1]; omega

theorem idx2 : ∀ (t : Fin grid0.N) (a : Fin 3), win0_2.index t a = 0 := by decide +kernel
theorem blk2 (c : Dev nD) (t : Fin cfg0.N) : (iblk m c 2 t : Vec Ideal S11x1024x256 .bf16) = V m c main_v2 := by
  funext j
  unfold iblk
  rw [View.read_apply]
  show V m c main_v2 _ = _
  refine congrArg _ (funext fun a => Fin.ext ?_)
  match a with
  | ⟨0, _⟩ => show win0_2.index t 0 * 11 + 1 * (j 0).val = (j 0).val; rw [idx2 t 0]; omega
  | ⟨1, _⟩ => show win0_2.index t 1 * 1024 + 1 * (j 1).val = (j 1).val; rw [idx2 t 1]; omega
  | ⟨2, _⟩ => show win0_2.index t 2 * 256 + 1 * (j 2).val = (j 2).val; rw [idx2 t 2]; omega

theorem idx3 : ∀ (t : Fin grid0.N) (a : Fin 3), win0_3.index t a = 0 := by decide +kernel
theorem blk3 (c : Dev nD) (t : Fin cfg0.N) : (iblk m c 3 t : Vec Ideal S11x1024x256 .bf16) = V m c main_v5 := by
  funext j
  unfold iblk
  rw [View.read_apply]
  show V m c main_v5 _ = _
  refine congrArg _ (funext fun a => Fin.ext ?_)
  match a with
  | ⟨0, _⟩ => show win0_3.index t 0 * 11 + 1 * (j 0).val = (j 0).val; rw [idx3 t 0]; omega
  | ⟨1, _⟩ => show win0_3.index t 1 * 1024 + 1 * (j 1).val = (j 1).val; rw [idx3 t 1]; omega
  | ⟨2, _⟩ => show win0_3.index t 2 * 256 + 1 * (j 2).val = (j 2).val; rw [idx3 t 2]; omega

theorem idx4 : ∀ (t : Fin grid0.N) (a : Fin 3), win0_4.index t a = 0 := by decide +kernel
theorem blk4 (c : Dev nD) (t : Fin cfg0.N) : (iblk m c 4 t : Vec Ideal S11x256x1024 .bf16) = V m c main_v7 := by
  funext j
  unfold iblk
  rw [View.read_apply]
  show V m c main_v7 _ = _
  refine congrArg _ (funext fun a => Fin.ext ?_)
  match a with
  | ⟨0, _⟩ => show win0_4.index t 0 * 11 + 1 * (j 0).val = (j 0).val; rw [idx4 t 0]; omega
  | ⟨1, _⟩ => show win0_4.index t 1 * 256 + 1 * (j 1).val = (j 1).val; rw [idx4 t 1]; omega
  | ⟨2, _⟩ => show win0_4.index t 2 * 1024 + 1 * (j 2).val = (j 2).val; rw [idx4 t 2]; omega

theorem gate_apply (c : Dev nD) (t : Fin cfg0.N) (b : Fin 11) (k : Fin 1024) (f : Fin 256) :
    (iblk m c 2 t : Vec Ideal S11x1024x256 .bf16) (ix3 b k f) = m (c.tc.loc main_arg2) (ix2 k ⟨b.val * 256 + f.val, by omega⟩) := by
  rw [blk2, V_gate]; pointwise

theorem up_w_apply (c : Dev nD) (t : Fin cfg0.N) (b : Fin 11) (k : Fin 1024) (f : Fin 256) :
    (iblk m c 3 t : Vec Ideal S11x1024x256 .bf16) (ix3 b k f) = m (c.tc.loc main_arg3) (ix2 k ⟨b.val * 256 + f.val, by omega⟩) := by
  rw [blk3, V_up]; pointwise

theorem down_w_apply (c : Dev nD) (t : Fin cfg0.N) (b : Fin 11) (f : Fin 256) (k : Fin 1024) :
    (iblk m c 4 t : Vec Ideal S11x256x1024 .bf16) (ix3 b f k) = m (c.tc.loc main_arg4) (ix2 ⟨b.val * 256 + f.val, by omega⟩ k) := by
  rw [blk4, V_down]
  refine (shapeCast_apply _ _ _ (ix2 ⟨b.val * 256 + f.val, by omega⟩ k) ?_).trans rfl
  rw [Shape.rowMajor_val_two, Shape.rowMajor_val_three]
  show (b.val * 256 + f.val) * 1024 + k.val = (b.val * 256 + f.val) * 1024 + k.val
  rfl

theorem ng_apply (c : Dev nD) (t : Fin cfg0.N) (k : Fin 1024) :
    (iblk m c 1 t : Vec Ideal S1x1024 .f32) (ix2 0 k) = m (c.tc.loc main_arg1) (ix1 k) := by
  rw [blk1, V_ng]; pointwise

/-- The result: each row plus half the feed-forward product of its RMS norm. -/
def result (c : Dev nD) : Buf (Elt Ideal) ((c.tc : Thread nD τ).loc main_v9) := fun i : S32768x1024.Idx =>
  halfRow (fun j => m (c.tc.loc main_arg0) (ix2 (i 0) j))
    (fun j => m (c.tc.loc main_arg1) (ix1 j)) (fun k j => m (c.tc.loc main_arg2) (ix2 k j))
    (fun k j => m (c.tc.loc main_arg3) (ix2 k j)) (fun k j => m (c.tc.loc main_arg4) (ix2 k j)) (i 1)

/-- The body's output block from its input blocks, at a row. -/
theorem body_apply (x0 : Vec Ideal S512x1024 .f32) (x1 : Vec Ideal S1x1024 .f32) (x2 x3 : Vec Ideal S11x1024x256 .bf16)
    (x4 : Vec Ideal S11x256x1024 .bf16)
    (wg wu : Fin 1024 → Fin 2816 → EReal) (wd : Fin 2816 → Fin 1024 → EReal)
    (hg : ∀ (c : Fin 11) (k : Fin 1024) (f : Fin 256), x2 (ix3 c k f) = wg k ⟨c.val * 256 + f.val, by omega⟩)
    (hu : ∀ (c : Fin 11) (k : Fin 1024) (f : Fin 256), x3 (ix3 c k f) = wu k ⟨c.val * 256 + f.val, by omega⟩)
    (hd : ∀ (c : Fin 11) (f : Fin 256) (j : Fin 1024), x4 (ix3 c f j) = wd ⟨c.val * 256 + f.val, by omega⟩ j)
    (r : Fin 512) (l : Fin 1024) :
    k0_pay4 x0 (acc (k0_pay1 x0 x1) x2 x3 x4 (k0_pay2 (F := Ideal)) k0_t1_loop.trips) (ix2 r l)
      = halfRow (fun j => x0 (ix2 r j)) (fun j => x1 (ix2 0 j)) wg wu wd l := by
  rw [pay4_apply]
  simp only [acc_all _ _ _ _ _ _ _ hg hu hd, pay1_apply]
  rfl

/-- A point's output block, at a row: the row of results of the block's rows. -/
theorem block_apply (c : Dev nD) (t : Fin cfg0.N) (r : Fin 512) (l : Fin 1024) :
    (outsAt0 m c t : Vec Ideal S512x1024 .f32) (ix2 r l)
      = result m c (ix2 ⟨t.val * 512 + r.val, by have := lt_of_lt_of_eq t.isLt N_0; omega⟩ l) := by
  unfold outsAt0
  rw [out_A]
  refine (body_apply _ _ _ _ _ (fun k j => m (c.tc.loc main_arg2) (ix2 k j))
    (fun k j => m (c.tc.loc main_arg3) (ix2 k j)) (fun k j => m (c.tc.loc main_arg4) (ix2 k j))
    (gate_apply m c t) (up_w_apply m c t) (down_w_apply m c t) r l).trans ?_
  rw [funext (blk0 m c t r), funext (ng_apply m c t)]
  rfl

/-- What point `t` writes back is the result, read through the point's block. -/
theorem flushed_eq (c : Dev nD) (t : Fin cfg0.N) :
    (dats m 0 c).flushed 5 t = ((cfg0.win 5).blk t).view.read (Elt Ideal) (result m c) := by
  rw [Value.flushed5]
  funext j
  obtain ⟨r, l, rfl⟩ : ∃ (r : Fin 512) (l : Fin 1024), j = ix2 r l := ⟨j 0, j 1, eq_ix2 j⟩
  rw [View.read_apply]
  show (outsAt0 m c t : Vec Ideal S512x1024 .f32) (ix2 r l) = _
  rw [block_apply]
  refine congrArg (result m c) (funext fun a => Fin.ext ?_)
  match a with
  | ⟨0, _⟩ => show t.val * 512 + r.val = win0_5.index t 0 * 512 + 1 * r.val; rw [(idx5 t).1]; omega
  | ⟨1, _⟩ => show l.val = win0_5.index t 1 * 1024 + 1 * l.val; rw [(idx5 t).2]; omega

/-- The blocks tile the result array. -/
theorem cover (i : S32768x1024.Idx) : ∃ t : Fin cfg0.N, (cfg0.win 5).flush t = true ∧ i ∈ ((cfg0.win 5).blk t).view.set := by
  have h0 : (i 0 : Nat) < 32768 := (i 0).isLt
  have h1 : (i 1 : Nat) < 1024 := (i 1).isLt
  refine ⟨⟨(i 0 : Nat) / 512, lt_of_lt_of_eq (by omega) N_0.symm⟩, flush0_5 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v9).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(idx5 t).1, hv]; omega
  | ⟨1, _⟩ =>
    show win0_5.index t 1 * 1024 ≤ (i 1 : Nat) ∧ (i 1 : Nat) < win0_5.index t 1 * 1024 + 1024
    rw [(idx5 t).2]; omega

/-- The result array after the run. -/
theorem final_o (c : Dev nD) : (dats m 0 c).arrAt 5 cfg0.N = result m c :=
  (dats m 0 c).arrAt_eq_of_cover 5 (result m c) (fun t _ => flushed_eq m c t) cover

/-- The claim: the kernel's result array and the reference's are equal over the extended reals. -/
theorem algebraic : Cert.algebraic_FfnIdeal_RefFfnIdeal := by
  intro m ρ m' ρ' _ hagree
  refine ⟨fun c => result m c, ?_, ?_⟩
  · exact (θ_run Cert.FfnIdeal.defs _ _).mono (fun _ h c => ⟨(h c).1.trans (final_o m c), (h c).2⟩)
      (Value.run_blocks (F := Ideal) m ρ)
  · refine (θ_run Cert.RefFfnIdeal.defs _ _).mono (fun _ h c => ⟨(h c).1.trans ?_, (h c).2⟩)
      (Cert.RefFfnIdeal.Value.run (F := Ideal) m' ρ')
    obtain ⟨e0, e1, e2, e3, e4⟩ := hagree c
    funext j
    obtain ⟨r, l, rfl⟩ : ∃ (r : Fin 32768) (l : Fin 1024), j = ix2 r l := ⟨j 0, j 1, eq_ix2 j⟩
    refine (ref_apply m' c r l).trans ?_
    rw [e0, e1, e2, e3, e4]
    rfl

end Cert.FfnIdeal.Block

end
-- ==== Proof.MidBlock.lean ====
/-
  What one grid point of the residual-mix and feed-forward call without a final norm leaves in its output block: the rows' mixed input, its
  RMS norm, and half the eleven feed-forward chunks added up in order, as one term of the point's input
  blocks (`out_A`). Holds for any reading of the floats.
-/
module

public import proofs.«01_k».proof.Proof.Gen.FfnMidIdeal.Value

@[expose] public section

set_option maxRecDepth 16384

noncomputable section

namespace Cert.FfnMidIdeal.Block

open Cert.FfnMidIdeal Cert.FfnMidIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A whole-block store, read back. -/
theorem read_store {e : EltTy} (v : View sig .tc .vmem S512x1024 e) (f : v.ty.Contents (Elt F)) (w : S512x1024.Idx → Elt F e)
    (L : List (View.Piece (Elt F) S512x1024 e)) :
    v.read (Elt F) (v.writes (Elt F) f (⟨Rect.unit ![0, 0] S512x1024.size inb_S512x1024_S512x1024_0_0, w⟩ :: L)) = w := by
  rw [View.read_writes_eq_canon v f (⟨Rect.unit ![0, 0] S512x1024.size inb_S512x1024_S512x1024_0_0, w⟩ :: L)
    (fun y => ⟨_, List.mem_cons_self, View.mem_set_unit_zero hz inb_S512x1024_S512x1024_0_0 y⟩), View.canon_cons_unit_zero hz]

/-- Chunk `k` of a gate or up weight. -/
def upChunk (w : Vec F S11x1024x256 .bf16) (k : Fin k0_t1_loop.trips) : Vec F S1x1024x256 .bf16 :=
  View.ld w (Rect.unit (s := S11x1024x256) (k0_off1 k) S1x1024x256.size (k0_off1_inb k))

/-- Chunk `k` of the down weight. -/
def downChunk (w : Vec F S11x256x1024 .bf16) (k : Fin k0_t1_loop.trips) : Vec F S1x256x1024 .bf16 :=
  View.ld w (Rect.unit (s := S11x256x1024) (k0_off2 k) S1x256x1024.size (k0_off2_inb k))

/-- The accumulator after the first `k` chunks, from `z`. -/
def acc (h : Vec F S512x1024 .bf16) (wg wu : Vec F S11x1024x256 .bf16) (wd : Vec F S11x256x1024 .bf16)
    (z : Vec F S512x1024 .f32) : ℕ → Vec F S512x1024 .f32
  | 0 => z
  | k + 1 => if hk : k < k0_t1_loop.trips then
      k0_pay1 h (upChunk wg ⟨k, hk⟩) (upChunk wu ⟨k, hk⟩) (acc h wg wu wd z k) (downChunk wd ⟨k, hk⟩) else acc h wg wu wd z k

/-- What one chunk leaves in the accumulator, from what it finds there. -/
theorem trip_read (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (k : Fin k0_t1_loop.trips) (f G : BufTy.Contents (Elt F) arg11.view.ty) (L : List (View.Piece (Elt F) S512x1024 .f32)) :
    arg11.view.read (Elt F) (arg11.view.writes (Elt F) G (tripL_k0_t1 (F := F) 𝒱 c bd i arg1 harg1 arg2 harg2 arg3 harg3 arg4 harg4 arg5 harg5 arg6 harg6 arg7 harg7 arg8 harg8 arg9 harg9 arg10 harg10 arg11 harg11 X_arg6 X_arg7 X_arg8 X_arg10 k f ++ L))
      = k0_pay1 (arg10.view.read (Elt F) X_arg10) (upChunk (arg6.view.read (Elt F) X_arg6) k) (upChunk (arg7.view.read (Elt F) X_arg7) k)
          (arg11.view.read (Elt F) f) (downChunk (arg8.view.read (Elt F) X_arg8) k) := by
  unfold tripL_k0_t1 trip_k0_t1
  dsimp only
  sl_unfold_words
  rw [List.singleton_append, read_store]
  simp only [View.readAt_eq_ld]
  rw [View.ld_unit_zero (S := S512x1024) hz, View.ld_unit_zero (S := S512x1024) hz]
  rfl

/-- The accumulator after the first `k` chunks, read. -/
theorem pb_read (𝒱 : Variants) (c : Dev nD) (bd : Option 𝒱.V) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole) (X_arg6 : BufTy.Contents (Elt F) arg6.view.ty) (X_arg7 : BufTy.Contents (Elt F) arg7.view.ty) (X_arg8 : BufTy.Contents (Elt F) arg8.view.ty) (X_arg10 : BufTy.Contents (Elt F) arg10.view.ty) (G : BufTy.Contents (Elt F) arg11.view.ty) (k : ℕ) (hk : k ≤ k0_t1_loop.trips) :
    arg11.view.read (Elt F) (arg11.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 X_arg6 X_arg7 X_arg8 X_arg10 G k))
      = acc (arg10.view.read (Elt F) X_arg10) (arg6.view.read (Elt F) X_arg6) (arg7.view.read (Elt F) X_arg7)
          (arg8.view.read (Elt F) X_arg8) (arg11.view.read (Elt F) G) k := by
  induction k with
  | zero => rfl
  | succ k ih =>
    rw [pb_k0_t1_succ (F := F) 𝒱 c bd i arg1 harg1 arg2 harg2 arg3 harg3 arg4 harg4 arg5 harg5 arg6 harg6 arg7 harg7 arg8 harg8 arg9 harg9 arg10 harg10 arg11 harg11 X_arg6 X_arg7 X_arg8 X_arg10 G ⟨k, hk⟩, trip_read, ih (by omega), acc, dif_pos (show k < k0_t1_loop.trips from hk)]

/-- The first and the last 512 rows of the mixing weight. -/
abbrev mixLo (w : Vec F S1024x1024 .bf16) : Vec F S512x1024 .bf16 :=
  View.ld w (Rect.unit (s := S1024x1024) ![0, 0] S512x1024.size inb_S1024x1024_S512x1024_0_0)
abbrev mixHi (w : Vec F S1024x1024 .bf16) : Vec F S512x1024 .bf16 :=
  View.ld w (Rect.unit (s := S1024x1024) ![512, 0] S512x1024.size inb_S1024x1024_S512x1024_512_0)

/-- What a point leaves in its output block. -/
theorem out_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S11x1024x256 .bf16) (harg6 : arg6.IsWhole) (arg7 : Memref sig .tc .vmem S11x1024x256 .bf16) (harg7 : arg7.IsWhole) (arg8 : Memref sig .tc .vmem S11x256x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .f32) (harg11 : arg11.IsWhole)
    (x0 : Vec F S512x1024 .f32) (x1 : Vec F S512x512 .bf16) (x2 : Vec F S512x512 .bf16) (x3 : Vec F S1024x1024 .bf16) (x4 : Vec F S1x1024 .f32) (x5 : Vec F S11x1024x256 .bf16) (x6 : Vec F S11x1024x256 .bf16) (x7 : Vec F S11x256x1024 .bf16) :
    out0_A_8 c i arg1 harg1 arg2 harg2 arg3 harg3 arg4 harg4 arg5 harg5 arg6 harg6 arg7 harg7 arg8 harg8 arg9 harg9 arg10 harg10 arg11 harg11 x0 x1 x2 x3 x4 x5 x6 x7
      = k0_pay2 (k0_pay3 x0 x1 (mixLo x3) x2 (mixHi x3))
          (acc (k0_pay4 x0 x1 (mixLo x3) x2 (mixHi x3) x4) x5 x6 x7 (k0_pay5 (F := F)) k0_t1_loop.trips) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  rw [View.canon_cons_unit_zero hz]
  simp only [View.readAt_eq_ld, harg1.read_unread, harg2.read_unread, harg3.read_unread, harg4.read_unread, harg5.read_unread,
    harg6.read_unread, harg7.read_unread, harg8.read_unread]
  rw [View.readCov_unit_zero (S := S512x1024) arg9.view hz]
  unfold View.readCov
  rw [View.readAt_eq_ld, View.writes_append]
  rw [show Scf.trips (0#32) (Scalar.addi 0#32 11#32) 1#32 = k0_t1_loop.trips from rfl,
    pb_read (F := F) Variants.none c none i arg1 harg1 arg2 harg2 arg3 harg3 arg4 harg4 arg5 harg5 arg6 harg6 arg7 harg7 arg8 harg8 arg9 harg9 arg10 harg10 arg11 harg11 _ _ _ _ _ _ le_rfl]
  rw [read_store, read_store]
  rw [harg6.read_unread, harg7.read_unread, harg8.read_unread]
  rw [View.ld_unit_zero (S := S512x1024) hz, View.ld_unit_zero (S := S512x1024) hz, View.ld_unit_zero (S := S512x512) hz,
    View.ld_unit_zero (S := S512x512) hz, View.ld_unit_zero (S := S1x1024) hz]

end Cert.FfnMidIdeal.Block

end
-- ==== Proof.MidAlg.lean ====
/-
  The second feed-forward call without a final norm, one row at a time over the extended reals: the kernel's block values
  (`pay1_apply` … `acc_all`) and the reference's result (`ref_apply`) read as the mixed row plus half the feed-forward
  product of its RMS norm.
-/
module

public import proofs.«01_k».proof.Proof.MidBlock
public import proofs.«01_k».proof.Proof.FfnAlg
public import proofs.«01_k».proof.Proof.Gen.RefFfnMidIdeal.Run
public import Idealize.ShloMosaic.Lib.Pointwise
public import Idealize.ShloMosaic.Lib.Tactic.CleanTypes

@[expose] public section

set_option maxRecDepth 16384

noncomputable section

namespace Cert.FfnMidIdeal.Block

open Cert.FfnMidIdeal Cert.FfnMidIdeal.Gen Idealize.ShloMosaic Idealize.ShloMosaic.TcCoe Idealize.SL.Sem
open Cert.FfnMixIdeal.Block (mixRow rmsRow proj hid ffnRow sum_chunks)
open Cert.FfnIdeal.Block (halfRow)

theorem trips_eq : k0_t1_loop.trips = 11 := by decide

theorem up_apply (w : Vec Ideal S11x1024x256 .bf16) (k : Fin k0_t1_loop.trips) (a : Fin 1024) (b : Fin 256) :
    upChunk w k (ix3 0 a b) = w (ix3 ⟨k.val, lt_of_lt_of_eq k.isLt trips_eq⟩ a b) := by
  have e0 : k0_off1 k 0 = k.val := by rw [k0_off1_eq]; rfl
  have e1 : k0_off1 k 1 = 0 := by rw [k0_off1_eq]; rfl
  have e2 : k0_off1 k 2 = 0 := by rw [k0_off1_eq]; rfl
  unfold upChunk
  pointwise
  simp only [e0, e1, e2, zero_add]
  rfl

theorem down_apply (w : Vec Ideal S11x256x1024 .bf16) (k : Fin k0_t1_loop.trips) (a : Fin 256) (b : Fin 1024) :
    downChunk w k (ix3 0 a b) = w (ix3 ⟨k.val, lt_of_lt_of_eq k.isLt trips_eq⟩ a b) := by
  have e0 : k0_off2 k 0 = k.val := by rw [k0_off2_eq]; rfl
  have e1 : k0_off2 k 1 = 0 := by rw [k0_off2_eq]; rfl
  have e2 : k0_off2 k 2 = 0 := by rw [k0_off2_eq]; rfl
  unfold downChunk
  pointwise
  simp only [e0, e1, e2, zero_add]
  rfl

theorem pay1_apply (v54 : Vec Ideal S512x1024 .bf16) (v56 : Vec Ideal S1x1024x256 .bf16) (v60 : Vec Ideal S1x1024x256 .bf16) (v67 : Vec Ideal S512x1024 .f32) (v69 : Vec Ideal S1x256x1024 .bf16) (r : Fin 512) (l : Fin 1024) :
    k0_pay1 v54 v56 v60 v67 v69 (ix2 r l) = v67 (ix2 r l) + ∑ f : Fin 256,
      ((∑ k : Fin 1024, v54 (ix2 r k) * v56 (ix3 0 k f)) * Ideal.logistic (∑ k : Fin 1024, v54 (ix2 r k) * v56 (ix3 0 k f))
        * (∑ k : Fin 1024, v54 (ix2 r k) * v60 (ix3 0 k f))) * v69 (ix3 0 f l) := by
  pointwise [k0_pay1]

theorem pay3_apply (v0 : Vec Ideal S512x1024 .f32) (v1 : Vec Ideal S512x512 .bf16) (w : Vec Ideal S1024x1024 .bf16) (v5 : Vec Ideal S512x512 .bf16) (r : Fin 512) (l : Fin 1024) :
    k0_pay3 v0 v1 (mixLo w) v5 (mixHi w) (ix2 r l)
      = mixRow (fun j => v0 (ix2 r j)) (fun j => v1 (ix2 r j)) (fun j => v5 (ix2 r j)) (fun k j => w (ix2 k j)) l := by
  unfold mixRow
  rw [← add_assoc]
  pointwise [k0_pay3, mixLo, mixHi]

theorem pay4_apply (v0 : Vec Ideal S512x1024 .f32) (v1 : Vec Ideal S512x512 .bf16) (v2 : Vec Ideal S512x1024 .bf16) (v5 : Vec Ideal S512x512 .bf16) (v6 : Vec Ideal S512x1024 .bf16) (v10 : Vec Ideal S1x1024 .f32)(r : Fin 512) (l : Fin 1024) :
    k0_pay4 v0 v1 v2 v5 v6 v10 (ix2 r l)
      = rmsRow (fun j => k0_pay3 v0 v1 v2 v5 v6 (ix2 r j)) (fun j => v10 (ix2 0 j)) l := by
  unfold rmsRow
  pointwise [k0_pay4]

theorem pay2_apply (v33 : Vec Ideal S512x1024 .f32) (v35 : Vec Ideal S512x1024 .f32) (r : Fin 512) (l : Fin 1024) :
    k0_pay2 v33 v35 (ix2 r l) = v33 (ix2 r l) + Ideal.ofBits .f32 0x3F000000#32 * v35 (ix2 r l) := by
  pointwise [k0_pay2]

theorem pay5_apply (r : Fin 512) (l : Fin 1024) : k0_pay5 (F := Ideal) (ix2 r l) = 0 := by
  pointwise [k0_pay5]

/-- The accumulator after `n` chunks, at one row: the partial sums so far. -/
theorem acc_apply (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) (n : ℕ) (hn : n ≤ 11) :
    acc h g u d (k0_pay5 (F := Ideal)) n (ix2 r l)
      = ∑ c : Fin n, ∑ f : Fin 256, hid (fun k => h (ix2 r k)) wg wu wd l ⟨c.val * 256 + f.val, by omega⟩ := by
  induction n with
  | zero => rw [acc, pay5_apply]; simp
  | succ n ih =>
    rw [acc, dif_pos (show n < k0_t1_loop.trips by rw [trips_eq]; omega), pay1_apply, ih (by omega), Fin.sum_univ_castSucc (n := n)]
    simp only [up_apply, down_apply, hg, hu, hd]
    rfl

/-- The whole accumulation at one row: the feed-forward product. -/
theorem acc_all (h : Vec Ideal S512x1024 .bf16) (g u : Vec Ideal S11x1024x256 .bf16) (d : Vec Ideal S11x256x1024 .bf16)
    (wg wu : Fin 1024 → Fin 2816 → EReal) (wd : Fin 2816 → Fin 1024 → EReal)
    (hg : ∀ (c : Fin 11) (k : Fin 1024) (f : Fin 256), g (ix3 c k f) = wg k ⟨c.val * 256 + f.val, by omega⟩)
    (hu : ∀ (c : Fin 11) (k : Fin 1024) (f : Fin 256), u (ix3 c k f) = wu k ⟨c.val * 256 + f.val, by omega⟩)
    (hd : ∀ (c : Fin 11) (f : Fin 256) (j : Fin 1024), d (ix3 c f j) = wd ⟨c.val * 256 + f.val, by omega⟩ j)
    (r : Fin 512) (l : Fin 1024) :
    acc h g u d (k0_pay5 (F := Ideal)) k0_t1_loop.trips (ix2 r l) = ffnRow (fun k => h (ix2 r k)) wg wu wd l := by
  rw [trips_eq, acc_apply h g u d wg wu wd hg hu hd r l 11 le_rfl, ffnRow]
  exact sum_chunks _

theorem ref_apply (m : (ℓ : Loc Cert.RefFfnMidIdeal.nD Cert.RefFfnMidIdeal.τ Cert.RefFfnMidIdeal.sig) → Buf (Elt Ideal) ℓ)
    (c : Dev Cert.RefFfnMidIdeal.nD) (r : Fin 32768) (l : Fin 1024) :
    Cert.RefFfnMidIdeal.Value.res_main_v26 m c (ix2 r l)
      = halfRow (mixRow (fun j => m (c.tc.loc Cert.RefFfnMidIdeal.main_arg0) (ix2 r j)) (fun j => m (c.tc.loc Cert.RefFfnMidIdeal.main_arg1) (ix2 r j))
            (fun j => m (c.tc.loc Cert.RefFfnMidIdeal.main_arg2) (ix2 r j)) (fun k j => m (c.tc.loc Cert.RefFfnMidIdeal.main_arg3) (ix2 k j)))
          (fun j => m (c.tc.loc Cert.RefFfnMidIdeal.main_arg4) (ix1 j)) (fun k j => m (c.tc.loc Cert.RefFfnMidIdeal.main_arg5) (ix2 k j))
          (fun k j => m (c.tc.loc Cert.RefFfnMidIdeal.main_arg6) (ix2 k j)) (fun k j => m (c.tc.loc Cert.RefFfnMidIdeal.main_arg7) (ix2 k j)) l := by
  unfold Cert.RefFfnMidIdeal.Value.res_main_v26
  clean_types
  pointwise
  simp only [halfRow, rmsRow, ffnRow, hid, proj, mixRow]

end Cert.FfnMidIdeal.Block

end
-- ==== Proof.MidRun.lean ====
/-
  The second feed-forward call's run without a final norm, read: its result array is the reference's composed term of the same arguments, block by
  block (`flushed_eq`), hence as a whole (`final_o`), and the claim `algebraic`.
-/
module

public import proofs.«01_k».proof.Proof.MidAlg
public import proofs.«01_k».proof.Defs

@[expose] public section

set_option maxRecDepth 16384

noncomputable section

namespace Cert.FfnMidIdeal.Block

open Cert.FfnMidIdeal Cert.FfnMidIdeal.Gen Idealize.ShloMosaic Idealize.ShloMosaic.TcCoe Idealize.SL.Sem
open Idealize.ShloMosaic.Pipeline (Dat)
open Cert.FfnMixIdeal.Block (mixRow rmsRow ffnRow)
open Cert.FfnIdeal.Block (halfRow)

variable (m : (ℓ : Loc nD τ sig) → Buf (Elt Ideal) ℓ) (ρ : Dev nD → PrngReg)

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx8 : ∀ t : Fin grid0.N, win0_8.index t 0 = t.val ∧ win0_8.index t 1 = 0 := by decide +kernel

/-- The prepared gate weight, in chunks. -/
theorem V_gate (c : Dev nD) : V m c main_v2
    = transpose S11x1024x256 [1, 0, 2] (shapeCast S1024x11x256 (truncf (F := Ideal) .bf16 (m (c.tc.loc main_arg5)) bitsLt_bf16_f32)
        shapeCasts_S1024x2816_S1024x11x256) transposes_S1024x11x256_S11x1024x256_1_0_2 := by
  unfold V
  simp only [hostOps0]
  after_results_simp <;> rfl

/-- The prepared up weight, in chunks. -/
theorem V_up (c : Dev nD) : V m c main_v5
    = transpose S11x1024x256 [1, 0, 2] (shapeCast S1024x11x256 (truncf (F := Ideal) .bf16 (m (c.tc.loc main_arg6)) bitsLt_bf16_f32)
        shapeCasts_S1024x2816_S1024x11x256) transposes_S1024x11x256_S11x1024x256_1_0_2 := by
  unfold V
  simp only [hostOps0]
  after_results_simp <;> rfl

/-- The prepared down weight, in chunks. -/
theorem V_down (c : Dev nD) : V m c main_v7
    = shapeCast S11x256x1024 (truncf (F := Ideal) .bf16 (m (c.tc.loc main_arg7)) bitsLt_bf16_f32) shapeCasts_S2816x1024_S11x256x1024 := by
  unfold V
  simp only [hostOps0]
  after_results_simp <;> rfl

/-- The gain of the inner norm, as a row. -/
theorem V_ng (c : Dev nD) : V m c main_v8
    = shapeCast S1x1024 (m (c.tc.loc main_arg4)) shapeCasts_S1024_S1x1024 := by
  unfold V
  simp only [hostOps0]
  after_results_simp <;> rfl

theorem blk0 (c : Dev nD) (t : Fin cfg0.N) (r : Fin 512) (l : Fin 1024) :
    (iblk m c 0 t : Vec Ideal S512x1024 .f32) (ix2 r l)
      = m (c.tc.loc main_arg0) (ix2 ⟨t.val * 512 + r.val, by have := lt_of_lt_of_eq t.isLt N_0; omega⟩ l) := by
  unfold iblk
  rw [View.read_apply]
  show V m c main_arg0 _ = _
  rw [V_main_arg0]
  refine congrArg _ (funext fun a => Fin.ext ?_)
  match a with
  | ⟨0, _⟩ => show win0_0.index t 0 * 512 + 1 * r.val = t.val * 512 + r.val; rw [(idx0 t).1]; omega
  | ⟨1, _⟩ => show win0_0.index t 1 * 1024 + 1 * l.val = l.val; rw [(idx0 t).2]; omega

theorem blk1 (c : Dev nD) (t : Fin cfg0.N) (r : Fin 512) (l : Fin 512) :
    (iblk m c 1 t : Vec Ideal S512x512 .bf16) (ix2 r l)
      = m (c.tc.loc main_arg1) (ix2 ⟨t.val * 512 + r.val, by have := lt_of_lt_of_eq t.isLt N_0; omega⟩ l) := by
  unfold iblk
  rw [View.read_apply]
  show V m c main_arg1 _ = _
  rw [V_main_arg1]
  refine congrArg _ (funext fun a => Fin.ext ?_)
  match a with
  | ⟨0, _⟩ => show win0_1.index t 0 * 512 + 1 * r.val = t.val * 512 + r.val; rw [(idx1 t).1]; omega
  | ⟨1, _⟩ => show win0_1.index t 1 * 512 + 1 * l.val = l.val; rw [(idx1 t).2]; omega

theorem blk2 (c : Dev nD) (t : Fin cfg0.N) (r : Fin 512) (l : Fin 512) :
    (iblk m c 2 t : Vec Ideal S512x512 .bf16) (ix2 r l)
      = m (c.tc.loc main_arg2) (ix2 ⟨t.val * 512 + r.val, by have := lt_of_lt_of_eq t.isLt N_0; omega⟩ l) := by
  unfold iblk
  rw [View.read_apply]
  show V m c main_arg2 _ = _
  rw [V_main_arg2]
  refine congrArg _ (funext fun a => Fin.ext ?_)
  match a with
  | ⟨0, _⟩ => show win0_2.index t 0 * 512 + 1 * r.val = t.val * 512 + r.val; rw [(idx2 t).1]; omega
  | ⟨1, _⟩ => show win0_2.index t 1 * 512 + 1 * l.val = l.val; rw [(idx2 t).2]; omega

theorem idx3 : ∀ (t : Fin grid0.N) (a : Fin 2), win0_3.index t a = 0 := by decide +kernel
theorem blk3 (c : Dev nD) (t : Fin cfg0.N) : (iblk m c 3 t : Vec Ideal S1024x1024 .bf16) = V m c main_arg3 := by
  funext j
  unfold iblk
  rw [View.read_apply]
  show V m c main_arg3 _ = _
  refine congrArg _ (funext fun a => Fin.ext ?_)
  match a with
  | ⟨0, _⟩ => show win0_3.index t 0 * 1024 + 1 * (j 0).val = (j 0).val; rw [idx3 t 0]; omega
  | ⟨1, _⟩ => show win0_3.index t 1 * 1024 + 1 * (j 1).val = (j 1).val; rw [idx3 t 1]; omega

theorem idx4 : ∀ (t : Fin grid0.N) (a : Fin 2), win0_4.index t a = 0 := by decide +kernel
theorem blk4 (c : Dev nD) (t : Fin cfg0.N) : (iblk m c 4 t : Vec Ideal S1x1024 .f32) = V m c main_v8 := by
  funext j
  unfold iblk
  rw [View.read_apply]
  show V m c main_v8 _ = _
  refine congrArg _ (funext fun a => Fin.ext ?_)
  match a with
  | ⟨0, _⟩ => show win0_4.index t 0 * 1 + 1 * (j 0).val = (j 0).val; rw [idx4 t 0]; omega
  | ⟨1, _⟩ => show win0_4.index t 1 * 1024 + 1 * (j 1).val = (j 1).val; rw [idx4 t 1]; omega

theorem idx5 : ∀ (t : Fin grid0.N) (a : Fin 3), win0_5.index t a = 0 := by decide +kernel
theorem blk5 (c : Dev nD) (t : Fin cfg0.N) : (iblk m c 5 t : Vec Ideal S11x1024x256 .bf16) = V m c main_v2 := by
  funext j
  unfold iblk
  rw [View.read_apply]
  show V m c main_v2 _ = _
  refine congrArg _ (funext fun a => Fin.ext ?_)
  match a with
  | ⟨0, _⟩ => show win0_5.index t 0 * 11 + 1 * (j 0).val = (j 0).val; rw [idx5 t 0]; omega
  | ⟨1, _⟩ => show win0_5.index t 1 * 1024 + 1 * (j 1).val = (j 1).val; rw [idx5 t 1]; omega
  | ⟨2, _⟩ => show win0_5.index t 2 * 256 + 1 * (j 2).val = (j 2).val; rw [idx5 t 2]; omega

theorem idx6 : ∀ (t : Fin grid0.N) (a : Fin 3), win0_6.index t a = 0 := by decide +kernel
theorem blk6 (c : Dev nD) (t : Fin cfg0.N) : (iblk m c 6 t : Vec Ideal S11x1024x256 .bf16) = V m c main_v5 := by
  funext j
  unfold iblk
  rw [View.read_apply]
  show V m c main_v5 _ = _
  refine congrArg _ (funext fun a => Fin.ext ?_)
  match a with
  | ⟨0, _⟩ => show win0_6.index t 0 * 11 + 1 * (j 0).val = (j 0).val; rw [idx6 t 0]; omega
  | ⟨1, _⟩ => show win0_6.index t 1 * 1024 + 1 * (j 1).val = (j 1).val; rw [idx6 t 1]; omega
  | ⟨2, _⟩ => show win0_6.index t 2 * 256 + 1 * (j 2).val = (j 2).val; rw [idx6 t 2]; omega

theorem idx7 : ∀ (t : Fin grid0.N) (a : Fin 3), win0_7.index t a = 0 := by decide +kernel
theorem blk7 (c : Dev nD) (t : Fin cfg0.N) : (iblk m c 7 t : Vec Ideal S11x256x1024 .bf16) = V m c main_v7 := by
  funext j
  unfold iblk
  rw [View.read_apply]
  show V m c main_v7 _ = _
  refine congrArg _ (funext fun a => Fin.ext ?_)
  match a with
  | ⟨0, _⟩ => show win0_7.index t 0 * 11 + 1 * (j 0).val = (j 0).val; rw [idx7 t 0]; omega
  | ⟨1, _⟩ => show win0_7.index t 1 * 256 + 1 * (j 1).val = (j 1).val; rw [idx7 t 1]; omega
  | ⟨2, _⟩ => show win0_7.index t 2 * 1024 + 1 * (j 2).val = (j 2).val; rw [idx7 t 2]; omega

theorem gate_apply (c : Dev nD) (t : Fin cfg0.N) (b : Fin 11) (k : Fin 1024) (f : Fin 256) :
    (iblk m c 5 t : Vec Ideal S11x1024x256 .bf16) (ix3 b k f) = m (c.tc.loc main_arg5) (ix2 k ⟨b.val * 256 + f.val, by omega⟩) := by
  rw [blk5, V_gate]; pointwise

theorem up_w_apply (c : Dev nD) (t : Fin cfg0.N) (b : Fin 11) (k : Fin 1024) (f : Fin 256) :
    (iblk m c 6 t : Vec Ideal S11x1024x256 .bf16) (ix3 b k f) = m (c.tc.loc main_arg6) (ix2 k ⟨b.val * 256 + f.val, by omega⟩) := by
  rw [blk6, V_up]; pointwise

theorem down_w_apply (c : Dev nD) (t : Fin cfg0.N) (b : Fin 11) (f : Fin 256) (k : Fin 1024) :
    (iblk m c 7 t : Vec Ideal S11x256x1024 .bf16) (ix3 b f k) = m (c.tc.loc main_arg7) (ix2 ⟨b.val * 256 + f.val, by omega⟩ k) := by
  rw [blk7, V_down]
  refine (shapeCast_apply _ _ _ (ix2 ⟨b.val * 256 + f.val, by omega⟩ k) ?_).trans rfl
  rw [Shape.rowMajor_val_two, Shape.rowMajor_val_three]
  show (b.val * 256 + f.val) * 1024 + k.val = (b.val * 256 + f.val) * 1024 + k.val
  rfl

theorem ng_apply (c : Dev nD) (t : Fin cfg0.N) (k : Fin 1024) :
    (iblk m c 4 t : Vec Ideal S1x1024 .f32) (ix2 0 k) = m (c.tc.loc main_arg4) (ix1 k) := by
  rw [blk4, V_ng]; pointwise

theorem wo_apply (c : Dev nD) (t : Fin cfg0.N) (k j : Fin 1024) :
    (iblk m c 3 t : Vec Ideal S1024x1024 .bf16) (ix2 k j) = m (c.tc.loc main_arg3) (ix2 k j) := by
  rw [blk3, V_main_arg3]

/-- The result: row by row, the mix plus half the feed-forward sum of the arguments. -/
def result (c : Dev nD) : Buf (Elt Ideal) ((c.tc : Thread nD τ).loc main_v9) := fun i : S32768x1024.Idx =>
  halfRow (mixRow (fun j => m (c.tc.loc main_arg0) (ix2 (i 0) j)) (fun j => m (c.tc.loc main_arg1) (ix2 (i 0) j))
      (fun j => m (c.tc.loc main_arg2) (ix2 (i 0) j)) (fun k j => m (c.tc.loc main_arg3) (ix2 k j)))
    (fun j => m (c.tc.loc main_arg4) (ix1 j)) (fun k j => m (c.tc.loc main_arg5) (ix2 k j))
    (fun k j => m (c.tc.loc main_arg6) (ix2 k j)) (fun k j => m (c.tc.loc main_arg7) (ix2 k j)) (i 1)

/-- The body's output block from its input blocks, at a row. -/
theorem body_apply (x0 : Vec Ideal S512x1024 .f32) (x1 x2 : Vec Ideal S512x512 .bf16) (x3 : Vec Ideal S1024x1024 .bf16)
    (x4 : Vec Ideal S1x1024 .f32) (x5 x6 : Vec Ideal S11x1024x256 .bf16) (x7 : Vec Ideal S11x256x1024 .bf16)
    (wg wu : Fin 1024 → Fin 2816 → EReal) (wd : Fin 2816 → Fin 1024 → EReal)
    (hg : ∀ (c : Fin 11) (k : Fin 1024) (f : Fin 256), x5 (ix3 c k f) = wg k ⟨c.val * 256 + f.val, by omega⟩)
    (hu : ∀ (c : Fin 11) (k : Fin 1024) (f : Fin 256), x6 (ix3 c k f) = wu k ⟨c.val * 256 + f.val, by omega⟩)
    (hd : ∀ (c : Fin 11) (f : Fin 256) (j : Fin 1024), x7 (ix3 c f j) = wd ⟨c.val * 256 + f.val, by omega⟩ j)
    (r : Fin 512) (l : Fin 1024) :
    k0_pay2 (k0_pay3 x0 x1 (mixLo x3) x2 (mixHi x3))
        (acc (k0_pay4 x0 x1 (mixLo x3) x2 (mixHi x3) x4) x5 x6 x7 (k0_pay5 (F := Ideal)) k0_t1_loop.trips) (ix2 r l)
      = halfRow (mixRow (fun j => x0 (ix2 r j)) (fun j => x1 (ix2 r j)) (fun j => x2 (ix2 r j)) (fun k j => x3 (ix2 k j)))
          (fun j => x4 (ix2 0 j)) wg wu wd l := by
  rw [pay2_apply]
  simp only [acc_all _ _ _ _ _ _ _ hg hu hd, pay4_apply, pay3_apply]
  rfl

/-- A point's output block, at a row: the row of results of the block's rows. -/
theorem block_apply (c : Dev nD) (t : Fin cfg0.N) (r : Fin 512) (l : Fin 1024) :
    (outsAt0 m c t : Vec Ideal S512x1024 .f32) (ix2 r l)
      = result m c (ix2 ⟨t.val * 512 + r.val, by have := lt_of_lt_of_eq t.isLt N_0; omega⟩ l) := by
  unfold outsAt0
  rw [out_A]
  refine (body_apply _ _ _ _ _ _ _ _ (fun k j => m (c.tc.loc main_arg5) (ix2 k j))
    (fun k j => m (c.tc.loc main_arg6) (ix2 k j)) (fun k j => m (c.tc.loc main_arg7) (ix2 k j))
    (gate_apply m c t) (up_w_apply m c t) (down_w_apply m c t) r l).trans ?_
  rw [funext (blk0 m c t r), funext (blk1 m c t r), funext (blk2 m c t r), funext (ng_apply m c t),
    funext fun k => funext (wo_apply m c t k)]
  rfl

/-- What point `t` writes back is the result, read through the point's block. -/
theorem flushed_eq (c : Dev nD) (t : Fin cfg0.N) :
    (dats m 0 c).flushed 8 t = ((cfg0.win 8).blk t).view.read (Elt Ideal) (result m c) := by
  rw [Value.flushed8]
  funext j
  obtain ⟨r, l, rfl⟩ : ∃ (r : Fin 512) (l : Fin 1024), j = ix2 r l := ⟨j 0, j 1, eq_ix2 j⟩
  rw [View.read_apply]
  show (outsAt0 m c t : Vec Ideal S512x1024 .f32) (ix2 r l) = _
  rw [block_apply]
  refine congrArg (result m c) (funext fun a => Fin.ext ?_)
  match a with
  | ⟨0, _⟩ => show t.val * 512 + r.val = win0_8.index t 0 * 512 + 1 * r.val; rw [(idx8 t).1]; omega
  | ⟨1, _⟩ => show l.val = win0_8.index t 1 * 1024 + 1 * l.val; rw [(idx8 t).2]; omega

/-- The blocks tile the result array. -/
theorem cover (i : S32768x1024.Idx) : ∃ t : Fin cfg0.N, (cfg0.win 8).flush t = true ∧ i ∈ ((cfg0.win 8).blk t).view.set := by
  have h0 : (i 0 : Nat) < 32768 := (i 0).isLt
  have h1 : (i 1 : Nat) < 1024 := (i 1).isLt
  refine ⟨⟨(i 0 : Nat) / 512, lt_of_lt_of_eq (by omega) N_0.symm⟩, flush0_8 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v9).slice (win0_8.rect t)).set
  rw [View.set_slice_whole, Rect.mem_set_unit]
  intro a
  match a with
  | ⟨0, _⟩ =>
    show win0_8.index t 0 * 512 ≤ (i 0 : Nat) ∧ (i 0 : Nat) < win0_8.index t 0 * 512 + 512
    rw [(idx8 t).1, hv]; omega
  | ⟨1, _⟩ =>
    show win0_8.index t 1 * 1024 ≤ (i 1 : Nat) ∧ (i 1 : Nat) < win0_8.index t 1 * 1024 + 1024
    rw [(idx8 t).2]; omega

/-- The result array after the run. -/
theorem final_o (c : Dev nD) : (dats m 0 c).arrAt 8 cfg0.N = result m c :=
  (dats m 0 c).arrAt_eq_of_cover 8 (result m c) (fun t _ => flushed_eq m c t) cover

/-- The claim: the kernel's result array and the reference's are equal over the extended reals. -/
theorem algebraic : Cert.algebraic_FfnMidIdeal_RefFfnMidIdeal := by
  intro m ρ m' ρ' _ hagree
  refine ⟨fun c => result m c, ?_, ?_⟩
  · exact (θ_run Cert.FfnMidIdeal.defs _ _).mono (fun _ h c => ⟨(h c).1.trans (final_o m c), (h c).2⟩)
      (Value.run_blocks (F := Ideal) m ρ)
  · refine (θ_run Cert.RefFfnMidIdeal.defs _ _).mono (fun _ h c => ⟨(h c).1.trans ?_, (h c).2⟩)
      (Cert.RefFfnMidIdeal.Value.run (F := Ideal) m' ρ')
    obtain ⟨e0, e1, e2, e3, e4, e5, e6, e7⟩ := hagree c
    funext j
    obtain ⟨r, l, rfl⟩ : ∃ (r : Fin 32768) (l : Fin 1024), j = ix2 r l := ⟨j 0, j 1, eq_ix2 j⟩
    refine (ref_apply m' c r l).trans ?_
    rw [e0, e1, e2, e3, e4, e5, e6, e7]
    rfl

end Cert.FfnMidIdeal.Block

end
-- ==== Proof.InprojBlock.lean ====
/-
  What one grid point of the input-projection call leaves in its six output blocks and in the two buffers it carries to the next
  point, as terms of the point's input blocks and of what the point before left. `A` is the first point of a sequence (the carried
  rows come from the history arguments), `B` any other. Holds for any reading of the floats.
-/
module

public import proofs.«01_k».proof.Proof.Gen.InprojIdeal.Value
public import Idealize.ShloMosaic.Lib.Pointwise
public import Idealize.ShloMosaic.Lib.WritesUnit

@[expose] public section

set_option maxRecDepth 16384

noncomputable section

namespace Cert.InprojIdeal.Block

open Cert.InprojIdeal Cert.InprojIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## The terms -/

/-- A slab of the projection weight. -/
abbrev w512 (x2 : Vec F S1024x2560 .bf16) (o : ℕ) (h : ∀ a, (![0, o] : Fin 2 → ℕ) a + S1024x512.size a ≤ S1024x2560.size a) : Vec F S1024x512 .bf16 :=
  View.ld x2 (Rect.unit (s := S1024x2560) ![0, o] S1024x512.size h)
abbrev w256 (x2 : Vec F S1024x2560 .bf16) (o : ℕ) (h : ∀ a, (![0, o] : Fin 2 → ℕ) a + S1024x256.size a ≤ S1024x2560.size a) : Vec F S1024x256 .bf16 :=
  View.ld x2 (Rect.unit (s := S1024x2560) ![0, o] S1024x256.size h)

/-- The query columns before the rotation. -/
abbrev qRaw (x0 : Vec F S512x1024 .f32) (x1 : Vec F S1x1024 .f32) (x2 : Vec F S1024x2560 .bf16) : FVec F S512x512 .f32 :=
  k0_pay5 x0 x1 (w512 x2 0 inb_S1024x2560_S1024x512_0_0)
/-- The key columns before the rotation. -/
abbrev kRaw (x0 : Vec F S512x1024 .f32) (x1 : Vec F S1x1024 .f32) (x2 : Vec F S1024x2560 .bf16) : FVec F S512x512 .f32 :=
  k0_pay22 (k0_pay2 x0 x1) (w512 x2 512 inb_S1024x2560_S1024x512_0_512)
/-- The pooled columns. -/
abbrev uTerm (x0 : Vec F S512x1024 .f32) (x1 : Vec F S1x1024 .f32) (x2 : Vec F S1024x2560 .bf16) : FVec F S512x256 .f32 :=
  k0_pay33 (k0_pay2 x0 x1) (w256 x2 1536 inb_S1024x2560_S1024x256_0_1536)
/-- The convolved columns. -/
abbrev zTerm (x0 : Vec F S512x1024 .f32) (x1 : Vec F S1x1024 .f32) (x2 : Vec F S1024x2560 .bf16) : FVec F S512x256 .f32 :=
  k0_pay34 (k0_pay2 x0 x1) (w256 x2 2304 inb_S1024x2560_S1024x256_0_2304) (w256 x2 1792 inb_S1024x2560_S1024x256_0_1792)
/-- The value columns. -/
abbrev vTerm (x0 : Vec F S512x1024 .f32) (x1 : Vec F S1x1024 .f32) (x2 : Vec F S1024x2560 .bf16) : FVec F S512x512 .f32 :=
  k0_pay32 (k0_pay2 x0 x1) (w512 x2 1024 inb_S1024x2560_S1024x512_0_1024)

/-- The rotated queries, four slabs of two heads. -/
def qTerm (x0 : Vec F S512x1024 .f32) (x1 : Vec F S1x1024 .f32) (x2 : Vec F S1024x2560 .bf16) (x3 x4 : Vec F S512x128 .f32) : Vec F S512x512 .f32 :=
  View.canon [⟨Rect.unit (s := S512x512) ![0, 384] S512x128.size inb_S512x512_S512x128_0_384,
      k0_pay21 (k0_pay4 x4) (k0_pay16 (qRaw x0 x1 x2)) (k0_pay17 (k0_pay3 x3) (qRaw x0 x1 x2)) k0_pay18 k0_pay19 k0_pay20⟩,
    ⟨Rect.unit (s := S512x512) ![0, 256] S512x128.size inb_S512x512_S512x128_0_256,
      k0_pay15 (k0_pay4 x4) (k0_pay13 (qRaw x0 x1 x2)) (k0_pay14 (k0_pay3 x3) (qRaw x0 x1 x2)) (iota Kind.tc S512x128 32 [1] iota_S512x128_d1_w32)⟩,
    ⟨Rect.unit (s := S512x512) ![0, 128] S512x128.size inb_S512x512_S512x128_0_128,
      k0_pay12 (k0_pay3 x3) (k0_pay4 x4) (qRaw x0 x1 x2)⟩,
    ⟨Rect.unit (s := S512x512) ![0, 0] S512x128.size inb_S512x512_S512x128_0_0,
      k0_pay11 (k0_pay4 x4) (k0_pay6 x0 x1 (w512 x2 0 inb_S1024x2560_S1024x512_0_0))
        (k0_pay7 x0 x1 x3 (w512 x2 0 inb_S1024x2560_S1024x512_0_0)) 64#32 k0_pay8 k0_pay9 k0_pay10⟩]

/-- The rotated keys, four slabs of two heads. -/
def kTerm (x0 : Vec F S512x1024 .f32) (x1 : Vec F S1x1024 .f32) (x2 : Vec F S1024x2560 .bf16) (x3 x4 : Vec F S512x128 .f32) : Vec F S512x512 .f32 :=
  View.canon [⟨Rect.unit (s := S512x512) ![0, 384] S512x128.size inb_S512x512_S512x128_0_384,
      k0_pay31 (k0_pay3 x3) (k0_pay4 x4) (kRaw x0 x1 x2)⟩,
    ⟨Rect.unit (s := S512x512) ![0, 256] S512x128.size inb_S512x512_S512x128_0_256,
      k0_pay30 (k0_pay4 x4) (k0_pay25 (kRaw x0 x1 x2)) (k0_pay26 (k0_pay3 x3) (kRaw x0 x1 x2)) 64#32 k0_pay27 k0_pay28 k0_pay29⟩,
    ⟨Rect.unit (s := S512x512) ![0, 128] S512x128.size inb_S512x512_S512x128_0_128,
      k0_pay24 (k0_pay3 x3) (k0_pay4 x4) (kRaw x0 x1 x2)⟩,
    ⟨Rect.unit (s := S512x512) ![0, 0] S512x128.size inb_S512x512_S512x128_0_0,
      k0_pay23 (k0_pay2 x0 x1) (k0_pay3 x3) (k0_pay4 x4) (w512 x2 512 inb_S1024x2560_S1024x512_0_512)⟩]

/-- The pooling buffer: 16 carried rows, then the point's 512. -/
def bufU (u : Vec F S512x256 .f32) (h : Vec F S16x256 .f32) : Vec F S528x256 .f32 :=
  View.canon [⟨Rect.unit (s := S528x256) ![16, 0] ![512, 256] inb_S528x256_S512x256_16_0, u⟩, ⟨Rect.unit (s := S528x256) ![0, 0] ![16, 256] inb_S528x256_S16x256_0_0, h⟩]
/-- The convolution buffer: 8 carried rows, then the point's 512. -/
def bufZ (z : Vec F S512x256 .f32) (h : Vec F S8x256 .f32) : Vec F S520x256 .f32 :=
  View.canon [⟨Rect.unit (s := S520x256) ![8, 0] ![512, 256] inb_S520x256_S512x256_8_0, z⟩, ⟨Rect.unit (s := S520x256) ![0, 0] ![8, 256] inb_S520x256_S8x256_0_0, h⟩]

/-- 512 rows of the pooling buffer from row `o`, 128 columns from column `l`. -/
abbrev ldU (U : Vec F S528x256 .f32) (o l : ℕ) (h : ∀ a, (![o, l] : Fin 2 → ℕ) a + S512x128.size a ≤ S528x256.size a) : Vec F S512x128 .f32 :=
  View.ld U (Rect.unit (s := S528x256) ![o, l] S512x128.size h)
/-- 512 rows of the convolution buffer from row `o`. -/
abbrev ldZ (Z : Vec F S520x256 .f32) (o : ℕ) (h : ∀ a, (![o, 0] : Fin 2 → ℕ) a + S512x256.size a ≤ S520x256.size a) : Vec F S512x256 .f32 :=
  View.ld Z (Rect.unit (s := S520x256) ![o, 0] S512x256.size h)
abbrev ldC (x7 : Vec F S3x256 .f32) (o : ℕ) (h : ∀ a, (![o, 0] : Fin 2 → ℕ) a + S1x256.size a ≤ S3x256.size a) : Vec F S1x256 .f32 :=
  View.ld x7 (Rect.unit (s := S3x256) ![o, 0] S1x256.size h)

/-- The window means minus the columns themselves. -/
def poolD (u : Vec F S512x256 .f32) (U : Vec F S528x256 .f32) (b : BitVec 32) : FVec F S512x256 .bf16 :=
  k0_pay44 u (k0_pay40 b) k0_pay41
    (k0_pay42 u b (ldU U 16 0 inb_S528x256_S512x128_16_0) (ldU U 15 0 inb_S528x256_S512x128_15_0) (ldU U 14 0 inb_S528x256_S512x128_14_0) (ldU U 13 0 inb_S528x256_S512x128_13_0))
    (k0_pay43 (ldU U 16 128 inb_S528x256_S512x128_16_128) (ldU U 15 128 inb_S528x256_S512x128_15_128) (ldU U 14 128 inb_S528x256_S512x128_14_128) (ldU U 13 128 inb_S528x256_S512x128_13_128) (ldU U 12 128 inb_S528x256_S512x128_12_128))
    (ldU U 11 128 inb_S528x256_S512x128_11_128) (ldU U 10 128 inb_S528x256_S512x128_10_128) (ldU U 9 128 inb_S528x256_S512x128_9_128) (ldU U 8 128 inb_S528x256_S512x128_8_128) (ldU U 7 128 inb_S528x256_S512x128_7_128) (ldU U 6 128 inb_S528x256_S512x128_6_128) (ldU U 5 128 inb_S528x256_S512x128_5_128) (ldU U 4 128 inb_S528x256_S512x128_4_128) (ldU U 3 128 inb_S528x256_S512x128_3_128) (ldU U 2 128 inb_S528x256_S512x128_2_128) (ldU U 1 128 inb_S528x256_S512x128_1_128)

/-- The pooling and convolution block. -/
def pcTerm (i : grid0.Coords) (x0 : Vec F S512x1024 .f32) (x1 : Vec F S1x1024 .f32) (x2 : Vec F S1024x2560 .bf16) (x5 : Vec F S256x256 .bf16) (x6 : Vec F S1x256 .f32)
    (x7 : Vec F S3x256 .f32) (U : Vec F S528x256 .f32) (Z : Vec F S520x256 .f32) : Vec F S512x512 .bf16 :=
  View.canon [⟨Rect.unit (s := S512x512) ![0, 256] S512x256.size inb_S512x512_S512x256_0_256,
      k0_pay46 (k0_pay35 (k0_pay2 x0 x1) (w256 x2 2048 inb_S1024x2560_S1024x256_0_2048)) (ldZ Z 6 inb_S520x256_S512x256_6_0) (ldC x7 0 inb_S3x256_S1x256_0_0) (ldZ Z 7 inb_S520x256_S512x256_7_0) (ldC x7 1 inb_S3x256_S1x256_1_0) (ldZ Z 8 inb_S520x256_S512x256_8_0) (ldC x7 2 inb_S3x256_S1x256_2_0)⟩,
    ⟨Rect.unit (s := S512x512) ![0, 0] S512x256.size inb_S512x512_S512x256_0_0,
      k0_pay45 (poolD (uTerm x0 x1 x2) U (Scalar.muli (BitVec.ofNat 32 (i 1).val) 512#32)) x5 x6⟩]

/-! ## Reading the two buffers -/

theorem pay38_eq (a : FVec F S512x1024 .bf16) (b : Vec F S1024x256 .bf16) : k0_pay38 a b = k0_pay33 a b :=
  funext fun j => shapeCast_apply _ _ _ j rfl
theorem pay39_eq (a : FVec F S512x1024 .bf16) (b d : Vec F S1024x256 .bf16) : k0_pay39 a b d = k0_pay34 a b d :=
  funext fun j => by unfold k0_pay39; exact shapeCast_apply (k0_pay34 a b d) shapeCasts_S512x256_S512x256 j j rfl
theorem pay47_eq (a : Vec F S16x256 .f32) : k0_pay47 a = a := funext fun j => shapeCast_apply _ _ _ j rfl
theorem pay1_eq (a : Vec F S8x256 .f32) : k0_pay1 a = a := funext fun j => shapeCast_apply _ _ _ j rfl

theorem readCov_U (v : View sig .tc .vmem S528x256 .f32) (u : Vec F S512x256 .f32) (h : Vec F S16x256 .f32) (r : Rect S528x256) :
    v.readCov [⟨Rect.unit ![16, 0] ![512, 256] inb_S528x256_S512x256_16_0, u⟩, ⟨Rect.unit ![0, 0] ![16, 256] inb_S528x256_S16x256_0_0, h⟩] r.toLoadRect
      = View.ld (bufU u h) r :=
  View.readCov_eq_canon_ld v _ r (fun y => View.cover_of_tiledBy _ ![16, 256] (by sl_kernel_rfl) y)

theorem readCov_Z (v : View sig .tc .vmem S520x256 .f32) (u : Vec F S512x256 .f32) (h : Vec F S8x256 .f32) (r : Rect S520x256) :
    v.readCov [⟨Rect.unit ![8, 0] ![512, 256] inb_S520x256_S512x256_8_0, u⟩, ⟨Rect.unit ![0, 0] ![8, 256] inb_S520x256_S8x256_0_0, h⟩] r.toLoadRect
      = View.ld (bufZ u h) r :=
  View.readCov_eq_canon_ld v _ r (fun y => View.cover_of_tiledBy _ ![8, 256] (by sl_kernel_rfl) y)

theorem bufU_hi (u : Vec F S512x256 .f32) (h : Vec F S16x256 .f32) (r : Fin 512) (l : Fin 256) :
    bufU u h (ix2 ⟨16 + r.val, by omega⟩ l) = u (ix2 r l) := by
  have e : (ix2 (⟨16 + r.val, by omega⟩ : Fin 528) l : S528x256.Idx) = (Rect.unit (s := S528x256) ![16, 0] ![512, 256] inb_S528x256_S512x256_16_0).emb (ix2 r l) := by
    funext a; apply Fin.ext
    match a with
    | ⟨0, _⟩ => show 16 + r.val = 16 + 1 * r.val; omega
    | ⟨1, _⟩ => show l.val = 0 + 1 * l.val; omega
  unfold bufU
  rw [e]
  exact View.canon_cons_emb _ _ _ _

theorem bufU_lo (u : Vec F S512x256 .f32) (h : Vec F S16x256 .f32) (r : Fin 16) (l : Fin 256) :
    bufU u h (ix2 ⟨r.val, by omega⟩ l) = h (ix2 r l) := by
  have e : (ix2 (⟨r.val, by omega⟩ : Fin 528) l : S528x256.Idx) = (Rect.unit (s := S528x256) ![0, 0] ![16, 256] inb_S528x256_S16x256_0_0).emb (ix2 r l) := by
    funext a; apply Fin.ext
    match a with
    | ⟨0, _⟩ => show r.val = 0 + 1 * r.val; omega
    | ⟨1, _⟩ => show l.val = 0 + 1 * l.val; omega
  unfold bufU
  rw [View.canon_cons_of_not_mem]
  · rw [e]
    exact View.canon_cons_emb _ _ _ _
  · rw [Rect.mem_set_unit]
    intro hh
    have := (hh 0).1
    change 16 ≤ r.val at this
    omega

theorem bufZ_hi (u : Vec F S512x256 .f32) (h : Vec F S8x256 .f32) (r : Fin 512) (l : Fin 256) :
    bufZ u h (ix2 ⟨8 + r.val, by omega⟩ l) = u (ix2 r l) := by
  have e : (ix2 (⟨8 + r.val, by omega⟩ : Fin 520) l : S520x256.Idx) = (Rect.unit (s := S520x256) ![8, 0] ![512, 256] inb_S520x256_S512x256_8_0).emb (ix2 r l) := by
    funext a; apply Fin.ext
    match a with
    | ⟨0, _⟩ => show 8 + r.val = 8 + 1 * r.val; omega
    | ⟨1, _⟩ => show l.val = 0 + 1 * l.val; omega
  unfold bufZ
  rw [e]
  exact View.canon_cons_emb _ _ _ _

theorem bufZ_lo (u : Vec F S512x256 .f32) (h : Vec F S8x256 .f32) (r : Fin 8) (l : Fin 256) :
    bufZ u h (ix2 ⟨r.val, by omega⟩ l) = h (ix2 r l) := by
  have e : (ix2 (⟨r.val, by omega⟩ : Fin 520) l : S520x256.Idx) = (Rect.unit (s := S520x256) ![0, 0] ![8, 256] inb_S520x256_S8x256_0_0).emb (ix2 r l) := by
    funext a; apply Fin.ext
    match a with
    | ⟨0, _⟩ => show r.val = 0 + 1 * r.val; omega
    | ⟨1, _⟩ => show l.val = 0 + 1 * l.val; omega
  unfold bufZ
  rw [View.canon_cons_of_not_mem]
  · rw [e]
    exact View.canon_cons_emb _ _ _ _
  · rw [Rect.mem_set_unit]
    intro hh
    have := (hh 0).1
    change 8 ≤ r.val at this
    omega

/-- Storing the point's rows over carried contents. -/
theorem readCov_U0 (v : View sig .tc .vmem S528x256 .f32) (u : Vec F S512x256 .f32) (h : Vec F S16x256 .f32) :
    v.readCov [⟨Rect.unit ![16, 0] ![512, 256] inb_S528x256_S512x256_16_0, u⟩] (Rect.unit (s := S528x256) ![16, 0] ![512, 128] inb_S528x256_S512x128_16_0).toLoadRect
      = View.ld (bufU u h) (Rect.unit (s := S528x256) ![16, 0] ![512, 128] inb_S528x256_S512x128_16_0) := by
  rw [View.readCov_eq_canon']
  funext j
  obtain ⟨r, l, rfl⟩ : ∃ (r : Fin 512) (l : Fin 128), j = ix2 r l := ⟨j 0, j 1, eq_ix2 j⟩
  have e2 : (Rect.unit (s := S528x256) ![16, 0] ![512, 128] inb_S528x256_S512x128_16_0).toLoadRect.idx (ix2 r l)
      = (Rect.unit (s := S528x256) ![16, 0] ![512, 256] inb_S528x256_S512x256_16_0).emb (ix2 r (⟨0 + l.val, by omega⟩ : Fin 256)) := by
    funext a; apply Fin.ext
    match a with
    | ⟨0, _⟩ => rfl
    | ⟨1, _⟩ => show 0 + 1 * l.val = 0 + 1 * (0 + l.val); omega
  refine (congrArg (View.canon _) e2).trans ?_
  refine (View.canon_cons_emb _ _ _ _).trans ?_
  have e3 : View.ld (bufU u h) (Rect.unit (s := S528x256) ![16, 0] ![512, 128] inb_S528x256_S512x128_16_0) (ix2 r l)
      = bufU u h (ix2 ⟨16 + r.val, by omega⟩ ⟨0 + l.val, by omega⟩) := by
    refine congrArg (bufU u h) (funext fun a => Fin.ext ?_)
    match a with
    | ⟨0, _⟩ => show 16 + 1 * r.val = 16 + r.val; omega
    | ⟨1, _⟩ => show 0 + 1 * l.val = 0 + l.val; omega
  rw [e3, bufU_hi]

theorem readCov_U128 (v : View sig .tc .vmem S528x256 .f32) (u : Vec F S512x256 .f32) (h : Vec F S16x256 .f32) :
    v.readCov [⟨Rect.unit ![16, 0] ![512, 256] inb_S528x256_S512x256_16_0, u⟩] (Rect.unit (s := S528x256) ![16, 128] ![512, 128] inb_S528x256_S512x128_16_128).toLoadRect
      = View.ld (bufU u h) (Rect.unit (s := S528x256) ![16, 128] ![512, 128] inb_S528x256_S512x128_16_128) := by
  rw [View.readCov_eq_canon']
  funext j
  obtain ⟨r, l, rfl⟩ : ∃ (r : Fin 512) (l : Fin 128), j = ix2 r l := ⟨j 0, j 1, eq_ix2 j⟩
  have e2 : (Rect.unit (s := S528x256) ![16, 128] ![512, 128] inb_S528x256_S512x128_16_128).toLoadRect.idx (ix2 r l)
      = (Rect.unit (s := S528x256) ![16, 0] ![512, 256] inb_S528x256_S512x256_16_0).emb (ix2 r (⟨128 + l.val, by omega⟩ : Fin 256)) := by
    funext a; apply Fin.ext
    match a with
    | ⟨0, _⟩ => rfl
    | ⟨1, _⟩ => show 128 + 1 * l.val = 0 + 1 * (128 + l.val); omega
  refine (congrArg (View.canon _) e2).trans ?_
  refine (View.canon_cons_emb _ _ _ _).trans ?_
  have e3 : View.ld (bufU u h) (Rect.unit (s := S528x256) ![16, 128] ![512, 128] inb_S528x256_S512x128_16_128) (ix2 r l)
      = bufU u h (ix2 ⟨16 + r.val, by omega⟩ ⟨128 + l.val, by omega⟩) := by
    refine congrArg (bufU u h) (funext fun a => Fin.ext ?_)
    match a with
    | ⟨0, _⟩ => show 16 + 1 * r.val = 16 + r.val; omega
    | ⟨1, _⟩ => show 128 + 1 * l.val = 128 + l.val; omega
  rw [e3, bufU_hi]

theorem readCov_Z0 (v : View sig .tc .vmem S520x256 .f32) (u : Vec F S512x256 .f32) (h : Vec F S8x256 .f32) :
    v.readCov [⟨Rect.unit ![8, 0] ![512, 256] inb_S520x256_S512x256_8_0, u⟩] (Rect.unit (s := S520x256) ![8, 0] ![512, 256] inb_S520x256_S512x256_8_0).toLoadRect
      = View.ld (bufZ u h) (Rect.unit (s := S520x256) ![8, 0] ![512, 256] inb_S520x256_S512x256_8_0) := by
  rw [View.readCov_eq_canon']
  funext j
  obtain ⟨r, l, rfl⟩ : ∃ (r : Fin 512) (l : Fin 256), j = ix2 r l := ⟨j 0, j 1, eq_ix2 j⟩
  have e2 : (Rect.unit (s := S520x256) ![8, 0] ![512, 256] inb_S520x256_S512x256_8_0).toLoadRect.idx (ix2 r l)
      = (Rect.unit (s := S520x256) ![8, 0] ![512, 256] inb_S520x256_S512x256_8_0).emb (ix2 r (⟨0 + l.val, by omega⟩ : Fin 256)) := by
    funext a; apply Fin.ext
    match a with
    | ⟨0, _⟩ => rfl
    | ⟨1, _⟩ => show 0 + 1 * l.val = 0 + 1 * (0 + l.val); omega
  refine (congrArg (View.canon _) e2).trans ?_
  refine (View.canon_cons_emb _ _ _ _).trans ?_
  have e3 : View.ld (bufZ u h) (Rect.unit (s := S520x256) ![8, 0] ![512, 256] inb_S520x256_S512x256_8_0) (ix2 r l)
      = bufZ u h (ix2 ⟨8 + r.val, by omega⟩ ⟨0 + l.val, by omega⟩) := by
    refine congrArg (bufZ u h) (funext fun a => Fin.ext ?_)
    match a with
    | ⟨0, _⟩ => show 8 + 1 * r.val = 8 + r.val; omega
    | ⟨1, _⟩ => show 0 + 1 * l.val = 0 + l.val; omega
  rw [e3, bufZ_hi]

theorem read_U (M : Memref sig .tc .vmem S528x256 .f32) (hM : M.IsWhole) (xs : Vec F S528x256 .f32) (u : Vec F S512x256 .f32) :
    M.view.read (Elt F) (M.view.writes (Elt F) (hM.unread xs) [⟨Rect.unit ![16, 0] ![512, 256] inb_S528x256_S512x256_16_0, u⟩])
      = bufU u (View.ld xs (Rect.unit (s := S528x256) ![0, 0] S16x256.size inb_S528x256_S16x256_0_0)) := by
  funext y
  obtain ⟨r, l, rfl⟩ : ∃ (r : Fin 528) (l : Fin 256), y = ix2 r l := ⟨y 0, y 1, eq_ix2 y⟩
  by_cases hr : r.val < 16
  · refine (View.read_writes_cons_unit_of_not_mem M.view _ _ u [] _ rfl 0 (.inl hr)).trans ?_
    show M.view.read (Elt F) (hM.unread xs) (ix2 r l) = _
    rw [hM.read_unread]
    refine Eq.trans ?_ (bufU_lo u _ ⟨r.val, hr⟩ l).symm
    refine congrArg xs (funext fun a => Fin.ext ?_)
    match a with
    | ⟨0, _⟩ => show r.val = 0 + 1 * r.val; omega
    | ⟨1, _⟩ => show l.val = 0 + 1 * l.val; omega
  · have hr2 : r = ⟨16 + (⟨r.val - 16, by omega⟩ : Fin 512).val, by have := r.isLt; dsimp only; omega⟩ := Fin.ext (by dsimp only; omega)
    rw [hr2, bufU_hi]
    refine View.read_writes_cons_unit_of_mem M.view _ _ u [] _ (ix2 (⟨r.val - 16, by omega⟩ : Fin 512) l) rfl fun a => ?_
    match a with
    | ⟨0, _⟩ => rfl
    | ⟨1, _⟩ => show l.val = 0 + l.val; omega

theorem read_Z (M : Memref sig .tc .vmem S520x256 .f32) (hM : M.IsWhole) (xs : Vec F S520x256 .f32) (u : Vec F S512x256 .f32) :
    M.view.read (Elt F) (M.view.writes (Elt F) (hM.unread xs) [⟨Rect.unit ![8, 0] ![512, 256] inb_S520x256_S512x256_8_0, u⟩])
      = bufZ u (View.ld xs (Rect.unit (s := S520x256) ![0, 0] S8x256.size inb_S520x256_S8x256_0_0)) := by
  funext y
  obtain ⟨r, l, rfl⟩ : ∃ (r : Fin 520) (l : Fin 256), y = ix2 r l := ⟨y 0, y 1, eq_ix2 y⟩
  by_cases hr : r.val < 8
  · refine (View.read_writes_cons_unit_of_not_mem M.view _ _ u [] _ rfl 0 (.inl hr)).trans ?_
    show M.view.read (Elt F) (hM.unread xs) (ix2 r l) = _
    rw [hM.read_unread]
    refine Eq.trans ?_ (bufZ_lo u _ ⟨r.val, hr⟩ l).symm
    refine congrArg xs (funext fun a => Fin.ext ?_)
    match a with
    | ⟨0, _⟩ => show r.val = 0 + 1 * r.val; omega
    | ⟨1, _⟩ => show l.val = 0 + 1 * l.val; omega
  · have hr2 : r = ⟨8 + (⟨r.val - 8, by omega⟩ : Fin 512).val, by have := r.isLt; dsimp only; omega⟩ := Fin.ext (by dsimp only; omega)
    rw [hr2, bufZ_hi]
    refine View.read_writes_cons_unit_of_mem M.view _ _ u [] _ (ix2 (⟨r.val - 8, by omega⟩ : Fin 512) l) rfl fun a => ?_
    match a with
    | ⟨0, _⟩ => rfl
    | ⟨1, _⟩ => show l.val = 0 + l.val; omega

/-! ## What a point leaves -/

theorem v_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = vTerm x0 x1 x2 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem u_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = uTerm x0 x1 x2 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem z_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = zTerm x0 x1 x2 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem q_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = qTerm x0 x1 x2 x3 x4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S512x128) hz]
  rfl

theorem k_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = kTerm x0 x1 x2 x3 x4 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S512x128) hz]
  rfl

theorem pc_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9
      = pcTerm i x0 x1 x2 x5 x6 x7 (bufU (uTerm x0 x1 x2) (k0_pay36 x8)) (bufZ (zTerm x0 x1 x2) (k0_pay37 x9)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S256x256) hz, View.ld_unit_zero (S := S1x256) hz, View.ld_unit_zero (S := S1x16x256) hz3, View.ld_unit_zero (S := S1x8x256) hz3, pay38_eq, pay39_eq, readCov_U, readCov_Z]
  rfl

theorem sU_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (r : Fin 16) (l : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix2 ⟨r.val, by omega⟩ l)
      = uTerm x0 x1 x2 (ix2 ⟨496 + r.val, by omega⟩ l) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, pay38_eq, pay39_eq, pay47_eq, pay1_eq]
  have e : (ix2 (⟨r.val, by omega⟩ : Fin 528) l : S528x256.Idx) = (Rect.unit (s := S528x256) ![0, 0] ![16, 256] inb_S528x256_S16x256_0_0).emb (ix2 r l) := by
    funext a; apply Fin.ext
    match a with
    | ⟨0, _⟩ => show r.val = 0 + 1 * r.val; omega
    | ⟨1, _⟩ => show l.val = 0 + 1 * l.val; omega
  rw [e, View.canon_cons_emb]
  have e2 : (Rect.unit (s := S528x256) ![512, 0] ![16, 256] inb_S528x256_S16x256_512_0).toLoadRect.idx (ix2 r l)
      = (Rect.unit (s := S528x256) ![16, 0] ![512, 256] inb_S528x256_S512x256_16_0).emb (ix2 (⟨496 + r.val, by omega⟩ : Fin 512) l) := by
    funext a; apply Fin.ext
    match a with
    | ⟨0, _⟩ => show 512 + 1 * r.val = 16 + 1 * (496 + r.val); omega
    | ⟨1, _⟩ => show 0 + 1 * l.val = 0 + 1 * l.val; rfl
  rw [View.readCov_eq_canon']
  refine (congrArg (View.canon _) e2).trans ?_
  exact View.canon_cons_emb _ _ _ _

theorem sZ_A (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (r : Fin 8) (l : Fin 256) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 (ix2 ⟨r.val, by omega⟩ l)
      = zTerm x0 x1 x2 (ix2 ⟨504 + r.val, by omega⟩ l) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, pay38_eq, pay39_eq, pay47_eq, pay1_eq]
  have e : (ix2 (⟨r.val, by omega⟩ : Fin 520) l : S520x256.Idx) = (Rect.unit (s := S520x256) ![0, 0] ![8, 256] inb_S520x256_S8x256_0_0).emb (ix2 r l) := by
    funext a; apply Fin.ext
    match a with
    | ⟨0, _⟩ => show r.val = 0 + 1 * r.val; omega
    | ⟨1, _⟩ => show l.val = 0 + 1 * l.val; omega
  rw [e, View.canon_cons_emb]
  have e2 : (Rect.unit (s := S520x256) ![512, 0] ![8, 256] inb_S520x256_S8x256_512_0).toLoadRect.idx (ix2 r l)
      = (Rect.unit (s := S520x256) ![8, 0] ![512, 256] inb_S520x256_S512x256_8_0).emb (ix2 (⟨504 + r.val, by omega⟩ : Fin 512) l) := by
    funext a; apply Fin.ext
    match a with
    | ⟨0, _⟩ => show 512 + 1 * r.val = 8 + 1 * (504 + r.val); omega
    | ⟨1, _⟩ => show 0 + 1 * l.val = 0 + 1 * l.val; rfl
  rw [View.readCov_eq_canon']
  refine (congrArg (View.canon _) e2).trans ?_
  exact View.canon_cons_emb _ _ _ _

theorem v_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = vTerm x0 x1 x2 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem u_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = uTerm x0 x1 x2 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem z_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = zTerm x0 x1 x2 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  rw [View.canon_cons_unit_zero hz]
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  rw [View.ld_unit_zero (S := S512x1024) hz, View.ld_unit_zero (S := S1x1024) hz]

theorem q_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = qTerm x0 x1 x2 x3 x4 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S512x128) hz]
  rfl

theorem k_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = kTerm x0 x1 x2 x3 x4 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S512x128) hz]
  rfl

theorem pc_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1
      = pcTerm i x0 x1 x2 x5 x6 x7 (bufU (uTerm x0 x1 x2) (View.ld xs0 (Rect.unit (s := S528x256) ![0, 0] S16x256.size inb_S528x256_S16x256_0_0)))
          (bufZ (zTerm x0 x1 x2) (View.ld xs1 (Rect.unit (s := S520x256) ![0, 0] S8x256.size inb_S520x256_S8x256_0_0))) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, View.ld_unit_zero (S := S256x256) hz, View.ld_unit_zero (S := S1x256) hz, pay38_eq, pay39_eq, read_U, read_Z, readCov_U0 _ _ (View.ld xs0 (Rect.unit (s := S528x256) ![0, 0] S16x256.size inb_S528x256_S16x256_0_0)), readCov_U128 _ _ (View.ld xs0 (Rect.unit (s := S528x256) ![0, 0] S16x256.size inb_S528x256_S16x256_0_0)), readCov_Z0 _ _ (View.ld xs1 (Rect.unit (s := S520x256) ![0, 0] S8x256.size inb_S520x256_S8x256_0_0))]
  rfl

theorem sU_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) (r : Fin 16) (l : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 (ix2 ⟨r.val, by omega⟩ l)
      = uTerm x0 x1 x2 (ix2 ⟨496 + r.val, by omega⟩ l) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, pay38_eq, pay39_eq, pay47_eq, pay1_eq]
  have e : (ix2 (⟨r.val, by omega⟩ : Fin 528) l : S528x256.Idx) = (Rect.unit (s := S528x256) ![0, 0] ![16, 256] inb_S528x256_S16x256_0_0).emb (ix2 r l) := by
    funext a; apply Fin.ext
    match a with
    | ⟨0, _⟩ => show r.val = 0 + 1 * r.val; omega
    | ⟨1, _⟩ => show l.val = 0 + 1 * l.val; omega
  rw [e, View.canon_cons_emb]
  have e2 : (Rect.unit (s := S528x256) ![512, 0] ![16, 256] inb_S528x256_S16x256_512_0).toLoadRect.idx (ix2 r l)
      = (Rect.unit (s := S528x256) ![16, 0] ![512, 256] inb_S528x256_S512x256_16_0).emb (ix2 (⟨496 + r.val, by omega⟩ : Fin 512) l) := by
    funext a; apply Fin.ext
    match a with
    | ⟨0, _⟩ => show 512 + 1 * r.val = 16 + 1 * (496 + r.val); omega
    | ⟨1, _⟩ => show 0 + 1 * l.val = 0 + 1 * l.val; rfl
  rw [View.readCov_eq_canon']
  refine (congrArg (View.canon _) e2).trans ?_
  exact View.canon_cons_emb _ _ _ _

theorem sZ_B (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1024x2560 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S3x256 .f32) (harg9 : arg9.IsWhole) (arg10 : Memref sig .tc .vmem S1x16x256 .f32) (harg10 : arg10.IsWhole) (arg11 : Memref sig .tc .vmem S1x8x256 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x256 .f32) (harg15 : arg15.IsWhole) (arg16 : Memref sig .tc .vmem S512x256 .f32) (harg16 : arg16.IsWhole) (arg17 : Memref sig .tc .vmem S512x512 .bf16) (harg17 : arg17.IsWhole) (arg18 : Memref sig .tc .vmem S528x256 .f32) (harg18 : arg18.IsWhole) (arg19 : Memref sig .tc .vmem S520x256 .f32) (harg19 : arg19.IsWhole) (hc0 : ¬cond0_0 i)
    (x0 : Vec F S512x1024 .f32) (x1 : Vec F S1x1024 .f32) (x2 : Vec F S1024x2560 .bf16) (x3 : Vec F S512x128 .f32) (x4 : Vec F S512x128 .f32) (x5 : Vec F S256x256 .bf16) (x6 : Vec F S1x256 .f32) (x7 : Vec F S3x256 .f32) (x8 : Vec F S1x16x256 .f32) (x9 : Vec F S1x8x256 .f32) (xs0 : Vec F S528x256 .f32) (xs1 : Vec F S520x256 .f32) (r : Fin 8) (l : Fin 256) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1 (ix2 ⟨r.val, by omega⟩ l)
      = zTerm x0 x1 x2 (ix2 ⟨504 + r.val, by omega⟩ l) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xs0 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg18.read_unread, harg19.read_unread]
  simp only [View.ld_unit_zero (S := S512x1024) hz, View.ld_unit_zero (S := S1x1024) hz, pay38_eq, pay39_eq, pay47_eq, pay1_eq]
  have e : (ix2 (⟨r.val, by omega⟩ : Fin 520) l : S520x256.Idx) = (Rect.unit (s := S520x256) ![0, 0] ![8, 256] inb_S520x256_S8x256_0_0).emb (ix2 r l) := by
    funext a; apply Fin.ext
    match a with
    | ⟨0, _⟩ => show r.val = 0 + 1 * r.val; omega
    | ⟨1, _⟩ => show l.val = 0 + 1 * l.val; omega
  rw [e, View.canon_cons_emb]
  have e2 : (Rect.unit (s := S520x256) ![512, 0] ![8, 256] inb_S520x256_S8x256_512_0).toLoadRect.idx (ix2 r l)
      = (Rect.unit (s := S520x256) ![8, 0] ![512, 256] inb_S520x256_S512x256_8_0).emb (ix2 (⟨504 + r.val, by omega⟩ : Fin 512) l) := by
    funext a; apply Fin.ext
    match a with
    | ⟨0, _⟩ => show 512 + 1 * r.val = 8 + 1 * (504 + r.val); omega
    | ⟨1, _⟩ => show 0 + 1 * l.val = 0 + 1 * l.val; rfl
  rw [View.readCov_eq_canon']
  refine (congrArg (View.canon _) e2).trans ?_
  exact View.canon_cons_emb _ _ _ _

end Cert.InprojIdeal.Block

end
-- ==== Proof.InprojSpec.lean ====
/-
  The input projection's six results over the extended reals, as plain formulas of the call's arguments, indexed by naturals:
  the row of projections (`gp`), the rotary pair (`ropeS`), the window mean minus the row (`difS`), its grouped product (`poolS`)
  and the gated three-tap convolution (`convS`).
-/
module

public import proofs.«01_k».proof.Proof.MixAlg
public import Idealize.ShloMosaic.Lib.Pointwise

@[expose] public section

noncomputable section

namespace Cert.InprojSpec

open Idealize.ShloMosaic
open Cert.FfnMixIdeal.Block (rmsRow)

/-- A weight column by its number, zero past the end. -/
def wN (w : Fin 1024 → Fin 2560 → EReal) (k : Fin 1024) (f : ℕ) : EReal := if h : f < 2560 then w k ⟨f, h⟩ else 0

theorem wN_of_lt (w : Fin 1024 → Fin 2560 → EReal) (k : Fin 1024) (f : ℕ) (h : f < 2560) : wN w k f = w k ⟨f, h⟩ := dif_pos h

/-- The projections of one row: its RMS norm times the weight. -/
def pj (x ng : Fin 1024 → EReal) (w : Fin 1024 → Fin 2560 → EReal) (f : ℕ) : EReal :=
  ∑ k : Fin 1024, rmsRow x ng k * wN w k f

/-- A row of the input by its number, zero past the end. -/
def xN (x : Fin 32768 → Fin 1024 → EReal) (R : ℕ) (k : Fin 1024) : EReal := if h : R < 32768 then x ⟨R, h⟩ k else 0

/-- The projections of the whole input. -/
def gp (x : Fin 32768 → Fin 1024 → EReal) (ng : Fin 1024 → EReal) (w : Fin 1024 → Fin 2560 → EReal) (R f : ℕ) : EReal :=
  pj (xN x R) ng w f

theorem gp_of_lt (x : Fin 32768 → Fin 1024 → EReal) (ng : Fin 1024 → EReal) (w : Fin 1024 → Fin 2560 → EReal) (R f : ℕ) (h : R < 32768) :
    gp x ng w R f = pj (x ⟨R, h⟩) ng w f := by
  have e : xN x R = x ⟨R, h⟩ := funext fun k => dif_pos h
  rw [gp, e]

/-- The rotary angle of position `s`, feature `d`. -/
def ang (s d : ℕ) : EReal :=
  FloatOps.sitofp (F := Ideal) .f32 (BitVec.ofNat 32 s)
    * Ideal.pow (Ideal.ofBits .f32 0x461C4000#32) (Ideal.div (-(FloatOps.sitofp (F := Ideal) .f32 (BitVec.ofNat 32 d))) (Ideal.ofBits .f32 0x42000000#32))

/-- The convolved product. -/
def zS (A : ℕ → ℕ → EReal) (R l : ℕ) : EReal := A R (2304 + l) * A R (1792 + l)

/-- A row's rotated columns starting at column `o`. -/
def ropeS (A C S : ℕ → ℕ → EReal) (o R c : ℕ) : EReal :=
  if c % 64 < 32 then A R (o + c) * C (R % 8192) (c % 32) - A R (o + c + 32) * S (R % 8192) (c % 32)
  else A R (o + c) * C (R % 8192) (c % 32) + A R (o + c - 32) * S (R % 8192) (c % 32)

/-- The value `i` rows back in the same sequence, zero before its start. -/
def backS (f : ℕ → EReal) (R i : ℕ) : EReal := if i ≤ R % 8192 then f (R - i) else 0

/-- The sum of a value and the `n` before it. -/
def winS (f : ℕ → EReal) : ℕ → EReal
  | 0 => f 0
  | n + 1 => winS f n + f (n + 1)

/-- How many of the last `w` rows exist at position `s`. -/
def cntS (s w : ℕ) : EReal :=
  FloatOps.sitofp (F := Ideal) .f32 (IntOp.minsi (IntOp.addi (BitVec.ofNat 32 s) 1#32) (BitVec.ofNat 32 w))

/-- The mean of the last `2, 4, 8` or `16` rows of a column (by its group of 64) minus the row's own value. -/
def difS (A : ℕ → ℕ → EReal) (R j : ℕ) : EReal :=
  Ideal.div (winS (backS (fun r => A r (1536 + j)) R) (2 ^ (j / 64 + 1) - 1)) (cntS (R % 8192) (2 ^ (j / 64 + 1))) - A R (1536 + j)

/-- The grouped product of the mean differences, scaled. -/
def poolS (A : ℕ → ℕ → EReal) (P : ℕ → ℕ → ℕ → EReal) (ps : ℕ → EReal) (R l : ℕ) : EReal :=
  (∑ k : Fin 64, difS A R (64 * (l / 64) + k.val) * P (l / 64) k.val (l % 64)) * ps l

/-- The gated convolution over the last three rows. -/
def convS (A : ℕ → ℕ → EReal) (cw : ℕ → ℕ → EReal) (R l : ℕ) : EReal :=
  A R (2048 + l) * (backS (fun r => zS A r l) R 2 * cw 0 l + backS (fun r => zS A r l) R 1 * cw 1 l + backS (fun r => zS A r l) R 0 * cw 2 l)

end Cert.InprojSpec

end
-- ==== Proof.InprojAlg.lean ====
/-
  The input-projection call, one row at a time over the extended reals: what the kernel's blocks hold (`vTerm_apply` …
  `pcTerm_apply`) in terms of the row of projections of the RMS norm, the rotary tables and the window sums.
-/
module

public import proofs.«01_k».proof.Proof.InprojBlock
public import proofs.«01_k».proof.Proof.InprojSpec
public import Idealize.ShloMosaic.Lib.Pointwise
public import Idealize.ShloMosaic.Lib.Tactic.CleanTypes

@[expose] public section

set_option maxRecDepth 16384

noncomputable section

namespace Cert.InprojIdeal.Block

open Cert.InprojIdeal Cert.InprojIdeal.Gen Idealize.ShloMosaic Idealize.ShloMosaic.TcCoe Idealize.SL.Sem
open Cert.FfnMixIdeal.Block (rmsRow)
open Cert.InprojSpec

/-- A row of the call's first three blocks, projected. -/
def bRow (x0 : Vec Ideal S512x1024 .f32) (x1 : Vec Ideal S1x1024 .f32) (x2 : Vec Ideal S1024x2560 .bf16) (r : Fin 512) : ℕ → EReal :=
  pj (fun j => x0 (ix2 r j)) (fun j => x1 (ix2 0 j)) (fun k f => x2 (ix2 k f))

theorem w512_apply (x2 : Vec Ideal S1024x2560 .bf16) (o : ℕ) (h) (k : Fin 1024) (l : Fin 512) (ho : o + l.val < 2560) :
    w512 x2 o h (ix2 k l) = wN (fun k f => x2 (ix2 k f)) k (o + l.val) := by
  rw [wN_of_lt _ _ _ ho]
  refine congrArg x2 (funext fun a => Fin.ext ?_)
  match a with
  | ⟨0, _⟩ => show 0 + 1 * k.val = k.val; omega
  | ⟨1, _⟩ => show o + 1 * l.val = o + l.val; omega

theorem w256_apply (x2 : Vec Ideal S1024x2560 .bf16) (o : ℕ) (h) (k : Fin 1024) (l : Fin 256) (ho : o + l.val < 2560) :
    w256 x2 o h (ix2 k l) = wN (fun k f => x2 (ix2 k f)) k (o + l.val) := by
  rw [wN_of_lt _ _ _ ho]
  refine congrArg x2 (funext fun a => Fin.ext ?_)
  match a with
  | ⟨0, _⟩ => show 0 + 1 * k.val = k.val; omega
  | ⟨1, _⟩ => show o + 1 * l.val = o + l.val; omega

theorem pay2_apply (v0 : Vec Ideal S512x1024 .f32) (v2 : Vec Ideal S1x1024 .f32) (r : Fin 512) (l : Fin 1024) :
    k0_pay2 v0 v2 (ix2 r l) = rmsRow (fun j => v0 (ix2 r j)) (fun j => v2 (ix2 0 j)) l := by
  unfold rmsRow
  pointwise [k0_pay2]

theorem pay32_apply (h : FVec Ideal S512x1024 .bf16) (w : Vec Ideal S1024x512 .bf16) (r l : Fin 512) :
    k0_pay32 h w (ix2 r l) = ∑ k : Fin 1024, h (ix2 r k) * w (ix2 k l) := by
  pointwise [k0_pay32]

theorem pay22_apply (h : FVec Ideal S512x1024 .bf16) (w : Vec Ideal S1024x512 .bf16) (r l : Fin 512) :
    k0_pay22 h w (ix2 r l) = ∑ k : Fin 1024, h (ix2 r k) * w (ix2 k l) := by
  pointwise [k0_pay22]

theorem pay33_apply (h : FVec Ideal S512x1024 .bf16) (w : Vec Ideal S1024x256 .bf16) (r : Fin 512) (l : Fin 256) :
    k0_pay33 h w (ix2 r l) = ∑ k : Fin 1024, h (ix2 r k) * w (ix2 k l) := by
  pointwise [k0_pay33]

theorem pay35_apply (h : FVec Ideal S512x1024 .bf16) (w : Vec Ideal S1024x256 .bf16) (r : Fin 512) (l : Fin 256) :
    k0_pay35 h w (ix2 r l) = ∑ k : Fin 1024, h (ix2 r k) * w (ix2 k l) := by
  pointwise [k0_pay35]

theorem pay34_apply (h : FVec Ideal S512x1024 .bf16) (w w' : Vec Ideal S1024x256 .bf16) (r : Fin 512) (l : Fin 256) :
    k0_pay34 h w w' (ix2 r l) = (∑ k : Fin 1024, h (ix2 r k) * w (ix2 k l)) * ∑ k : Fin 1024, h (ix2 r k) * w' (ix2 k l) := by
  pointwise [k0_pay34]

theorem vTerm_apply (x0 : Vec Ideal S512x1024 .f32) (x1 : Vec Ideal S1x1024 .f32) (x2 : Vec Ideal S1024x2560 .bf16) (r l : Fin 512) :
    vTerm x0 x1 x2 (ix2 r l) = bRow x0 x1 x2 r (1024 + l.val) := by
  unfold bRow pj
  refine (pay32_apply _ _ _ _).trans (Finset.sum_congr rfl fun k _ => ?_)
  exact congrArg₂ (· * ·) (pay2_apply _ _ _ _) (w512_apply _ _ _ _ _ (by omega))

theorem qRaw_apply (x0 : Vec Ideal S512x1024 .f32) (x1 : Vec Ideal S1x1024 .f32) (x2 : Vec Ideal S1024x2560 .bf16) (r l : Fin 512) :
    qRaw x0 x1 x2 (ix2 r l) = bRow x0 x1 x2 r (0 + l.val) := by
  unfold bRow pj
  refine (pay22_apply _ _ _ _).trans (Finset.sum_congr rfl fun k _ => ?_)
  exact congrArg₂ (· * ·) (pay2_apply _ _ _ _) (w512_apply _ _ _ _ _ (by omega))

theorem kRaw_apply (x0 : Vec Ideal S512x1024 .f32) (x1 : Vec Ideal S1x1024 .f32) (x2 : Vec Ideal S1024x2560 .bf16) (r l : Fin 512) :
    kRaw x0 x1 x2 (ix2 r l) = bRow x0 x1 x2 r (512 + l.val) := by
  unfold bRow pj
  refine (pay22_apply _ _ _ _).trans (Finset.sum_congr rfl fun k _ => ?_)
  exact congrArg₂ (· * ·) (pay2_apply _ _ _ _) (w512_apply _ _ _ _ _ (by omega))

theorem uTerm_apply (x0 : Vec Ideal S512x1024 .f32) (x1 : Vec Ideal S1x1024 .f32) (x2 : Vec Ideal S1024x2560 .bf16) (r : Fin 512) (l : Fin 256) :
    uTerm x0 x1 x2 (ix2 r l) = bRow x0 x1 x2 r (1536 + l.val) := by
  unfold bRow pj
  refine (pay33_apply _ _ _ _).trans (Finset.sum_congr rfl fun k _ => ?_)
  exact congrArg₂ (· * ·) (pay2_apply _ _ _ _) (w256_apply _ _ _ _ _ (by omega))

theorem zTerm_apply (x0 : Vec Ideal S512x1024 .f32) (x1 : Vec Ideal S1x1024 .f32) (x2 : Vec Ideal S1024x2560 .bf16) (r : Fin 512) (l : Fin 256) :
    zTerm x0 x1 x2 (ix2 r l) = bRow x0 x1 x2 r (2304 + l.val) * bRow x0 x1 x2 r (1792 + l.val) := by
  unfold bRow pj
  refine (pay34_apply _ _ _ _ _).trans (congrArg₂ (· * ·) (Finset.sum_congr rfl fun k _ => ?_) (Finset.sum_congr rfl fun k _ => ?_))
  · exact congrArg₂ (· * ·) (pay2_apply _ _ _ _) (w256_apply _ _ _ _ _ (by omega))
  · exact congrArg₂ (· * ·) (pay2_apply _ _ _ _) (w256_apply _ _ _ _ _ (by omega))

theorem bg_apply (x0 : Vec Ideal S512x1024 .f32) (x1 : Vec Ideal S1x1024 .f32) (x2 : Vec Ideal S1024x2560 .bf16) (r : Fin 512) (l : Fin 256) (h) :
    k0_pay35 (k0_pay2 x0 x1) (w256 x2 2048 h) (ix2 r l) = bRow x0 x1 x2 r (2048 + l.val) := by
  unfold bRow pj
  refine (pay35_apply _ _ _ _).trans (Finset.sum_congr rfl fun k _ => ?_)
  exact congrArg₂ (· * ·) (pay2_apply _ _ _ _) (w256_apply _ _ _ _ _ (by omega))

/-- The lane test of the rotation, as the kernel's integer operations. -/
def laneBit (l : Fin 128) : BitVec 1 :=
  IntOp.cmpi .slt
    (Scalar.select
      (IntOp.andi (IntOp.xori (IntOp.cmpi .slt (IntOp.remsi .vector (BitVec.ofNat 32 l.val) 64#32) 0#32) 0#1)
        (IntOp.cmpi .ne (IntOp.remsi .vector (BitVec.ofNat 32 l.val) 64#32) 0#32))
      (IntOp.addi (IntOp.remsi .vector (BitVec.ofNat 32 l.val) 64#32) 64#32)
      (IntOp.remsi .vector (BitVec.ofNat 32 l.val) 64#32)) 32#32

theorem laneBit_eq : ∀ l : Fin 128, laneBit l = if l.val % 64 < 32 then 1#1 else 0#1 := by decide +kernel

theorem c64 : Scalar.select (Scalar.cmpi .eq 64#32 0#32) 1#32 64#32 = 64#32 := by decide
theorem c0 : Scalar.cmpi .slt (64#32) 0#32 = 0#1 := by decide

/-- One slab of 128 lanes, rotated. -/
def slab (raw : FVec Ideal S512x512 .f32) (x3 x4 : Vec Ideal S512x128 .f32) (o : ℕ) (ho : o ≤ 384) (r : Fin 512) (l : Fin 128) : EReal :=
  raw (ix2 r ⟨o + l.val, by omega⟩) * x3 (ix2 r l) + Scalar.select (laneBit l) (raw (ix2 r ⟨o + (l.val + 128 - 96) % 128, by omega⟩))
    (raw (ix2 r ⟨o + (l.val + 128 - 32) % 128, by omega⟩)) * x4 (ix2 r l)

theorem q1_apply (x3 x4 : Vec Ideal S512x128 .f32) (q : FVec Ideal S512x512 .f32) (r : Fin 512) (l : Fin 128) :
    k0_pay12 (k0_pay3 x3) (k0_pay4 x4) q (ix2 r l) = slab q x3 x4 128 (by omega) r l := by
  unfold slab laneBit
  pointwise [k0_pay12, k0_pay3, k0_pay4, c64, c0]

theorem q2_apply (x3 x4 : Vec Ideal S512x128 .f32) (q : FVec Ideal S512x512 .f32) (r : Fin 512) (l : Fin 128) :
    k0_pay15 (k0_pay4 x4) (k0_pay13 q) (k0_pay14 (k0_pay3 x3) q) (iota Kind.tc S512x128 32 [1] iota_S512x128_d1_w32) (ix2 r l)
      = slab q x3 x4 256 (by omega) r l := by
  unfold slab laneBit
  pointwise [k0_pay15, k0_pay13, k0_pay14, k0_pay3, k0_pay4, c64, c0]

theorem q3_apply (x3 x4 : Vec Ideal S512x128 .f32) (q : FVec Ideal S512x512 .f32) (r : Fin 512) (l : Fin 128) :
    k0_pay21 (k0_pay4 x4) (k0_pay16 q) (k0_pay17 (k0_pay3 x3) q) k0_pay18 k0_pay19 k0_pay20 (ix2 r l) = slab q x3 x4 384 (by omega) r l := by
  unfold slab laneBit
  pointwise [k0_pay21, k0_pay16, k0_pay17, k0_pay18, k0_pay19, k0_pay20, k0_pay3, k0_pay4, c64, c0]

theorem q0_apply (x0 : Vec Ideal S512x1024 .f32) (x1 : Vec Ideal S1x1024 .f32) (w : Vec Ideal S1024x512 .bf16) (x3 x4 : Vec Ideal S512x128 .f32) (r : Fin 512) (l : Fin 128) :
    k0_pay11 (k0_pay4 x4) (k0_pay6 x0 x1 w) (k0_pay7 x0 x1 x3 w) 64#32 k0_pay8 k0_pay9 k0_pay10 (ix2 r l)
      = slab (k0_pay5 x0 x1 w) x3 x4 0 (by omega) r l := by
  have e6 : k0_pay6 x0 x1 w = extractStridedSlice S512x128 ![0, 0] (k0_pay5 x0 x1 w) slices_S512x512_o0_0_S512x128 := rfl
  have e7 : k0_pay7 x0 x1 x3 w = mulf (extractStridedSlice S512x128 ![0, 0] (k0_pay5 x0 x1 w) slices_S512x512_o0_0_S512x128) (k0_pay3 x3) := rfl
  rw [e6, e7]
  generalize k0_pay5 x0 x1 w = q
  unfold slab laneBit
  simp only [Nat.zero_add]
  pointwise [k0_pay11, k0_pay8, k0_pay9, k0_pay10, k0_pay3, k0_pay4, c64, c0]

theorem k0_apply (h : FVec Ideal S512x1024 .bf16) (w : Vec Ideal S1024x512 .bf16) (x3 x4 : Vec Ideal S512x128 .f32) (r : Fin 512) (l : Fin 128) :
    k0_pay23 h (k0_pay3 x3) (k0_pay4 x4) w (ix2 r l) = slab (k0_pay22 h w) x3 x4 0 (by omega) r l := by
  unfold k0_pay23
  generalize k0_pay22 h w = q
  unfold slab laneBit
  simp only [Nat.zero_add]
  pointwise [k0_pay3, k0_pay4, c64, c0]

theorem k1_apply (x3 x4 : Vec Ideal S512x128 .f32) (q : FVec Ideal S512x512 .f32) (r : Fin 512) (l : Fin 128) :
    k0_pay24 (k0_pay3 x3) (k0_pay4 x4) q (ix2 r l) = slab q x3 x4 128 (by omega) r l := by
  unfold slab laneBit
  pointwise [k0_pay24, k0_pay3, k0_pay4, c64, c0]

theorem k2_apply (x3 x4 : Vec Ideal S512x128 .f32) (q : FVec Ideal S512x512 .f32) (r : Fin 512) (l : Fin 128) :
    k0_pay30 (k0_pay4 x4) (k0_pay25 q) (k0_pay26 (k0_pay3 x3) q) 64#32 k0_pay27 k0_pay28 k0_pay29 (ix2 r l)
      = slab q x3 x4 256 (by omega) r l := by
  unfold slab laneBit
  pointwise [k0_pay30, k0_pay25, k0_pay26, k0_pay27, k0_pay28, k0_pay29, k0_pay3, k0_pay4, c64, c0]

theorem k3_apply (x3 x4 : Vec Ideal S512x128 .f32) (q : FVec Ideal S512x512 .f32) (r : Fin 512) (l : Fin 128) :
    k0_pay31 (k0_pay3 x3) (k0_pay4 x4) q (ix2 r l) = slab q x3 x4 384 (by omega) r l := by
  unfold slab laneBit
  pointwise [k0_pay31, k0_pay3, k0_pay4, c64, c0]

theorem canon_q3 (p3 p2 p1 p0 : Vec Ideal S512x128 .f32) (r : Fin 512) (l : Fin 128) :
    View.canon ([⟨Rect.unit (s := S512x512) ![0, 384] S512x128.size inb_S512x512_S512x128_0_384, p3⟩, ⟨Rect.unit (s := S512x512) ![0, 256] S512x128.size inb_S512x512_S512x128_0_256, p2⟩, ⟨Rect.unit (s := S512x512) ![0, 128] S512x128.size inb_S512x512_S512x128_0_128, p1⟩, ⟨Rect.unit (s := S512x512) ![0, 0] S512x128.size inb_S512x512_S512x128_0_0, p0⟩] : List (View.Piece (Elt Ideal) S512x512 .f32)) (ix2 r ⟨384 + l.val, by omega⟩) = p3 (ix2 r l) := by
  have e : (ix2 r (⟨384 + l.val, by omega⟩ : Fin 512) : S512x512.Idx) = (Rect.unit (s := S512x512) ![0, 384] S512x128.size inb_S512x512_S512x128_0_384).emb (ix2 r l) := by
    funext a; apply Fin.ext
    match a with
    | ⟨0, _⟩ => show r.val = 0 + 1 * r.val; omega
    | ⟨1, _⟩ => show 384 + l.val = 384 + 1 * l.val; omega
  rw [e]
  exact View.canon_cons_emb _ _ _ _

theorem canon_q2 (p3 p2 p1 p0 : Vec Ideal S512x128 .f32) (r : Fin 512) (l : Fin 128) :
    View.canon ([⟨Rect.unit (s := S512x512) ![0, 384] S512x128.size inb_S512x512_S512x128_0_384, p3⟩, ⟨Rect.unit (s := S512x512) ![0, 256] S512x128.size inb_S512x512_S512x128_0_256, p2⟩, ⟨Rect.unit (s := S512x512) ![0, 128] S512x128.size inb_S512x512_S512x128_0_128, p1⟩, ⟨Rect.unit (s := S512x512) ![0, 0] S512x128.size inb_S512x512_S512x128_0_0, p0⟩] : List (View.Piece (Elt Ideal) S512x512 .f32)) (ix2 r ⟨256 + l.val, by omega⟩) = p2 (ix2 r l) := by
  have e : (ix2 r (⟨256 + l.val, by omega⟩ : Fin 512) : S512x512.Idx) = (Rect.unit (s := S512x512) ![0, 256] S512x128.size inb_S512x512_S512x128_0_256).emb (ix2 r l) := by
    funext a; apply Fin.ext
    match a with
    | ⟨0, _⟩ => show r.val = 0 + 1 * r.val; omega
    | ⟨1, _⟩ => show 256 + l.val = 256 + 1 * l.val; omega
  rw [View.canon_cons_of_not_mem _ _ (by
    rw [Rect.mem_set_unit]
    intro hh
    have := (hh 1).1
    change 384 ≤ 256 + l.val at this
    omega)]
  rw [e]
  exact View.canon_cons_emb _ _ _ _

theorem canon_q1 (p3 p2 p1 p0 : Vec Ideal S512x128 .f32) (r : Fin 512) (l : Fin 128) :
    View.canon ([⟨Rect.unit (s := S512x512) ![0, 384] S512x128.size inb_S512x512_S512x128_0_384, p3⟩, ⟨Rect.unit (s := S512x512) ![0, 256] S512x128.size inb_S512x512_S512x128_0_256, p2⟩, ⟨Rect.unit (s := S512x512) ![0, 128] S512x128.size inb_S512x512_S512x128_0_128, p1⟩, ⟨Rect.unit (s := S512x512) ![0, 0] S512x128.size inb_S512x512_S512x128_0_0, p0⟩] : List (View.Piece (Elt Ideal) S512x512 .f32)) (ix2 r ⟨128 + l.val, by omega⟩) = p1 (ix2 r l) := by
  have e : (ix2 r (⟨128 + l.val, by omega⟩ : Fin 512) : S512x512.Idx) = (Rect.unit (s := S512x512) ![0, 128] S512x128.size inb_S512x512_S512x128_0_128).emb (ix2 r l) := by
    funext a; apply Fin.ext
    match a with
    | ⟨0, _⟩ => show r.val = 0 + 1 * r.val; omega
    | ⟨1, _⟩ => show 128 + l.val = 128 + 1 * l.val; omega
  rw [View.canon_cons_of_not_mem _ _ (by
    rw [Rect.mem_set_unit]
    intro hh
    have := (hh 1).1
    change 384 ≤ 128 + l.val at this
    omega)]
  rw [View.canon_cons_of_not_mem _ _ (by
    rw [Rect.mem_set_unit]
    intro hh
    have := (hh 1).1
    change 256 ≤ 128 + l.val at this
    omega)]
  rw [e]
  exact View.canon_cons_emb _ _ _ _

theorem canon_q0 (p3 p2 p1 p0 : Vec Ideal S512x128 .f32) (r : Fin 512) (l : Fin 128) :
    View.canon ([⟨Rect.unit (s := S512x512) ![0, 384] S512x128.size inb_S512x512_S512x128_0_384, p3⟩, ⟨Rect.unit (s := S512x512) ![0, 256] S512x128.size inb_S512x512_S512x128_0_256, p2⟩, ⟨Rect.unit (s := S512x512) ![0, 128] S512x128.size inb_S512x512_S512x128_0_128, p1⟩, ⟨Rect.unit (s := S512x512) ![0, 0] S512x128.size inb_S512x512_S512x128_0_0, p0⟩] : List (View.Piece (Elt Ideal) S512x512 .f32)) (ix2 r ⟨0 + l.val, by omega⟩) = p0 (ix2 r l) := by
  have e : (ix2 r (⟨0 + l.val, by omega⟩ : Fin 512) : S512x512.Idx) = (Rect.unit (s := S512x512) ![0, 0] S512x128.size inb_S512x512_S512x128_0_0).emb (ix2 r l) := by
    funext a; apply Fin.ext
    match a with
    | ⟨0, _⟩ => show r.val = 0 + 1 * r.val; omega
    | ⟨1, _⟩ => show 0 + l.val = 0 + 1 * l.val; omega
  rw [View.canon_cons_of_not_mem _ _ (by
    rw [Rect.mem_set_unit]
    intro hh
    have := (hh 1).1
    change 384 ≤ 0 + l.val at this
    omega)]
  rw [View.canon_cons_of_not_mem _ _ (by
    rw [Rect.mem_set_unit]
    intro hh
    have := (hh 1).1
    change 256 ≤ 0 + l.val at this
    omega)]
  rw [View.canon_cons_of_not_mem _ _ (by
    rw [Rect.mem_set_unit]
    intro hh
    have := (hh 1).1
    change 128 ≤ 0 + l.val at this
    omega)]
  rw [e]
  exact View.canon_cons_emb _ _ _ _

theorem canon_p1 (p1 p0 : Vec Ideal S512x256 .bf16) (r : Fin 512) (l : Fin 256) :
    View.canon ([⟨Rect.unit (s := S512x512) ![0, 256] S512x256.size inb_S512x512_S512x256_0_256, p1⟩, ⟨Rect.unit (s := S512x512) ![0, 0] S512x256.size inb_S512x512_S512x256_0_0, p0⟩] : List (View.Piece (Elt Ideal) S512x512 .bf16)) (ix2 r ⟨256 + l.val, by omega⟩) = p1 (ix2 r l) := by
  have e : (ix2 r (⟨256 + l.val, by omega⟩ : Fin 512) : S512x512.Idx) = (Rect.unit (s := S512x512) ![0, 256] S512x256.size inb_S512x512_S512x256_0_256).emb (ix2 r l) := by
    funext a; apply Fin.ext
    match a with
    | ⟨0, _⟩ => show r.val = 0 + 1 * r.val; omega
    | ⟨1, _⟩ => show 256 + l.val = 256 + 1 * l.val; omega
  rw [e]
  exact View.canon_cons_emb _ _ _ _

theorem canon_p0 (p1 p0 : Vec Ideal S512x256 .bf16) (r : Fin 512) (l : Fin 256) :
    View.canon ([⟨Rect.unit (s := S512x512) ![0, 256] S512x256.size inb_S512x512_S512x256_0_256, p1⟩, ⟨Rect.unit (s := S512x512) ![0, 0] S512x256.size inb_S512x512_S512x256_0_0, p0⟩] : List (View.Piece (Elt Ideal) S512x512 .bf16)) (ix2 r ⟨0 + l.val, by omega⟩) = p0 (ix2 r l) := by
  have e : (ix2 r (⟨0 + l.val, by omega⟩ : Fin 512) : S512x512.Idx) = (Rect.unit (s := S512x512) ![0, 0] S512x256.size inb_S512x512_S512x256_0_0).emb (ix2 r l) := by
    funext a; apply Fin.ext
    match a with
    | ⟨0, _⟩ => show r.val = 0 + 1 * r.val; omega
    | ⟨1, _⟩ => show 0 + l.val = 0 + 1 * l.val; omega
  rw [View.canon_cons_of_not_mem _ _ (by
    rw [Rect.mem_set_unit]
    intro hh
    have := (hh 1).1
    change 256 ≤ 0 + l.val at this
    omega)]
  rw [e]
  exact View.canon_cons_emb _ _ _ _

/-- A row's rotated column: the lane's own product and its partner's. -/
def ropeRow (A : ℕ → EReal) (cs sn : ℕ → EReal) (o c : ℕ) : EReal :=
  A (o + c) * cs (c % 128) + (if c % 64 < 32 then A (o + c + 32) else A (o + c - 32)) * sn (c % 128)

theorem slab_eq (raw : FVec Ideal S512x512 .f32) (x3 x4 : Vec Ideal S512x128 .f32) (A : ℕ → EReal) (cs sn : ℕ → EReal) (o' o : ℕ) (ho : o ≤ 384)
    (h64 : o % 128 = 0) (r : Fin 512) (l : Fin 128) (hr : ∀ c : Fin 512, raw (ix2 r c) = A (o' + c.val))
    (h3 : ∀ l : Fin 128, x3 (ix2 r l) = cs l.val) (h4 : ∀ l : Fin 128, x4 (ix2 r l) = sn l.val) :
    slab raw x3 x4 o ho r l = ropeRow A cs sn o' (o + l.val) := by
  unfold slab ropeRow
  rw [laneBit_eq, hr, hr, hr, h3, h4]
  have hl : (o + l.val) % 128 = l.val := by omega
  rw [hl]
  have hm : (o + l.val) % 64 = l.val % 64 := by omega
  rw [hm]
  by_cases h : l.val % 64 < 32
  · rw [if_pos h, if_pos h]
    have e : o' + (o + (l.val + 128 - 96) % 128) = o' + (o + l.val) + 32 := by omega
    show A (o' + (o + l.val)) * cs l.val + A (o' + (o + (l.val + 128 - 96) % 128)) * sn l.val = _
    rw [e]
  · rw [if_neg h, if_neg h]
    have e : o' + (o + (l.val + 128 - 32) % 128) = o' + (o + l.val) - 32 := by omega
    show A (o' + (o + l.val)) * cs l.val + A (o' + (o + (l.val + 128 - 32) % 128)) * sn l.val = _
    rw [e]

theorem slab_cases (c : Fin 512) : ∃ l : Fin 128, c = ⟨0 + l.val, by omega⟩ ∨ c = ⟨128 + l.val, by omega⟩ ∨ c = ⟨256 + l.val, by omega⟩ ∨ c = ⟨384 + l.val, by omega⟩ := by
  refine ⟨⟨c.val % 128, by omega⟩, ?_⟩
  simp only [Fin.ext_iff]
  omega

theorem qTerm_apply (x0 : Vec Ideal S512x1024 .f32) (x1 : Vec Ideal S1x1024 .f32) (x2 : Vec Ideal S1024x2560 .bf16) (x3 x4 : Vec Ideal S512x128 .f32)
    (cs sn : ℕ → EReal) (r c : Fin 512) (h3 : ∀ l : Fin 128, x3 (ix2 r l) = cs l.val) (h4 : ∀ l : Fin 128, x4 (ix2 r l) = sn l.val) :
    qTerm x0 x1 x2 x3 x4 (ix2 r c) = ropeRow (bRow x0 x1 x2 r) cs sn 0 c.val := by
  obtain ⟨l, rfl | rfl | rfl | rfl⟩ := slab_cases c
  · refine (canon_q0 _ _ _ _ r l).trans ?_
    exact (q0_apply _ _ _ _ _ r l).trans (slab_eq (qRaw x0 x1 x2) x3 x4 (bRow x0 x1 x2 r) cs sn 0 0 (by omega) (by omega) r l (fun c => qRaw_apply x0 x1 x2 r c) h3 h4)
  · refine (canon_q1 _ _ _ _ r l).trans ?_
    exact (q1_apply _ _ _ r l).trans (slab_eq (qRaw x0 x1 x2) x3 x4 (bRow x0 x1 x2 r) cs sn 0 128 (by omega) (by omega) r l (fun c => qRaw_apply x0 x1 x2 r c) h3 h4)
  · refine (canon_q2 _ _ _ _ r l).trans ?_
    exact (q2_apply _ _ _ r l).trans (slab_eq (qRaw x0 x1 x2) x3 x4 (bRow x0 x1 x2 r) cs sn 0 256 (by omega) (by omega) r l (fun c => qRaw_apply x0 x1 x2 r c) h3 h4)
  · refine (canon_q3 _ _ _ _ r l).trans ?_
    exact (q3_apply _ _ _ r l).trans (slab_eq (qRaw x0 x1 x2) x3 x4 (bRow x0 x1 x2 r) cs sn 0 384 (by omega) (by omega) r l (fun c => qRaw_apply x0 x1 x2 r c) h3 h4)

theorem kTerm_apply (x0 : Vec Ideal S512x1024 .f32) (x1 : Vec Ideal S1x1024 .f32) (x2 : Vec Ideal S1024x2560 .bf16) (x3 x4 : Vec Ideal S512x128 .f32)
    (cs sn : ℕ → EReal) (r c : Fin 512) (h3 : ∀ l : Fin 128, x3 (ix2 r l) = cs l.val) (h4 : ∀ l : Fin 128, x4 (ix2 r l) = sn l.val) :
    kTerm x0 x1 x2 x3 x4 (ix2 r c) = ropeRow (bRow x0 x1 x2 r) cs sn 512 c.val := by
  obtain ⟨l, rfl | rfl | rfl | rfl⟩ := slab_cases c
  · refine (canon_q0 _ _ _ _ r l).trans ?_
    exact (k0_apply _ _ _ _ r l).trans (slab_eq (kRaw x0 x1 x2) x3 x4 (bRow x0 x1 x2 r) cs sn 512 0 (by omega) (by omega) r l (fun c => kRaw_apply x0 x1 x2 r c) h3 h4)
  · refine (canon_q1 _ _ _ _ r l).trans ?_
    exact (k1_apply _ _ _ r l).trans (slab_eq (kRaw x0 x1 x2) x3 x4 (bRow x0 x1 x2 r) cs sn 512 128 (by omega) (by omega) r l (fun c => kRaw_apply x0 x1 x2 r c) h3 h4)
  · refine (canon_q2 _ _ _ _ r l).trans ?_
    exact (k2_apply _ _ _ r l).trans (slab_eq (kRaw x0 x1 x2) x3 x4 (bRow x0 x1 x2 r) cs sn 512 256 (by omega) (by omega) r l (fun c => kRaw_apply x0 x1 x2 r c) h3 h4)
  · refine (canon_q3 _ _ _ _ r l).trans ?_
    exact (k3_apply _ _ _ r l).trans (slab_eq (kRaw x0 x1 x2) x3 x4 (bRow x0 x1 x2 r) cs sn 512 384 (by omega) (by omega) r l (fun c => kRaw_apply x0 x1 x2 r c) h3 h4)

/-! ## The pooling and convolution block -/

/-- A buffer's entry by its numbers. -/
def uN (U : Vec Ideal S528x256 .f32) (R j : ℕ) : EReal := if h : R < 528 ∧ j < 256 then U (ix2 ⟨R, h.1⟩ ⟨j, h.2⟩) else 0
def zN (Z : Vec Ideal S520x256 .f32) (R j : ℕ) : EReal := if h : R < 520 ∧ j < 256 then Z (ix2 ⟨R, h.1⟩ ⟨j, h.2⟩) else 0

theorem ldU_apply (U : Vec Ideal S528x256 .f32) (o c : ℕ) (h) (r : Fin 512) (l : Fin 128) (ho : o ≤ 16) (hc : c ≤ 128) :
    ldU U o c h (ix2 r l) = uN U (o + r.val) (c + l.val) := by
  rw [uN, dif_pos ⟨by omega, by omega⟩]
  refine congrArg U (funext fun a => Fin.ext ?_)
  match a with
  | ⟨0, _⟩ => show o + 1 * r.val = o + r.val; omega
  | ⟨1, _⟩ => show c + 1 * l.val = c + l.val; omega

theorem ldZ_apply (Z : Vec Ideal S520x256 .f32) (o : ℕ) (h) (r : Fin 512) (l : Fin 256) (ho : o ≤ 8) :
    ldZ Z o h (ix2 r l) = zN Z (o + r.val) l.val := by
  rw [zN, dif_pos ⟨by omega, by omega⟩]
  refine congrArg Z (funext fun a => Fin.ext ?_)
  match a with
  | ⟨0, _⟩ => show o + 1 * r.val = o + r.val; omega
  | ⟨1, _⟩ => show 0 + 1 * l.val = l.val; omega

theorem ldC_apply (C : Vec Ideal S3x256 .f32) (o : ℕ) (h) (l : Fin 256) (ho : o < 3) :
    ldC C o h (ix2 0 l) = C (ix2 ⟨o, ho⟩ l) := by
  refine congrArg C (funext fun a => Fin.ext ?_)
  match a with
  | ⟨0, _⟩ => show o + 1 * 0 = o; omega
  | ⟨1, _⟩ => show 0 + 1 * l.val = l.val; omega

theorem pay42_apply (u : FVec Ideal S512x256 .f32) (b : BitVec 32) (a0 a1 a2 a3 : Vec Ideal S512x128 .f32) (r : Fin 512) (l : Fin 128) :
    k0_pay42 u b a0 a1 a2 a3 (ix2 r l) = Ideal.div
        (Scalar.select (IntOp.cmpi .slt (BitVec.ofNat 32 l.val) 64#32) (a0 (ix2 r l) + a1 (ix2 r l))
          (a0 (ix2 r l) + a1 (ix2 r l) + a2 (ix2 r l) + a3 (ix2 r l)))
        (FloatOps.sitofp (F := Ideal) FTy.f32
          (IntOp.minsi (IntOp.addi (IntOp.addi (Scalar.addi 0#32 b) (BitVec.ofNat 32 r.val)) 1#32)
            (Scalar.select (IntOp.cmpi .slt (BitVec.ofNat 32 l.val) 64#32) 2#32 4#32)))
      - u (ix2 r ⟨0 + l.val, by omega⟩) := by
  simp only [Nat.zero_add]
  pointwise [k0_pay42, k0_pay41, k0_pay40]

theorem pay44_lo (u : FVec Ideal S512x256 .f32) (b : BitVec 32) (d e a5 a6 a7 a8 a9 a10 a11 a12 a13 a14 a15 : Vec Ideal S512x128 .f32) (r : Fin 512) (l : Fin 128) :
    k0_pay44 u (k0_pay40 b) k0_pay41 d e a5 a6 a7 a8 a9 a10 a11 a12 a13 a14 a15 (ix2 r ⟨0 + l.val, by omega⟩) = d (ix2 r l) := by
  simp only [Nat.zero_add]
  pointwise [k0_pay44]

theorem pay44_hi (u : FVec Ideal S512x256 .f32) (b : BitVec 32) (d a0 a1 a2 a3 a4 a5 a6 a7 a8 a9 a10 a11 a12 a13 a14 a15 : Vec Ideal S512x128 .f32) (r : Fin 512) (l : Fin 128) :
    k0_pay44 u (k0_pay40 b) k0_pay41 d (k0_pay43 a0 a1 a2 a3 a4) a5 a6 a7 a8 a9 a10 a11 a12 a13 a14 a15 (ix2 r ⟨128 + l.val, by omega⟩) = Ideal.div
        (Scalar.select (IntOp.cmpi .slt (BitVec.ofNat 32 l.val) 64#32) (a0 (ix2 r l) + a1 (ix2 r l) + a2 (ix2 r l) + a3 (ix2 r l) + a4 (ix2 r l) + a5 (ix2 r l) + a6 (ix2 r l) + a7 (ix2 r l))
          (a0 (ix2 r l) + a1 (ix2 r l) + a2 (ix2 r l) + a3 (ix2 r l) + a4 (ix2 r l) + a5 (ix2 r l) + a6 (ix2 r l) + a7 (ix2 r l) + a8 (ix2 r l) + a9 (ix2 r l) + a10 (ix2 r l) + a11 (ix2 r l) + a12 (ix2 r l) + a13 (ix2 r l) + a14 (ix2 r l) + a15 (ix2 r l)))
        (FloatOps.sitofp (F := Ideal) FTy.f32
          (IntOp.minsi (IntOp.addi (IntOp.addi (Scalar.addi 0#32 b) (BitVec.ofNat 32 r.val)) 1#32)
            (Scalar.select (IntOp.cmpi .slt (BitVec.ofNat 32 l.val) 64#32) 8#32 16#32)))
      - u (ix2 r ⟨128 + l.val, by omega⟩) := by
  pointwise [k0_pay44, k0_pay43, k0_pay41, k0_pay40]

theorem pay45_apply (x6 : Vec Ideal S1x256 .f32) (x5 : Vec Ideal S256x256 .bf16) (d : FVec Ideal S512x256 .bf16) (r : Fin 512) (l : Fin 256) :
   k0_pay45 d x5 x6 (ix2 r l) = (∑ x : Fin 256, d (ix2 r x) * x5 (ix2 x l)) * x6 (ix2 0 l) := by
  pointwise [k0_pay45]

theorem pay46_apply (a b c d : Vec Ideal S512x256 .f32) (x y z : Vec Ideal S1x256 .f32) (r : Fin 512) (l : Fin 256) :
   k0_pay46 a b x c y d z (ix2 r l) = a (ix2 r l) * (b (ix2 r l) * x (ix2 0 l) + c (ix2 r l) * y (ix2 0 l) + d (ix2 r l) * z (ix2 0 l)) := by
  pointwise [k0_pay46]

theorem halfBit_eq : ∀ l : Fin 128, IntOp.cmpi .slt (BitVec.ofNat 32 l.val) 64#32 = if l.val < 64 then 1#1 else 0#1 := by decide +kernel

theorem sel_one {α : Type} (a b : α) : Scalar.select 1#1 a b = a := rfl
theorem sel_zero {α : Type} (a b : α) : Scalar.select 0#1 a b = b := rfl

/-- The row count of a window at the point's row, as the sequence position's. -/
theorem row_word (q r : ℕ) :
    IntOp.addi (Scalar.addi 0#32 (Scalar.muli (BitVec.ofNat 32 q) 512#32)) (BitVec.ofNat 32 r) = BitVec.ofNat 32 (q * 512 + r) := by
  show (0#32 + BitVec.ofNat 32 q * 512#32) + BitVec.ofNat 32 r = _
  rw [BitVec.ofNat_add, BitVec.ofNat_mul]
  simp

theorem winS_congr (f g : ℕ → EReal) (n : ℕ) (h : ∀ i ≤ n, f i = g i) : winS f n = winS g n := by
  induction n with
  | zero => exact h 0 le_rfl
  | succ n ih => rw [winS, winS, ih fun i hi => h i (by omega), h (n + 1) le_rfl]

/-- The mean differences of a point's row `r`, at sequence row `R`. -/
theorem poolD_apply (A : ℕ → ℕ → EReal) (R q : ℕ) (u : Vec Ideal S512x256 .f32) (U : Vec Ideal S528x256 .f32) (r : Fin 512) (j : Fin 256)
    (hR : R % 8192 = q * 512 + r.val) (hu : ∀ j : Fin 256, u (ix2 r j) = A R (1536 + j.val))
    (hU : ∀ (j : Fin 256) (i : ℕ), i ≤ 15 → uN U (16 - i + r.val) j.val = backS (fun r => A r (1536 + j.val)) R i) :
    poolD u U (Scalar.muli (BitVec.ofNat 32 q) 512#32) (ix2 r j) = difS A R j.val := by
  have w : ∀ (j : Fin 256) (n : ℕ), n ≤ 15 → winS (fun i => uN U (16 - i + r.val) j.val) n = winS (backS (fun r => A r (1536 + j.val)) R) n :=
    fun j n hn => winS_congr _ _ n fun i hi => hU j i (by omega)
  have hj : ∃ l : Fin 128, j = ⟨0 + l.val, by omega⟩ ∨ j = ⟨128 + l.val, by omega⟩ := by
    refine ⟨⟨j.val % 128, by omega⟩, ?_⟩
    simp only [Fin.ext_iff]
    omega
  obtain ⟨l, rfl | rfl⟩ := hj
  · unfold poolD
    rw [pay44_lo, pay42_apply, halfBit_eq, row_word, hu, difS, cntS, hR]
    rw [ldU_apply _ _ _ _ _ _ (by omega) (by omega), ldU_apply _ _ _ _ _ _ (by omega) (by omega), ldU_apply _ _ _ _ _ _ (by omega) (by omega), ldU_apply _ _ _ _ _ _ (by omega) (by omega)]
    by_cases h : l.val < 64
    · rw [if_pos h, sel_one, sel_one, show (0 + l.val) / 64 = 0 by omega, show 2 ^ (0 + 1) - 1 = 1 from rfl, show 2 ^ (0 + 1) = 2 from rfl, ← w ⟨0 + l.val, by omega⟩ 1 (by omega)]
      rfl
    · rw [if_neg h, sel_zero, sel_zero, show (0 + l.val) / 64 = 1 by omega, show 2 ^ (1 + 1) - 1 = 3 from rfl, show 2 ^ (1 + 1) = 4 from rfl, ← w ⟨0 + l.val, by omega⟩ 3 (by omega)]
      rfl
  · unfold poolD
    rw [pay44_hi, halfBit_eq, row_word, hu, difS, cntS, hR]
    simp only [ldU_apply U 16 128 inb_S528x256_S512x128_16_128 r l (by omega) (by omega), ldU_apply U 15 128 inb_S528x256_S512x128_15_128 r l (by omega) (by omega), ldU_apply U 14 128 inb_S528x256_S512x128_14_128 r l (by omega) (by omega), ldU_apply U 13 128 inb_S528x256_S512x128_13_128 r l (by omega) (by omega), ldU_apply U 12 128 inb_S528x256_S512x128_12_128 r l (by omega) (by omega), ldU_apply U 11 128 inb_S528x256_S512x128_11_128 r l (by omega) (by omega), ldU_apply U 10 128 inb_S528x256_S512x128_10_128 r l (by omega) (by omega), ldU_apply U 9 128 inb_S528x256_S512x128_9_128 r l (by omega) (by omega), ldU_apply U 8 128 inb_S528x256_S512x128_8_128 r l (by omega) (by omega), ldU_apply U 7 128 inb_S528x256_S512x128_7_128 r l (by omega) (by omega), ldU_apply U 6 128 inb_S528x256_S512x128_6_128 r l (by omega) (by omega), ldU_apply U 5 128 inb_S528x256_S512x128_5_128 r l (by omega) (by omega), ldU_apply U 4 128 inb_S528x256_S512x128_4_128 r l (by omega) (by omega), ldU_apply U 3 128 inb_S528x256_S512x128_3_128 r l (by omega) (by omega), ldU_apply U 2 128 inb_S528x256_S512x128_2_128 r l (by omega) (by omega), ldU_apply U 1 128 inb_S528x256_S512x128_1_128 r l (by omega) (by omega)]
    by_cases h : l.val < 64
    · rw [if_pos h, sel_one, sel_one, show (128 + l.val) / 64 = 2 by omega, show 2 ^ (2 + 1) - 1 = 7 from rfl, show 2 ^ (2 + 1) = 8 from rfl, ← w ⟨128 + l.val, by omega⟩ 7 (by omega)]
      rfl
    · rw [if_neg h, sel_zero, sel_zero, show (128 + l.val) / 64 = 3 by omega, show 2 ^ (3 + 1) - 1 = 15 from rfl, show 2 ^ (3 + 1) = 16 from rfl, ← w ⟨128 + l.val, by omega⟩ 15 (by omega)]
      rfl

theorem sum_groups (T : ℕ → EReal) : ∑ x : Fin 256, T x.val = ∑ g : Fin 4, ∑ k : Fin 64, T (64 * g.val + k.val) := by
  rw [← Fintype.sum_prod_type']
  refine (Fintype.sum_equiv (finProdFinEquiv (m := 4) (n := 64)) _ (fun x : Fin 256 => T x.val) fun x => congrArg T ?_).symm
  show 64 * x.1.val + x.2.val = x.2.val + 64 * x.1.val
  omega

/-- The product with the block-diagonal weight is the product with the row's own block. -/
theorem pool_sum (D : ℕ → EReal) (E : ℕ → ℕ → EReal) (P : ℕ → ℕ → ℕ → EReal) (l : ℕ) (hl : l < 256)
    (hE : ∀ x : Fin 256, E x.val l = if x.val / 64 = l / 64 then P (l / 64) (x.val % 64) (l % 64) else 0) :
    ∑ x : Fin 256, D x.val * E x.val l = ∑ k : Fin 64, D (64 * (l / 64) + k.val) * P (l / 64) k.val (l % 64) := by
  rw [sum_groups fun x => D x * E x l]
  rw [Finset.sum_eq_single (⟨l / 64, by omega⟩ : Fin 4)]
  · refine Finset.sum_congr rfl fun k _ => congrArg₂ (· * ·) rfl ?_
    have := hE ⟨64 * (l / 64) + k.val, by omega⟩
    rw [if_pos (by dsimp only; omega)] at this
    exact this.trans (by rw [show (64 * (l / 64) + k.val) % 64 = k.val by omega])
  · intro g _ hg
    refine Finset.sum_eq_zero fun k _ => ?_
    have := hE ⟨64 * g.val + k.val, by omega⟩
    rw [if_neg (fun hh => hg (Fin.ext (by dsimp only at hh ⊢; omega)))] at this
    show D (64 * g.val + k.val) * E (64 * g.val + k.val) l = 0
    rw [show E (64 * g.val + k.val) l = 0 from this, mul_zero]
  · intro h; exact absurd (Finset.mem_univ _) h

/-- The pooling half of the last block. -/
theorem pc_lo (A : ℕ → ℕ → EReal) (P : ℕ → ℕ → ℕ → EReal) (ps : ℕ → EReal) (R : ℕ) (i : grid0.Coords) (x0 : Vec Ideal S512x1024 .f32) (x1 : Vec Ideal S1x1024 .f32)
    (x2 : Vec Ideal S1024x2560 .bf16) (x5 : Vec Ideal S256x256 .bf16) (x6 : Vec Ideal S1x256 .f32)
    (x7 : Vec Ideal S3x256 .f32) (U : Vec Ideal S528x256 .f32) (Z : Vec Ideal S520x256 .f32) (r : Fin 512) (l : Fin 256)
    (hR : R % 8192 = (i 1).val * 512 + r.val) (hA : ∀ f, bRow x0 x1 x2 r f = A R f)
    (hU : ∀ (j : Fin 256) (i : ℕ), i ≤ 15 → uN U (16 - i + r.val) j.val = backS (fun r => A r (1536 + j.val)) R i)
    (h5 : ∀ x l : Fin 256, x5 (ix2 x l) = if x.val / 64 = l.val / 64 then P (l.val / 64) (x.val % 64) (l.val % 64) else 0)
    (h6 : ∀ l : Fin 256, x6 (ix2 0 l) = ps l.val) :
    pcTerm i x0 x1 x2 x5 x6 x7 U Z (ix2 r ⟨0 + l.val, by omega⟩) = poolS A P ps R l.val := by
  unfold pcTerm
  refine (canon_p0 _ _ r l).trans ?_
  rw [pay45_apply, h6, poolS]
  refine congrArg (· * ps l.val) ?_
  refine Eq.trans (Finset.sum_congr rfl fun x _ => congrArg₂ (· * ·) (poolD_apply A R (i 1).val (uTerm x0 x1 x2) U r x hR (fun j => (uTerm_apply x0 x1 x2 r j).trans (hA _)) hU) (h5 x l)) ?_
  exact pool_sum (difS A R) (fun x l => if x / 64 = l / 64 then P (l / 64) (x % 64) (l % 64) else 0) P l.val l.isLt fun x => rfl

/-- The convolution half of the last block. -/
theorem pc_hi (A : ℕ → ℕ → EReal) (cw : ℕ → ℕ → EReal) (R : ℕ) (i : grid0.Coords) (x0 : Vec Ideal S512x1024 .f32) (x1 : Vec Ideal S1x1024 .f32)
    (x2 : Vec Ideal S1024x2560 .bf16) (x5 : Vec Ideal S256x256 .bf16) (x6 : Vec Ideal S1x256 .f32)
    (x7 : Vec Ideal S3x256 .f32) (U : Vec Ideal S528x256 .f32) (Z : Vec Ideal S520x256 .f32) (r : Fin 512) (l : Fin 256)
    (hA : ∀ f, bRow x0 x1 x2 r f = A R f)
    (hZ : ∀ (j : Fin 256) (i : ℕ), i ≤ 2 → zN Z (8 - i + r.val) j.val = backS (fun r => zS A r j.val) R i)
    (h7 : ∀ (a : Fin 3) (l : Fin 256), x7 (ix2 a l) = cw a.val l.val) :
    pcTerm i x0 x1 x2 x5 x6 x7 U Z (ix2 r ⟨256 + l.val, by omega⟩) = convS A cw R l.val := by
  unfold pcTerm
  refine (canon_p1 _ _ r l).trans ?_
  rw [pay46_apply, bg_apply, hA, ldC_apply _ _ _ _ (by omega), ldC_apply _ _ _ _ (by omega), ldC_apply _ _ _ _ (by omega), h7, h7, h7,
    ldZ_apply _ _ _ _ _ (by omega), ldZ_apply _ _ _ _ _ (by omega), ldZ_apply _ _ _ _ _ (by omega), convS, ← hZ l 2 (by omega), ← hZ l 1 (by omega), ← hZ l 0 (by omega)]

end Cert.InprojIdeal.Block

end
-- ==== Proof.InprojPrep.lean ====
/-
  The input projection's prepared arguments read: the blocks of a point are rows of the call's arguments, of the rotary tables and of
  the block-diagonal pooling weight.
-/
module

public import proofs.«01_k».proof.Proof.InprojAlg

@[expose] public section

set_option maxRecDepth 16384

noncomputable section

namespace Cert.InprojIdeal.Block

open Cert.InprojIdeal Cert.InprojIdeal.Gen Idealize.ShloMosaic Idealize.ShloMosaic.TcCoe Idealize.SL.Sem
open Idealize.ShloMosaic.Pipeline (Dat)
open Cert.FfnMixIdeal.Block (rmsRow)
open Cert.InprojSpec

variable (m : (ℓ : Loc nD τ sig) → Buf (Elt Ideal) ℓ) (ρ : Dev nD → PrngReg)

/-- The rotary angles of every position. -/
def angT : FVec Ideal S8192x32 .f32 :=
  mulf (broadcastInDim S8192x32 ![0, 1] bcast_S8192x1_S8192x32_0_1 (broadcastInDim S8192x1 ![0] bcast_S8192_S8192x1_0 (sitofp (F := Ideal) .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))

theorem angT_apply (s : Fin 8192) (d : Fin 32) : angT (ix2 s d) = ang s.val d.val := by
  unfold ang
  pointwise [angT]

/-- A table of 128 lanes from its two halves of 32. -/
def tab (a b : FVec Ideal S8192x32 .f32) : FVec Ideal S8192x128 .f32 :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

/-- The 4 by 4 identity, as the host builds it. -/
def eyeT : FVec Ideal S4x4 .f32 :=
  uitofp (F := Ideal) .f32 (cmpi .eq (addi (iotaInDim S4x4 32 0) (broadcastInDim S4x4 ![] bcast_S_S4x4 (constantI S_ 32 0#32))) (iotaInDim S4x4 32 1))

/-- The block-diagonal pooling weight. -/
def bdT (w : FVec Ideal S4x64x64 .f32) : FVec Ideal S256x256 .bf16 :=
  truncf (F := Ideal) .bf16 (shapeCast S256x256 (mulf (broadcastInDim S4x64x4x64 ![0, 1, 2, 3] bcast_S4x1x4x1_S4x64x4x64_0_1_2_3 (broadcastInDim S4x1x4x1 ![0, 2] bcast_S4x4_S4x1x4x1_0_2 eyeT))
    (broadcastInDim S4x64x4x64 ![0, 1, 2, 3] bcast_S4x64x1x64_S4x64x4x64_0_1_2_3 (broadcastInDim S4x64x1x64 ![0, 1, 3] bcast_S4x64x64_S4x64x1x64_0_1_3 w)))
    shapeCasts_S4x64x4x64_S256x256) bitsLt_bf16_f32

theorem eyeT_apply (a b : Fin 4) : eyeT (ix2 a b) = if a = b then 1 else 0 := by
  have h : eyeT (ix2 a b) = FloatOps.uitofp (F := Ideal) .f32 (IntOp.cmpi .eq (IntOp.addi (BitVec.ofNat 32 a.val) 0#32) (BitVec.ofNat 32 b.val)) := by
    pointwise [eyeT]
  have hb : ∀ a b : Fin 4, IntOp.cmpi .eq (IntOp.addi (BitVec.ofNat 32 a.val) 0#32) (BitVec.ofNat 32 b.val) = if a = b then 1#1 else 0#1 := by decide
  rw [h, hb]
  by_cases e : a = b
  · rw [if_pos e, if_pos e]
    show (((1#1 : BitVec 1).toNat : ℝ) : EReal) = 1
    simp
  · rw [if_neg e, if_neg e]
    show (((0#1 : BitVec 1).toNat : ℝ) : EReal) = 0
    simp

theorem tab_apply (a b : FVec Ideal S8192x32 .f32) (s : Fin 8192) (l : Fin 128) :
    tab a b (ix2 s l) = if l.val % 64 < 32 then a (ix2 s ⟨l.val % 32, by omega⟩) else b (ix2 s ⟨l.val % 32, by omega⟩) := by
  have h : tab a b (ix2 s l) = concatenate S8192x64 1 [⟨S8192x32, a⟩, ⟨S8192x32, b⟩] concatenates_S8192x32_S8192x32_S8192x64_d1 (ix2 s ⟨l.val % 64, by omega⟩) := by
    pointwise [tab]
  rw [h]
  pointwise
  by_cases e : l.val % 64 < 32
  · rw [if_pos e]
    first
      | rw [dif_pos e]
      | skip
    exact congrArg a (congrArg (ix2 s) (Fin.ext (by show l.val % 64 = l.val % 32; omega)))
  · rw [if_neg e]
    first
      | rw [dif_neg e]
      | skip
    exact congrArg b (congrArg (ix2 s) (Fin.ext (by show l.val % 64 - 32 = l.val % 32; omega)))

theorem bdT_apply (w : FVec Ideal S4x64x64 .f32) (x l : Fin 256) :
    bdT w (ix2 x l) = if x.val / 64 = l.val / 64 then w (ix3 ⟨l.val / 64, by omega⟩ ⟨x.val % 64, by omega⟩ ⟨l.val % 64, by omega⟩) else 0 := by
  have h : bdT w (ix2 x l) = eyeT (ix2 ⟨x.val / 64, by omega⟩ ⟨l.val / 64, by omega⟩) * w (ix3 ⟨x.val / 64, by omega⟩ ⟨x.val % 64, by omega⟩ ⟨l.val % 64, by omega⟩) := by
    pointwise [bdT]
  rw [h, eyeT_apply]
  by_cases e : x.val / 64 = l.val / 64
  · rw [if_pos e, if_pos (Fin.ext e), one_mul]
    exact congrArg (fun a => w (ix3 a ⟨x.val % 64, by omega⟩ ⟨l.val % 64, by omega⟩)) (Fin.ext e)
  · rw [if_neg e, if_neg (fun h => e (congrArg Fin.val h)), zero_mul]

/-- The gain of the norm, as a row. -/
theorem V_ng (c : Dev nD) : V m c main_v40
    = shapeCast S1x1024 (m (c.tc.loc main_arg1)) shapeCasts_S1024_S1x1024 := by
  unfold V
  simp only [hostOps0]
  after_results_simp <;> rfl

/-- The input weight. -/
theorem V_w (c : Dev nD) : V m c main_v26
    = truncf (F := Ideal) .bf16 (m (c.tc.loc main_arg2)) bitsLt_bf16_f32 := by
  unfold V
  simp only [hostOps0]
  after_results_simp <;> rfl

/-- The cosine table. -/
theorem V_cos (c : Dev nD) : V m c main_v18
    = tab (Host.cos angT) (Host.cos angT) := by
  unfold V
  simp only [hostOps0]
  after_results_simp <;> rfl

/-- The signed sine table. -/
theorem V_sin (c : Dev nD) : V m c main_v23
    = tab (Host.negf (Host.sin angT)) (Host.sin angT) := by
  unfold V
  simp only [hostOps0]
  after_results_simp <;> rfl

/-- The pooling weight. -/
theorem V_wp (c : Dev nD) : V m c main_v39
    = bdT (m (c.tc.loc main_arg3)) := by
  unfold V
  simp only [hostOps0]
  after_results_simp <;> rfl

/-- The pooling scale, as a row. -/
theorem V_ps (c : Dev nD) : V m c main_v41
    = shapeCast S1x256 (m (c.tc.loc main_arg4)) shapeCasts_S256_S1x256 := by
  unfold V
  simp only [hostOps0]
  after_results_simp <;> rfl

/-- The zero start of the pooling window. -/
theorem V_sp (c : Dev nD) : V m c main_v24
    = broadcastInDim S4x16x256 ![] bcast_S_S4x16x256 (constant (F := Ideal) S_ .f32 0x00000000#32) := by
  unfold V
  simp only [hostOps0]
  after_results_simp <;> rfl

/-- The zero start of the convolution. -/
theorem V_sc (c : Dev nD) : V m c main_v25
    = broadcastInDim S4x8x256 ![] bcast_S_S4x8x256 (constant (F := Ideal) S_ .f32 0x00000000#32) := by
  unfold V
  simp only [hostOps0]
  after_results_simp <;> rfl

theorem idx0 : ∀ t : Fin grid0.N, win0_0.index t 0 = t.val ∧ win0_0.index t 1 = 0 := by decide +kernel
theorem blk0 (c : Dev nD) (t : Fin cfg0.N) (r : Fin 512) (l : Fin 1024) :
    (iblk m c 0 t : Vec Ideal S512x1024 .f32) (ix2 r l)
      = m (c.tc.loc main_arg0) (ix2 ⟨t.val * 512 + r.val, by have := lt_of_lt_of_eq t.isLt N_0; omega⟩ l) := by
  unfold iblk
  rw [View.read_apply]
  show V m c main_arg0 _ = _
  rw [V_main_arg0]
  refine congrArg _ (funext fun a => Fin.ext ?_)
  match a with
  | ⟨0, _⟩ => show win0_0.index t 0 * 512 + 1 * r.val = t.val * 512 + r.val; rw [(idx0 t).1]; omega
  | ⟨1, _⟩ => show win0_0.index t 1 * 1024 + 1 * l.val = l.val; rw [(idx0 t).2]; omega

theorem idx3 : ∀ t : Fin grid0.N, win0_3.index t 0 = t.val % 16 ∧ win0_3.index t 1 = 0 := by decide +kernel
theorem blk3 (c : Dev nD) (t : Fin cfg0.N) (r : Fin 512) (l : Fin 128) :
    (iblk m c 3 t : Vec Ideal S512x128 .f32) (ix2 r l)
      = (V m c main_v18 : Vec Ideal S8192x128 .f32) (ix2 ⟨t.val % 16 * 512 + r.val, by omega⟩ l) := by
  unfold iblk
  rw [View.read_apply]
  show V m c main_v18 _ = _
  refine congrArg _ (funext fun a => Fin.ext ?_)
  match a with
  | ⟨0, _⟩ => show win0_3.index t 0 * 512 + 1 * r.val = t.val % 16 * 512 + r.val; rw [(idx3 t).1]; omega
  | ⟨1, _⟩ => show win0_3.index t 1 * 128 + 1 * l.val = l.val; rw [(idx3 t).2]; omega

theorem idx4 : ∀ t : Fin grid0.N, win0_4.index t 0 = t.val % 16 ∧ win0_4.index t 1 = 0 := by decide +kernel
theorem blk4 (c : Dev nD) (t : Fin cfg0.N) (r : Fin 512) (l : Fin 128) :
    (iblk m c 4 t : Vec Ideal S512x128 .f32) (ix2 r l)
      = (V m c main_v23 : Vec Ideal S8192x128 .f32) (ix2 ⟨t.val % 16 * 512 + r.val, by omega⟩ l) := by
  unfold iblk
  rw [View.read_apply]
  show V m c main_v23 _ = _
  refine congrArg _ (funext fun a => Fin.ext ?_)
  match a with
  | ⟨0, _⟩ => show win0_4.index t 0 * 512 + 1 * r.val = t.val % 16 * 512 + r.val; rw [(idx4 t).1]; omega
  | ⟨1, _⟩ => show win0_4.index t 1 * 128 + 1 * l.val = l.val; rw [(idx4 t).2]; omega

theorem idx1 : ∀ (t : Fin grid0.N) (a : Fin 2), win0_1.index t a = 0 := by decide +kernel
theorem blk1 (c : Dev nD) (t : Fin cfg0.N) : (iblk m c 1 t : Vec Ideal S1x1024 .f32) = V m c main_v40 := by
  funext j
  unfold iblk
  rw [View.read_apply]
  show V m c main_v40 _ = _
  refine congrArg _ (funext fun a => Fin.ext ?_)
  match a with
  | ⟨0, _⟩ => show win0_1.index t 0 * 1 + 1 * (j 0).val = (j 0).val; rw [idx1 t 0]; omega
  | ⟨1, _⟩ => show win0_1.index t 1 * 1024 + 1 * (j 1).val = (j 1).val; rw [idx1 t 1]; omega

theorem idx2 : ∀ (t : Fin grid0.N) (a : Fin 2), win0_2.index t a = 0 := by decide +kernel
theorem blk2 (c : Dev nD) (t : Fin cfg0.N) : (iblk m c 2 t : Vec Ideal S1024x2560 .bf16) = V m c main_v26 := by
  funext j
  unfold iblk
  rw [View.read_apply]
  show V m c main_v26 _ = _
  refine congrArg _ (funext fun a => Fin.ext ?_)
  match a with
  | ⟨0, _⟩ => show win0_2.index t 0 * 1024 + 1 * (j 0).val = (j 0).val; rw [idx2 t 0]; omega
  | ⟨1, _⟩ => show win0_2.index t 1 * 2560 + 1 * (j 1).val = (j 1).val; rw [idx2 t 1]; omega

theorem idx5 : ∀ (t : Fin grid0.N) (a : Fin 2), win0_5.index t a = 0 := by decide +kernel
theorem blk5 (c : Dev nD) (t : Fin cfg0.N) : (iblk m c 5 t : Vec Ideal S256x256 .bf16) = V m c main_v39 := by
  funext j
  unfold iblk
  rw [View.read_apply]
  show V m c main_v39 _ = _
  refine congrArg _ (funext fun a => Fin.ext ?_)
  match a with
  | ⟨0, _⟩ => show win0_5.index t 0 * 256 + 1 * (j 0).val = (j 0).val; rw [idx5 t 0]; omega
  | ⟨1, _⟩ => show win0_5.index t 1 * 256 + 1 * (j 1).val = (j 1).val; rw [idx5 t 1]; omega

theorem idx6 : ∀ (t : Fin grid0.N) (a : Fin 2), win0_6.index t a = 0 := by decide +kernel
theorem blk6 (c : Dev nD) (t : Fin cfg0.N) : (iblk m c 6 t : Vec Ideal S1x256 .f32) = V m c main_v41 := by
  funext j
  unfold iblk
  rw [View.read_apply]
  show V m c main_v41 _ = _
  refine congrArg _ (funext fun a => Fin.ext ?_)
  match a with
  | ⟨0, _⟩ => show win0_6.index t 0 * 1 + 1 * (j 0).val = (j 0).val; rw [idx6 t 0]; omega
  | ⟨1, _⟩ => show win0_6.index t 1 * 256 + 1 * (j 1).val = (j 1).val; rw [idx6 t 1]; omega

theorem idx7 : ∀ (t : Fin grid0.N) (a : Fin 2), win0_7.index t a = 0 := by decide +kernel
theorem blk7 (c : Dev nD) (t : Fin cfg0.N) : (iblk m c 7 t : Vec Ideal S3x256 .f32) = V m c main_arg5 := by
  funext j
  unfold iblk
  rw [View.read_apply]
  show V m c main_arg5 _ = _
  refine congrArg _ (funext fun a => Fin.ext ?_)
  match a with
  | ⟨0, _⟩ => show win0_7.index t 0 * 3 + 1 * (j 0).val = (j 0).val; rw [idx7 t 0]; omega
  | ⟨1, _⟩ => show win0_7.index t 1 * 256 + 1 * (j 1).val = (j 1).val; rw [idx7 t 1]; omega

theorem blk8 (c : Dev nD) (t : Fin cfg0.N) (j : S1x16x256.Idx) : (iblk m c 8 t : Vec Ideal S1x16x256 .f32) j = (0 : EReal) := by
  unfold iblk
  rw [View.read_apply]
  show V m c main_v24 _ = _
  rw [V_sp]
  exact Ideal.ofBits_zero .f32

theorem blk9 (c : Dev nD) (t : Fin cfg0.N) (j : S1x8x256.Idx) : (iblk m c 9 t : Vec Ideal S1x8x256 .f32) j = (0 : EReal) := by
  unfold iblk
  rw [View.read_apply]
  show V m c main_v25 _ = _
  rw [V_sc]
  exact Ideal.ofBits_zero .f32

/-- The projections of the call's input rows. -/
def AM (c : Dev nD) : ℕ → ℕ → EReal :=
  gp (fun r k => m (c.tc.loc main_arg0) (ix2 r k)) (fun j => m (c.tc.loc main_arg1) (ix1 j)) (fun k f => m (c.tc.loc main_arg2) (ix2 k f))

/-- A row of a block's projections is that row of the whole. -/
theorem bRow_eq (c : Dev nD) (t : Fin cfg0.N) (r : Fin 512) (f : ℕ) :
    bRow (iblk m c 0 t) (iblk m c 1 t) (iblk m c 2 t) r f = AM m c (t.val * 512 + r.val) f := by
  have e1 : ∀ j : Fin 1024, (iblk m c 1 t : Vec Ideal S1x1024 .f32) (ix2 0 j) = m (c.tc.loc main_arg1) (ix1 j) := by
    intro j; rw [blk1, V_ng]; pointwise
  have e2 : ∀ (k : Fin 1024) (f : Fin 2560), (iblk m c 2 t : Vec Ideal S1024x2560 .bf16) (ix2 k f) = m (c.tc.loc main_arg2) (ix2 k f) := by
    intro k f; rw [blk2, V_w]; pointwise
  unfold AM bRow
  rw [gp_of_lt _ _ _ _ _ (by have := lt_of_lt_of_eq t.isLt N_0; omega), funext (blk0 m c t r), funext e1, funext fun k => funext (e2 k)]

theorem cos_apply (c : Dev nD) (t : Fin cfg0.N) (r : Fin 512) (l : Fin 128) :
    (iblk m c 3 t : Vec Ideal S512x128 .f32) (ix2 r l) = Ideal.cos (ang (t.val % 16 * 512 + r.val) (l.val % 32)) := by
  rw [blk3, V_cos]
  refine (tab_apply _ _ _ _).trans ?_
  rw [ite_self]
  exact congrArg Ideal.cos (angT_apply _ _)

theorem sin_apply (c : Dev nD) (t : Fin cfg0.N) (r : Fin 512) (l : Fin 128) :
    (iblk m c 4 t : Vec Ideal S512x128 .f32) (ix2 r l)
      = if l.val % 64 < 32 then -(Ideal.sin (ang (t.val % 16 * 512 + r.val) (l.val % 32))) else Ideal.sin (ang (t.val % 16 * 512 + r.val) (l.val % 32)) := by
  rw [blk4, V_sin]
  refine (tab_apply _ _ _ _).trans ?_
  by_cases e : l.val % 64 < 32
  · rw [if_pos e, if_pos e]
    exact congrArg (fun x : EReal => -(Ideal.sin x)) (angT_apply _ _)
  · rw [if_neg e, if_neg e]
    exact congrArg Ideal.sin (angT_apply _ _)

/-- The pooling weight's entries by number. -/
def PM (c : Dev nD) (g k l : ℕ) : EReal :=
  if h : g < 4 ∧ k < 64 ∧ l < 64 then m (c.tc.loc main_arg3) (ix3 ⟨g, h.1⟩ ⟨k, h.2.1⟩ ⟨l, h.2.2⟩) else 0

theorem wp_apply (c : Dev nD) (t : Fin cfg0.N) (x l : Fin 256) :
    (iblk m c 5 t : Vec Ideal S256x256 .bf16) (ix2 x l)
      = if x.val / 64 = l.val / 64 then PM m c (l.val / 64) (x.val % 64) (l.val % 64) else 0 := by
  rw [blk5, V_wp]
  refine (bdT_apply _ _ _).trans ?_
  unfold PM
  rw [dif_pos ⟨by omega, by omega, by omega⟩]

end Cert.InprojIdeal.Block

end
-- ==== Proof.InprojRef.lean ====
/-
  The reference of the input-projection call over the extended reals: each of its results read at an index as the formulas of
  `InprojSpec`.
-/
module

public import proofs.«01_k».proof.Proof.InprojSpec
public import proofs.«01_k».proof.Proof.Gen.RefInprojIdeal.Run
public import Idealize.ShloMosaic.Lib.Pointwise
public import Idealize.ShloMosaic.Lib.Tactic.CleanTypes

@[expose] public section

set_option maxRecDepth 16384

noncomputable section

namespace Cert.RefInprojIdeal.Value

open Cert.RefInprojIdeal Cert.RefInprojIdeal.Gen Idealize.ShloMosaic Idealize.ShloMosaic.TcCoe Idealize.SL.Sem
open Cert.FfnMixIdeal.Block (rmsRow)
open Cert.InprojSpec

/-- The reference's result, as its operations' term of the arguments. -/
def res_main_v197 {F : FTy → Type} [FloatOps F] (V0 : Valuation τ sig (Elt F)) : (Proc.devRef .tc main_v197 : DevRef τ sig).ty.Contents (Elt F) :=
  shapeCast _ (concatenate S4x8192x8x64 3 [⟨S4x8192x8x32, (subf (mulf (res_main_v184 V0) (broadcastInDim S4x8192x8x32 ![0, 1, 2, 3] bcast_S1x8192x1x32_S4x8192x8x32_0_1_2_3 (res_main_v35 V0))) (mulf (res_main_v185 V0) (broadcastInDim S4x8192x8x32 ![0, 1, 2, 3] bcast_S1x8192x1x32_S4x8192x8x32_0_1_2_3 (res_main_v37 V0))))⟩, ⟨S4x8192x8x32, (addf (mulf (res_main_v185 V0) (broadcastInDim S4x8192x8x32 ![0, 1, 2, 3] bcast_S1x8192x1x32_S4x8192x8x32_0_1_2_3 (res_main_v35 V0))) (mulf (res_main_v184 V0) (broadcastInDim S4x8192x8x32 ![0, 1, 2, 3] bcast_S1x8192x1x32_S4x8192x8x32_0_1_2_3 (res_main_v37 V0))))⟩] concatenates_S4x8192x8x32_S4x8192x8x32_S4x8192x8x64_d3) shapeCasts_S4x8192x8x64_S32768x512

/-- The reference's result, as its operations' term of the arguments. -/
def res_main_v212 {F : FTy → Type} [FloatOps F] (V0 : Valuation τ sig (Elt F)) : (Proc.devRef .tc main_v212 : DevRef τ sig).ty.Contents (Elt F) :=
  shapeCast _ (concatenate S4x8192x8x64 3 [⟨S4x8192x8x32, (subf (mulf (res_main_v199 V0) (broadcastInDim S4x8192x8x32 ![0, 1, 2, 3] bcast_S1x8192x1x32_S4x8192x8x32_0_1_2_3 (res_main_v35 V0))) (mulf (res_main_v200 V0) (broadcastInDim S4x8192x8x32 ![0, 1, 2, 3] bcast_S1x8192x1x32_S4x8192x8x32_0_1_2_3 (res_main_v37 V0))))⟩, ⟨S4x8192x8x32, (addf (mulf (res_main_v200 V0) (broadcastInDim S4x8192x8x32 ![0, 1, 2, 3] bcast_S1x8192x1x32_S4x8192x8x32_0_1_2_3 (res_main_v35 V0))) (mulf (res_main_v199 V0) (broadcastInDim S4x8192x8x32 ![0, 1, 2, 3] bcast_S1x8192x1x32_S4x8192x8x32_0_1_2_3 (res_main_v37 V0))))⟩] concatenates_S4x8192x8x32_S4x8192x8x32_S4x8192x8x64_d3) shapeCasts_S4x8192x8x64_S32768x512

/-- The reference's result, as its operations' term of the arguments. -/
def res_main_v17 {F : FTy → Type} [FloatOps F] (V0 : Valuation τ sig (Elt F)) : (Proc.devRef .tc main_v17 : DevRef τ sig).ty.Contents (Elt F) :=
  extractStridedSlice S32768x512 ![0, 1024] (res_main_v14 V0) slices_S32768x2560_S32768x512_0_1024

/-- The reference's result, as its operations' term of the arguments. -/
def res_main_v18 {F : FTy → Type} [FloatOps F] (V0 : Valuation τ sig (Elt F)) : (Proc.devRef .tc main_v18 : DevRef τ sig).ty.Contents (Elt F) :=
  extractStridedSlice S32768x256 ![0, 1536] (res_main_v14 V0) slices_S32768x2560_S32768x256_0_1536

/-- The reference's result, as its operations' term of the arguments. -/
def res_main_v157 {F : FTy → Type} [FloatOps F] (V0 : Valuation τ sig (Elt F)) : (Proc.devRef .tc main_v157 : DevRef τ sig).ty.Contents (Elt F) :=
  mulf (extractStridedSlice S32768x256 ![0, 2304] (res_main_v14 V0) slices_S32768x2560_S32768x256_0_2304) (extractStridedSlice S32768x256 ![0, 1792] (res_main_v14 V0) slices_S32768x2560_S32768x256_0_1792)

/-- The reference's result, as its operations' term of the arguments. -/
def res_main_v215 {F : FTy → Type} [FloatOps F] (V0 : Valuation τ sig (Elt F)) : (Proc.devRef .tc main_v215 : DevRef τ sig).ty.Contents (Elt F) :=
  truncf .bf16 (shapeCast _ (concatenate S4x8192x512 2 [⟨S4x8192x256, (mulf (res_main_v153 V0) (broadcastInDim S4x8192x256 ![0, 1, 2] bcast_S1x1x256_S4x8192x256_0_1_2 (broadcastInDim S1x1x256 ![2] bcast_S256_S1x1x256_2 (V0 (Proc.devRef .tc main_arg4)))))⟩, ⟨S4x8192x256, (mulf (shapeCast _ (extractStridedSlice S32768x256 ![0, 2048] (res_main_v14 V0) slices_S32768x2560_S32768x256_0_2048) shapeCasts_S32768x256_S4x8192x256) (addf (addf (mulf (extractStridedSlice S4x8192x256 ![0, 0, 0] (res_main_v160 V0) slices_S4x8194x256_S4x8192x256_0_0_0) (broadcastInDim S4x8192x256 ![0, 1, 2] bcast_S1x1x256_S4x8192x256_0_1_2 (broadcastInDim S1x1x256 ![2] bcast_S256_S1x1x256_2 (shapeCast _ (extractStridedSlice S1x256 ![0, 0] (V0 (Proc.devRef .tc main_arg5)) slices_S3x256_S1x256_0_0) shapeCasts_S1x256_S256)))) (mulf (extractStridedSlice S4x8192x256 ![0, 1, 0] (res_main_v160 V0) slices_S4x8194x256_S4x8192x256_0_1_0) (broadcastInDim S4x8192x256 ![0, 1, 2] bcast_S1x1x256_S4x8192x256_0_1_2 (broadcastInDim S1x1x256 ![2] bcast_S256_S1x1x256_2 (shapeCast _ (extractStridedSlice S1x256 ![1, 0] (V0 (Proc.devRef .tc main_arg5)) slices_S3x256_S1x256_1_0) shapeCasts_S1x256_S256))))) (mulf (extractStridedSlice S4x8192x256 ![0, 2, 0] (res_main_v160 V0) slices_S4x8194x256_S4x8192x256_0_2_0) (broadcastInDim S4x8192x256 ![0, 1, 2] bcast_S1x1x256_S4x8192x256_0_1_2 (broadcastInDim S1x1x256 ![2] bcast_S256_S1x1x256_2 (shapeCast _ (extractStridedSlice S1x256 ![2, 0] (V0 (Proc.devRef .tc main_arg5)) slices_S3x256_S1x256_2_0) shapeCasts_S1x256_S256))))))⟩] concatenates_S4x8192x256_S4x8192x256_S4x8192x512_d2) shapeCasts_S4x8192x512_S32768x512) bitsLt_bf16_f32

variable (V0 : Valuation τ sig (Elt Ideal))

/-- The projections of the reference's arguments. -/
def AR (R f : ℕ) : EReal :=
  gp (fun r k => (V0 (Proc.devRef .tc main_arg0) : Vec Ideal S32768x1024 .f32) (ix2 r k)) (fun j => (V0 (Proc.devRef .tc main_arg1) : Vec Ideal S1024 .f32) (ix1 j))
    (fun k f => (V0 (Proc.devRef .tc main_arg2) : Vec Ideal S1024x2560 .f32) (ix2 k f)) R f

theorem v14_apply (R : Fin 32768) (f : Fin 2560) : (res_main_v14 V0 : Vec Ideal S32768x2560 .f32) (ix2 R f) = AR V0 R.val f.val := by
  rw [AR, gp_of_lt _ _ _ _ _ R.isLt, pj]
  simp only [wN_of_lt _ _ _ f.isLt]
  unfold rmsRow res_main_v14
  clean_types
  pointwise

theorem v33_apply (s : Fin 8192) (d : Fin 32) : (res_main_v33 V0 : Vec Ideal S8192x32 .f32) (ix2 s d) = ang s.val d.val := by
  unfold ang res_main_v33 res_main_v0
  clean_types
  pointwise

theorem v183_apply (b : Fin 4) (s : Fin 8192) (h : Fin 8) (e : Fin 64) :
    (res_main_v183 V0 : Vec Ideal S4x8192x8x64 .f32) (ix4 b s h e) = AR V0 (b.val * 8192 + s.val) (h.val * 64 + e.val) := by
  unfold res_main_v183
  clean_types
  pointwise [v14_apply]

theorem v40_apply (b : Fin 4) (s : Fin 8207) (j : Fin 256) :
    (res_main_v40 V0 : Vec Ideal S4x8207x256 .f32) (ix3 b s j) = if 15 ≤ s.val then AR V0 (b.val * 8192 + (s.val - 15)) (1536 + j.val) else 0 := by
  unfold res_main_v40
  clean_types
  pointwise
  by_cases h : s.val < 15
  · rw [dif_pos h, if_neg (by omega)]
  · rw [dif_neg h]
    exact (v14_apply V0 _ _).trans (if_pos (show 15 ≤ s.val by omega)).symm

theorem v160_apply (b : Fin 4) (s : Fin 8194) (j : Fin 256) :
    (res_main_v160 V0 : Vec Ideal S4x8194x256 .f32) (ix3 b s j) = if 2 ≤ s.val then zS (AR V0) (b.val * 8192 + (s.val - 2)) j.val else 0 := by
  unfold res_main_v160
  clean_types
  pointwise
  by_cases h : s.val < 2
  · rw [dif_pos h, if_neg (by omega)]
  · rw [dif_neg h]
    exact (congrArg₂ (fun a b : EReal => a * b) (v14_apply V0 _ _) (v14_apply V0 _ _)).trans (if_pos (show 2 ≤ s.val by omega)).symm

theorem v41_apply (b : Fin 4) (s : Fin 8207) (k : Fin 64) :
    (res_main_v41 V0 : Vec Ideal S4x8207x64 .f32) (ix3 b s k) = if 15 ≤ s.val then AR V0 (b.val * 8192 + (s.val - 15)) (1536 + (0 + k.val)) else 0 := by
  rw [← v40_apply V0 b s ⟨0 + k.val, by omega⟩]
  unfold res_main_v41
  clean_types
  pointwise

theorem v58_apply (b : Fin 4) (s : Fin 8207) (k : Fin 64) :
    (res_main_v58 V0 : Vec Ideal S4x8207x64 .f32) (ix3 b s k) = if 15 ≤ s.val then AR V0 (b.val * 8192 + (s.val - 15)) (1536 + (64 + k.val)) else 0 := by
  rw [← v40_apply V0 b s ⟨64 + k.val, by omega⟩]
  unfold res_main_v58
  clean_types
  pointwise

theorem v79_apply (b : Fin 4) (s : Fin 8207) (k : Fin 64) :
    (res_main_v79 V0 : Vec Ideal S4x8207x64 .f32) (ix3 b s k) = if 15 ≤ s.val then AR V0 (b.val * 8192 + (s.val - 15)) (1536 + (128 + k.val)) else 0 := by
  rw [← v40_apply V0 b s ⟨128 + k.val, by omega⟩]
  unfold res_main_v79
  clean_types
  pointwise

theorem v108_apply (b : Fin 4) (s : Fin 8207) (k : Fin 64) :
    (res_main_v108 V0 : Vec Ideal S4x8207x64 .f32) (ix3 b s k) = if 15 ≤ s.val then AR V0 (b.val * 8192 + (s.val - 15)) (1536 + (192 + k.val)) else 0 := by
  rw [← v40_apply V0 b s ⟨192 + k.val, by omega⟩]
  unfold res_main_v108
  clean_types
  pointwise

/-- The reference's rotary tables. -/
def CR (s d : ℕ) : EReal := Ideal.cos (ang s d)
def SR (s d : ℕ) : EReal := Ideal.sin (ang s d)

theorem v35_apply (s : Fin 8192) (d : Fin 32) : (res_main_v35 V0 : Vec Ideal S1x8192x1x32 .f32) (ix4 0 s 0 d) = CR s.val d.val := by
  unfold res_main_v35 CR
  clean_types
  pointwise [v33_apply]

theorem v37_apply (s : Fin 8192) (d : Fin 32) : (res_main_v37 V0 : Vec Ideal S1x8192x1x32 .f32) (ix4 0 s 0 d) = SR s.val d.val := by
  unfold res_main_v37 SR
  clean_types
  pointwise [v33_apply]

theorem v198_apply (b : Fin 4) (s : Fin 8192) (h : Fin 8) (e : Fin 64) :
    (res_main_v198 V0 : Vec Ideal S4x8192x8x64 .f32) (ix4 b s h e) = AR V0 (b.val * 8192 + s.val) (512 + (h.val * 64 + e.val)) := by
  unfold res_main_v198
  clean_types
  pointwise [v14_apply]

/-- The grouped weight by its numbers. -/
def PR (g k l : ℕ) : EReal :=
  if h : g < 4 ∧ k < 64 ∧ l < 64 then (V0 (Proc.devRef .tc main_arg3) : Vec Ideal S4x64x64 .f32) (ix3 ⟨g, h.1⟩ ⟨k, h.2.1⟩ ⟨l, h.2.2⟩) else 0

theorem v0_apply (s : Fin 8192) : (res_main_v0 V0 : IVec S8192 32) (ix1 s) = BitVec.ofNat 32 s.val := by
  unfold res_main_v0
  clean_types
  pointwise

theorem back_eq (A : ℕ → ℕ → EReal) (b s n i c : ℕ) (hs : s < 8192) (h : n + i = 15) :
    (if 15 ≤ n + s then A (b * 8192 + (n + s - 15)) c else 0) = backS (fun r => A r c) (b * 8192 + s) i := by
  unfold backS
  have h1 : (b * 8192 + s) % 8192 = s := by omega
  rw [h1]
  by_cases hc : i ≤ s
  · rw [if_pos hc, if_pos (by omega)]
    have e : b * 8192 + (n + s - 15) = b * 8192 + s - i := by omega
    rw [e]
  · rw [if_neg hc, if_neg (by omega)]

theorem back_eq0 (A : ℕ → ℕ → EReal) (b s c : ℕ) (hs : s < 8192) :
    (if 15 ≤ s then A (b * 8192 + (s - 15)) c else 0) = backS (fun r => A r c) (b * 8192 + s) 15 := by
  have := back_eq A b s 0 15 c hs rfl
  rwa [Nat.zero_add] at this

theorem back_zero (f : ℕ → EReal) (R : ℕ) : backS f R 0 = f R := rfl

theorem v153_0 (b : Fin 4) (s : Fin 8192) (l : Fin 64) :
    (res_main_v153 V0 : Vec Ideal S4x8192x256 .f32) (ix3 b s ⟨0 + l.val, by omega⟩)
      = ∑ k : Fin 64, difS (AR V0) (b.val * 8192 + s.val) (0 + k.val) * PR V0 0 k.val l.val := by
  have hs : (b.val * 8192 + s.val) % 8192 = s.val := by omega
  have hg : ∀ k : Fin 64, (0 + k.val) / 64 = 0 := fun k => by omega
  have hp : ∀ k : Fin 64, PR V0 0 k.val l.val = (V0 (Proc.devRef .tc main_arg3) : Vec Ideal S4x64x64 .f32) (ix3 0 k l) := fun k =>
    dif_pos (⟨by omega, k.isLt, l.isLt⟩ : 0 < 4 ∧ k.val < 64 ∧ l.val < 64)
  simp only [difS, cntS, hg, hs, hp, show 2 ^ (0 + 1) - 1 = 1 from rfl, show 2 ^ (0 + 1) = 2 from rfl, winS, back_zero]
  unfold res_main_v153
  clean_types
  pointwise [v41_apply, v0_apply]
  simp only [back_eq (AR V0) b.val s.val 14 1 _ s.isLt rfl, back_eq (AR V0) b.val s.val 13 2 _ s.isLt rfl, back_eq (AR V0) b.val s.val 12 3 _ s.isLt rfl, back_eq (AR V0) b.val s.val 11 4 _ s.isLt rfl, back_eq (AR V0) b.val s.val 10 5 _ s.isLt rfl, back_eq (AR V0) b.val s.val 9 6 _ s.isLt rfl, back_eq (AR V0) b.val s.val 8 7 _ s.isLt rfl, back_eq (AR V0) b.val s.val 7 8 _ s.isLt rfl, back_eq (AR V0) b.val s.val 6 9 _ s.isLt rfl, back_eq (AR V0) b.val s.val 5 10 _ s.isLt rfl, back_eq (AR V0) b.val s.val 4 11 _ s.isLt rfl, back_eq (AR V0) b.val s.val 3 12 _ s.isLt rfl, back_eq (AR V0) b.val s.val 2 13 _ s.isLt rfl, back_eq (AR V0) b.val s.val 1 14 _ s.isLt rfl, back_eq0 (AR V0) b.val s.val _ s.isLt]

theorem v153_1 (b : Fin 4) (s : Fin 8192) (l : Fin 64) :
    (res_main_v153 V0 : Vec Ideal S4x8192x256 .f32) (ix3 b s ⟨64 + l.val, by omega⟩)
      = ∑ k : Fin 64, difS (AR V0) (b.val * 8192 + s.val) (64 + k.val) * PR V0 1 k.val l.val := by
  have hs : (b.val * 8192 + s.val) % 8192 = s.val := by omega
  have hg : ∀ k : Fin 64, (64 + k.val) / 64 = 1 := fun k => by omega
  have hp : ∀ k : Fin 64, PR V0 1 k.val l.val = (V0 (Proc.devRef .tc main_arg3) : Vec Ideal S4x64x64 .f32) (ix3 1 k l) := fun k =>
    dif_pos (⟨by omega, k.isLt, l.isLt⟩ : 1 < 4 ∧ k.val < 64 ∧ l.val < 64)
  simp only [difS, cntS, hg, hs, hp, show 2 ^ (1 + 1) - 1 = 3 from rfl, show 2 ^ (1 + 1) = 4 from rfl, winS, back_zero]
  unfold res_main_v153
  clean_types
  pointwise [v58_apply, v0_apply]
  simp only [back_eq (AR V0) b.val s.val 14 1 _ s.isLt rfl, back_eq (AR V0) b.val s.val 13 2 _ s.isLt rfl, back_eq (AR V0) b.val s.val 12 3 _ s.isLt rfl, back_eq (AR V0) b.val s.val 11 4 _ s.isLt rfl, back_eq (AR V0) b.val s.val 10 5 _ s.isLt rfl, back_eq (AR V0) b.val s.val 9 6 _ s.isLt rfl, back_eq (AR V0) b.val s.val 8 7 _ s.isLt rfl, back_eq (AR V0) b.val s.val 7 8 _ s.isLt rfl, back_eq (AR V0) b.val s.val 6 9 _ s.isLt rfl, back_eq (AR V0) b.val s.val 5 10 _ s.isLt rfl, back_eq (AR V0) b.val s.val 4 11 _ s.isLt rfl, back_eq (AR V0) b.val s.val 3 12 _ s.isLt rfl, back_eq (AR V0) b.val s.val 2 13 _ s.isLt rfl, back_eq (AR V0) b.val s.val 1 14 _ s.isLt rfl, back_eq0 (AR V0) b.val s.val _ s.isLt]

theorem v153_2 (b : Fin 4) (s : Fin 8192) (l : Fin 64) :
    (res_main_v153 V0 : Vec Ideal S4x8192x256 .f32) (ix3 b s ⟨128 + l.val, by omega⟩)
      = ∑ k : Fin 64, difS (AR V0) (b.val * 8192 + s.val) (128 + k.val) * PR V0 2 k.val l.val := by
  have hs : (b.val * 8192 + s.val) % 8192 = s.val := by omega
  have hg : ∀ k : Fin 64, (128 + k.val) / 64 = 2 := fun k => by omega
  have hp : ∀ k : Fin 64, PR V0 2 k.val l.val = (V0 (Proc.devRef .tc main_arg3) : Vec Ideal S4x64x64 .f32) (ix3 2 k l) := fun k =>
    dif_pos (⟨by omega, k.isLt, l.isLt⟩ : 2 < 4 ∧ k.val < 64 ∧ l.val < 64)
  simp only [difS, cntS, hg, hs, hp, show 2 ^ (2 + 1) - 1 = 7 from rfl, show 2 ^ (2 + 1) = 8 from rfl, winS, back_zero]
  unfold res_main_v153
  clean_types
  pointwise [v79_apply, v0_apply]
  simp only [back_eq (AR V0) b.val s.val 14 1 _ s.isLt rfl, back_eq (AR V0) b.val s.val 13 2 _ s.isLt rfl, back_eq (AR V0) b.val s.val 12 3 _ s.isLt rfl, back_eq (AR V0) b.val s.val 11 4 _ s.isLt rfl, back_eq (AR V0) b.val s.val 10 5 _ s.isLt rfl, back_eq (AR V0) b.val s.val 9 6 _ s.isLt rfl, back_eq (AR V0) b.val s.val 8 7 _ s.isLt rfl, back_eq (AR V0) b.val s.val 7 8 _ s.isLt rfl, back_eq (AR V0) b.val s.val 6 9 _ s.isLt rfl, back_eq (AR V0) b.val s.val 5 10 _ s.isLt rfl, back_eq (AR V0) b.val s.val 4 11 _ s.isLt rfl, back_eq (AR V0) b.val s.val 3 12 _ s.isLt rfl, back_eq (AR V0) b.val s.val 2 13 _ s.isLt rfl, back_eq (AR V0) b.val s.val 1 14 _ s.isLt rfl, back_eq0 (AR V0) b.val s.val _ s.isLt]
  rw [dif_neg (by omega)]
  rw [dif_neg (by omega)]
  rw [dif_pos (by omega)]
  refine Finset.sum_congr rfl fun x _ => congrArg₂ (· * ·) rfl (congrArg (V0 (Proc.devRef .tc main_arg3) : Vec Ideal S4x64x64 .f32) ?_)
  exact congrArg (fun y : Fin 64 => (ix3 (2 : Fin 4) x y : S4x64x64.Idx)) (Fin.ext (show 128 + l.val - 64 - 64 = l.val by omega))

theorem v153_3 (b : Fin 4) (s : Fin 8192) (l : Fin 64) :
    (res_main_v153 V0 : Vec Ideal S4x8192x256 .f32) (ix3 b s ⟨192 + l.val, by omega⟩)
      = ∑ k : Fin 64, difS (AR V0) (b.val * 8192 + s.val) (192 + k.val) * PR V0 3 k.val l.val := by
  have hs : (b.val * 8192 + s.val) % 8192 = s.val := by omega
  have hg : ∀ k : Fin 64, (192 + k.val) / 64 = 3 := fun k => by omega
  have hp : ∀ k : Fin 64, PR V0 3 k.val l.val = (V0 (Proc.devRef .tc main_arg3) : Vec Ideal S4x64x64 .f32) (ix3 3 k l) := fun k =>
    dif_pos (⟨by omega, k.isLt, l.isLt⟩ : 3 < 4 ∧ k.val < 64 ∧ l.val < 64)
  simp only [difS, cntS, hg, hs, hp, show 2 ^ (3 + 1) - 1 = 15 from rfl, show 2 ^ (3 + 1) = 16 from rfl, winS, back_zero]
  unfold res_main_v153
  clean_types
  pointwise [v108_apply, v0_apply]
  simp only [back_eq (AR V0) b.val s.val 14 1 _ s.isLt rfl, back_eq (AR V0) b.val s.val 13 2 _ s.isLt rfl, back_eq (AR V0) b.val s.val 12 3 _ s.isLt rfl, back_eq (AR V0) b.val s.val 11 4 _ s.isLt rfl, back_eq (AR V0) b.val s.val 10 5 _ s.isLt rfl, back_eq (AR V0) b.val s.val 9 6 _ s.isLt rfl, back_eq (AR V0) b.val s.val 8 7 _ s.isLt rfl, back_eq (AR V0) b.val s.val 7 8 _ s.isLt rfl, back_eq (AR V0) b.val s.val 6 9 _ s.isLt rfl, back_eq (AR V0) b.val s.val 5 10 _ s.isLt rfl, back_eq (AR V0) b.val s.val 4 11 _ s.isLt rfl, back_eq (AR V0) b.val s.val 3 12 _ s.isLt rfl, back_eq (AR V0) b.val s.val 2 13 _ s.isLt rfl, back_eq (AR V0) b.val s.val 1 14 _ s.isLt rfl, back_eq0 (AR V0) b.val s.val _ s.isLt]
  rw [dif_neg (by omega)]
  rw [dif_neg (by omega)]
  rw [dif_neg (by omega)]
  refine Finset.sum_congr rfl fun x _ => congrArg₂ (· * ·) rfl (congrArg (V0 (Proc.devRef .tc main_arg3) : Vec Ideal S4x64x64 .f32) ?_)
  exact congrArg (fun y : Fin 64 => (ix3 (3 : Fin 4) x y : S4x64x64.Idx)) (Fin.ext (show 192 + l.val - 64 - 64 - 64 = l.val by omega))

theorem v153_apply (b : Fin 4) (s : Fin 8192) (j : Fin 256) :
    (res_main_v153 V0 : Vec Ideal S4x8192x256 .f32) (ix3 b s j)
      = ∑ k : Fin 64, difS (AR V0) (b.val * 8192 + s.val) (64 * (j.val / 64) + k.val) * PR V0 (j.val / 64) k.val (j.val % 64) := by
  obtain ⟨l, h⟩ : ∃ l : Fin 64, j = ⟨0 + l.val, by omega⟩ ∨ j = ⟨64 + l.val, by omega⟩ ∨ j = ⟨128 + l.val, by omega⟩ ∨ j = ⟨192 + l.val, by omega⟩ := by
    refine ⟨⟨j.val % 64, by omega⟩, ?_⟩
    simp only [Fin.ext_iff]
    omega
  rcases h with rfl | rfl | rfl | rfl
  · rw [v153_0]; simp only [show (0 + l.val) / 64 = 0 by omega, show (0 + l.val) % 64 = l.val by omega]
  · rw [v153_1]; simp only [show (64 + l.val) / 64 = 1 by omega, show (64 + l.val) % 64 = l.val by omega]
  · rw [v153_2]; simp only [show (128 + l.val) / 64 = 2 by omega, show (128 + l.val) % 64 = l.val by omega]
  · rw [v153_3]; simp only [show (192 + l.val) / 64 = 3 by omega, show (192 + l.val) % 64 = l.val by omega]

theorem v197_apply (R : Fin 32768) (c : Fin 512) :
    (res_main_v197 V0 : Vec Ideal S32768x512 .f32) (ix2 R c) = ropeS (AR V0) CR SR 0 R.val c.val := by
  unfold res_main_v197 res_main_v184 res_main_v185 ropeS
  clean_types
  pointwise [v183_apply, v35_apply, v37_apply]
  have hR : R.val / 8192 * 8192 + R.val % 8192 = R.val := by omega
  by_cases h : c.val % 64 < 32
  · rw [dif_pos h, if_pos h, hR, show c.val / 64 * 64 + c.val % 64 = c.val by omega, show c.val / 64 * 64 + (32 + c.val % 64) = c.val + 32 by omega, show c.val % 64 = c.val % 32 by omega]
  · rw [dif_neg h, if_neg h, hR, show c.val / 64 * 64 + (32 + (c.val % 64 - 32)) = c.val by omega, show c.val / 64 * 64 + (c.val % 64 - 32) = c.val - 32 by omega, show c.val % 64 - 32 = c.val % 32 by omega]

theorem v212_apply (R : Fin 32768) (c : Fin 512) :
    (res_main_v212 V0 : Vec Ideal S32768x512 .f32) (ix2 R c) = ropeS (AR V0) CR SR 512 R.val c.val := by
  unfold res_main_v212 res_main_v199 res_main_v200 ropeS
  clean_types
  pointwise [v198_apply, v35_apply, v37_apply]
  have hR : R.val / 8192 * 8192 + R.val % 8192 = R.val := by omega
  by_cases h : c.val % 64 < 32
  · rw [dif_pos h, if_pos h, hR, show 512 + (c.val / 64 * 64 + c.val % 64) = 512 + c.val by omega, show 512 + (c.val / 64 * 64 + (32 + c.val % 64)) = 512 + c.val + 32 by omega, show c.val % 64 = c.val % 32 by omega]
  · rw [dif_neg h, if_neg h, hR, show 512 + (c.val / 64 * 64 + (32 + (c.val % 64 - 32))) = 512 + c.val by omega, show 512 + (c.val / 64 * 64 + (c.val % 64 - 32)) = 512 + c.val - 32 by omega, show c.val % 64 - 32 = c.val % 32 by omega]

theorem v17_apply (R : Fin 32768) (c : Fin 512) :
    (res_main_v17 V0 : Vec Ideal S32768x512 .f32) (ix2 R c) = AR V0 R.val (1024 + c.val) := by
  unfold res_main_v17
  clean_types
  pointwise [v14_apply]

theorem v18_apply (R : Fin 32768) (c : Fin 256) :
    (res_main_v18 V0 : Vec Ideal S32768x256 .f32) (ix2 R c) = AR V0 R.val (1536 + c.val) := by
  unfold res_main_v18
  clean_types
  pointwise [v14_apply]

theorem v157_apply (R : Fin 32768) (c : Fin 256) :
    (res_main_v157 V0 : Vec Ideal S32768x256 .f32) (ix2 R c) = zS (AR V0) R.val c.val := by
  unfold res_main_v157 zS
  clean_types
  pointwise [v14_apply]

/-- The pooling scale and the taps by their numbers. -/
def psR (l : ℕ) : EReal := if h : l < 256 then (V0 (Proc.devRef .tc main_arg4) : Vec Ideal S256 .f32) (ix1 ⟨l, h⟩) else 0
def cwR (a l : ℕ) : EReal := if h : a < 3 ∧ l < 256 then (V0 (Proc.devRef .tc main_arg5) : Vec Ideal S3x256 .f32) (ix2 ⟨a, h.1⟩ ⟨l, h.2⟩) else 0

theorem v215_lo (R : Fin 32768) (c : Fin 256) :
    (res_main_v215 V0 : Vec Ideal S32768x512 .bf16) (ix2 R ⟨0 + c.val, by omega⟩) = poolS (AR V0) (PR V0) (psR V0) R.val c.val := by
  unfold res_main_v215
  simp only [Nat.zero_add]
  clean_types
  pointwise
  rw [v153_apply, poolS, show R.val / 8192 * 8192 + R.val % 8192 = R.val by omega, psR, dif_pos c.isLt]

theorem v215_hi (R : Fin 32768) (c : Fin 256) :
    (res_main_v215 V0 : Vec Ideal S32768x512 .bf16) (ix2 R ⟨256 + c.val, by omega⟩) = convS (AR V0) (cwR V0) R.val c.val := by
  unfold res_main_v215
  clean_types
  pointwise [v160_apply, v14_apply]
  have b2 : (if 2 ≤ R.val % 8192 then zS (AR V0) (R.val / 8192 * 8192 + (R.val % 8192 - 2)) c.val else 0) = backS (fun r => zS (AR V0) r c.val) R.val 2 := by
    unfold backS
    by_cases h : 2 ≤ R.val % 8192
    · rw [if_pos h, if_pos h, show R.val / 8192 * 8192 + (R.val % 8192 - 2) = R.val - 2 by omega]
    · rw [if_neg h, if_neg h]
  have b1 : (if 2 ≤ 1 + R.val % 8192 then zS (AR V0) (R.val / 8192 * 8192 + (1 + R.val % 8192 - 2)) c.val else 0) = backS (fun r => zS (AR V0) r c.val) R.val 1 := by
    unfold backS
    by_cases h : 1 ≤ R.val % 8192
    · rw [if_pos h, if_pos (by omega), show R.val / 8192 * 8192 + (1 + R.val % 8192 - 2) = R.val - 1 by omega]
    · rw [if_neg h, if_neg (by omega)]
  have hc : ∀ a : Fin 3, cwR V0 a.val c.val = (V0 (Proc.devRef .tc main_arg5) : Vec Ideal S3x256 .f32) (ix2 a c) := fun a => dif_pos ⟨a.isLt, c.isLt⟩
  rw [b2, b1, show R.val / 8192 * 8192 + R.val % 8192 = R.val by omega, convS, back_zero, ← hc 0, ← hc 1, ← hc 2]
  rfl

end Cert.RefInprojIdeal.Value

end
-- ==== Proof.InprojPoint.lean ====
/-
  The input projection's blocks, point by point: what a point leaves in its six output blocks and in the rows it carries to the next
  point, as rows of the plain formulas.
-/
module

public import proofs.«01_k».proof.Proof.InprojPrep
public import proofs.«01_k».proof.Proof.InprojRef

@[expose] public section

set_option maxRecDepth 16384

noncomputable section

namespace Cert.InprojIdeal.Block

open Cert.InprojIdeal Cert.InprojIdeal.Gen Idealize.ShloMosaic Idealize.ShloMosaic.TcCoe Idealize.SL.Sem
open Idealize.ShloMosaic.Pipeline (Dat)
open Cert.InprojSpec
open Cert.RefInprojIdeal.Value (CR SR)

variable (m : (ℓ : Loc nD τ sig) → Buf (Elt Ideal) ℓ) (ρ : Dev nD → PrngReg)

theorem outs_q (c : Dev nD) (t : Fin cfg0.N) : (outsAt0 m c t.val t.isLt).1 = qTerm (iblk m c 0 t) (iblk m c 1 t) (iblk m c 2 t) (iblk m c 3 t) (iblk m c 4 t) := by
  by_cases h0 : t.val % 16 = 0
  · simp only [outsAt0_A m c t h0]
    exact q_A ..
  · simp only [outsAt0_B m c t h0]
    exact q_B ..

theorem outs_k (c : Dev nD) (t : Fin cfg0.N) : (outsAt0 m c t.val t.isLt).2.1 = kTerm (iblk m c 0 t) (iblk m c 1 t) (iblk m c 2 t) (iblk m c 3 t) (iblk m c 4 t) := by
  by_cases h0 : t.val % 16 = 0
  · simp only [outsAt0_A m c t h0]
    exact k_A ..
  · simp only [outsAt0_B m c t h0]
    exact k_B ..

theorem outs_v (c : Dev nD) (t : Fin cfg0.N) : (outsAt0 m c t.val t.isLt).2.2.1 = vTerm (iblk m c 0 t) (iblk m c 1 t) (iblk m c 2 t) := by
  by_cases h0 : t.val % 16 = 0
  · simp only [outsAt0_A m c t h0]
    exact v_A ..
  · simp only [outsAt0_B m c t h0]
    exact v_B ..

theorem outs_u (c : Dev nD) (t : Fin cfg0.N) : (outsAt0 m c t.val t.isLt).2.2.2.1 = uTerm (iblk m c 0 t) (iblk m c 1 t) (iblk m c 2 t) := by
  by_cases h0 : t.val % 16 = 0
  · simp only [outsAt0_A m c t h0]
    exact u_A ..
  · simp only [outsAt0_B m c t h0]
    exact u_B ..

theorem outs_z (c : Dev nD) (t : Fin cfg0.N) : (outsAt0 m c t.val t.isLt).2.2.2.2.1 = zTerm (iblk m c 0 t) (iblk m c 1 t) (iblk m c 2 t) := by
  by_cases h0 : t.val % 16 = 0
  · simp only [outsAt0_A m c t h0]
    exact z_A ..
  · simp only [outsAt0_B m c t h0]
    exact z_B ..

theorem outs_pc_A (c : Dev nD) (t : Fin cfg0.N) (h0 : t.val % 16 = 0) : (outsAt0 m c t.val t.isLt).2.2.2.2.2.1
    = pcTerm (grid0.coords t) (iblk m c 0 t) (iblk m c 1 t) (iblk m c 2 t) (iblk m c 5 t) (iblk m c 6 t) (iblk m c 7 t)
        (bufU (uTerm (iblk m c 0 t) (iblk m c 1 t) (iblk m c 2 t)) (k0_pay36 (iblk m c 8 t))) (bufZ (zTerm (iblk m c 0 t) (iblk m c 1 t) (iblk m c 2 t)) (k0_pay37 (iblk m c 9 t))) := by
  simp only [outsAt0_A m c t h0]
  exact pc_A ..

theorem outs_pc_B (c : Dev nD) (t : Fin cfg0.N) (h0 : ¬t.val % 16 = 0) : (outsAt0 m c t.val t.isLt).2.2.2.2.2.1
    = pcTerm (grid0.coords t) (iblk m c 0 t) (iblk m c 1 t) (iblk m c 2 t) (iblk m c 5 t) (iblk m c 6 t) (iblk m c 7 t)
        (bufU (uTerm (iblk m c 0 t) (iblk m c 1 t) (iblk m c 2 t)) (View.ld (outsAt0 m c (t.val - 1) (Nat.lt_of_le_of_lt (Nat.sub_le _ _) t.isLt)).2.2.2.2.2.2.1 (Rect.unit (s := S528x256) ![0, 0] S16x256.size inb_S528x256_S16x256_0_0)))
        (bufZ (zTerm (iblk m c 0 t) (iblk m c 1 t) (iblk m c 2 t)) (View.ld (outsAt0 m c (t.val - 1) (Nat.lt_of_le_of_lt (Nat.sub_le _ _) t.isLt)).2.2.2.2.2.2.2 (Rect.unit (s := S520x256) ![0, 0] S8x256.size inb_S520x256_S8x256_0_0))) := by
  simp only [outsAt0_B m c t h0]
  exact pc_B ..

theorem u_row (c : Dev nD) (t : Fin cfg0.N) (r : Fin 512) (l : Fin 256) :
    uTerm (iblk m c 0 t) (iblk m c 1 t) (iblk m c 2 t) (ix2 r l) = AM m c (t.val * 512 + r.val) (1536 + l.val) :=
  (uTerm_apply _ _ _ _ _).trans (bRow_eq m c t r _)

theorem z_row (c : Dev nD) (t : Fin cfg0.N) (r : Fin 512) (l : Fin 256) :
    zTerm (iblk m c 0 t) (iblk m c 1 t) (iblk m c 2 t) (ix2 r l) = zS (AM m c) (t.val * 512 + r.val) l.val :=
  (zTerm_apply _ _ _ _ _).trans (congrArg₂ (fun a b : EReal => a * b) (bRow_eq m c t r _) (bRow_eq m c t r _))

/-- What a point carries on of its pooling rows: its last sixteen. -/
theorem carryU (c : Dev nD) (t : Fin cfg0.N) (r : Fin 16) (l : Fin 256) :
    ((outsAt0 m c t.val t.isLt).2.2.2.2.2.2.1 : Vec Ideal S528x256 .f32) (ix2 ⟨r.val, by omega⟩ l) = AM m c (t.val * 512 + (496 + r.val)) (1536 + l.val) := by
  refine Eq.trans ?_ (u_row m c t ⟨496 + r.val, by omega⟩ l)
  by_cases h0 : t.val % 16 = 0
  · simp only [outsAt0_A m c t h0]
    exact sU_A ..
  · simp only [outsAt0_B m c t h0]
    exact sU_B ..

/-- What a point carries on of its convolved rows: its last eight. -/
theorem carryZ (c : Dev nD) (t : Fin cfg0.N) (r : Fin 8) (l : Fin 256) :
    ((outsAt0 m c t.val t.isLt).2.2.2.2.2.2.2 : Vec Ideal S520x256 .f32) (ix2 ⟨r.val, by omega⟩ l) = zS (AM m c) (t.val * 512 + (504 + r.val)) l.val := by
  refine Eq.trans ?_ (z_row m c t ⟨504 + r.val, by omega⟩ l)
  by_cases h0 : t.val % 16 = 0
  · simp only [outsAt0_A m c t h0]
    exact sZ_A ..
  · simp only [outsAt0_B m c t h0]
    exact sZ_B ..

/-- The buffer's row `16 - i + r` is the value `i` rows before row `r` of the point, when its first 16 rows are the point before's last or zero. -/
theorem backU (f : ℕ → ℕ → EReal) (t : ℕ) (u : Vec Ideal S512x256 .f32) (h : Vec Ideal S16x256 .f32)
    (hu : ∀ (r : Fin 512) (l : Fin 256), u (ix2 r l) = f (t * 512 + r.val) l.val)
    (hh : ∀ (q : Fin 16) (l : Fin 256), h (ix2 q l) = if t % 16 = 0 then 0 else f ((t - 1) * 512 + (496 + q.val)) l.val)
    (r : Fin 512) (j : Fin 256) (i : ℕ) (hi : i < 16) :
    uN (bufU u h) (16 - i + r.val) j.val = backS (fun R => f R j.val) (t * 512 + r.val) i := by
  unfold uN backS
  rw [dif_pos ⟨by omega, j.isLt⟩]
  by_cases e : i ≤ r.val
  · rw [if_pos (by omega)]
    have e1 : (⟨16 - i + r.val, by omega⟩ : Fin 528) = ⟨16 + (⟨r.val - i, by omega⟩ : Fin 512).val, by show 16 + (r.val - i) < 528; omega⟩ := Fin.ext (by show 16 - i + r.val = 16 + (r.val - i); omega)
    rw [e1]
    refine (bufU_hi u h ⟨r.val - i, by omega⟩ j).trans ((hu _ _).trans ?_)
    exact congrArg (fun R => f R j.val) (by show t * 512 + (r.val - i) = t * 512 + r.val - i; omega)
  · refine (bufU_lo u h ⟨16 - i + r.val, by omega⟩ j).trans ((hh _ _).trans ?_)
    by_cases ht : t % 16 = 0
    · rw [if_pos ht, if_neg (by omega)]
    · rw [if_neg ht, if_pos (by omega)]
      exact congrArg (fun R => f R j.val) (by show (t - 1) * 512 + (496 + (16 - i + r.val)) = t * 512 + r.val - i; omega)

/-- The buffer's row `8 - i + r` is the value `i` rows before row `r` of the point, when its first 8 rows are the point before's last or zero. -/
theorem backZ (f : ℕ → ℕ → EReal) (t : ℕ) (u : Vec Ideal S512x256 .f32) (h : Vec Ideal S8x256 .f32)
    (hu : ∀ (r : Fin 512) (l : Fin 256), u (ix2 r l) = f (t * 512 + r.val) l.val)
    (hh : ∀ (q : Fin 8) (l : Fin 256), h (ix2 q l) = if t % 16 = 0 then 0 else f ((t - 1) * 512 + (504 + q.val)) l.val)
    (r : Fin 512) (j : Fin 256) (i : ℕ) (hi : i < 8) :
    zN (bufZ u h) (8 - i + r.val) j.val = backS (fun R => f R j.val) (t * 512 + r.val) i := by
  unfold zN backS
  rw [dif_pos ⟨by omega, j.isLt⟩]
  by_cases e : i ≤ r.val
  · rw [if_pos (by omega)]
    have e1 : (⟨8 - i + r.val, by omega⟩ : Fin 520) = ⟨8 + (⟨r.val - i, by omega⟩ : Fin 512).val, by show 8 + (r.val - i) < 520; omega⟩ := Fin.ext (by show 8 - i + r.val = 8 + (r.val - i); omega)
    rw [e1]
    refine (bufZ_hi u h ⟨r.val - i, by omega⟩ j).trans ((hu _ _).trans ?_)
    exact congrArg (fun R => f R j.val) (by show t * 512 + (r.val - i) = t * 512 + r.val - i; omega)
  · refine (bufZ_lo u h ⟨8 - i + r.val, by omega⟩ j).trans ((hh _ _).trans ?_)
    by_cases ht : t % 16 = 0
    · rw [if_pos ht, if_neg (by omega)]
    · rw [if_neg ht, if_pos (by omega)]
      exact congrArg (fun R => f R j.val) (by show (t - 1) * 512 + (504 + (8 - i + r.val)) = t * 512 + r.val - i; omega)

theorem ldU0_apply (xs : Vec Ideal S528x256 .f32) (q : Fin 16) (l : Fin 256) :
    (View.ld xs (Rect.unit (s := S528x256) ![0, 0] S16x256.size inb_S528x256_S16x256_0_0) : Vec Ideal S16x256 .f32) (ix2 q l) = xs (ix2 ⟨q.val, by omega⟩ l) := by
  refine congrArg xs (funext fun a => Fin.ext ?_)
  match a with
  | ⟨0, _⟩ => show 0 + 1 * q.val = q.val; omega
  | ⟨1, _⟩ => show 0 + 1 * l.val = l.val; omega

theorem ldZ0_apply (xs : Vec Ideal S520x256 .f32) (q : Fin 8) (l : Fin 256) :
    (View.ld xs (Rect.unit (s := S520x256) ![0, 0] S8x256.size inb_S520x256_S8x256_0_0) : Vec Ideal S8x256 .f32) (ix2 q l) = xs (ix2 ⟨q.val, by omega⟩ l) := by
  refine congrArg xs (funext fun a => Fin.ext ?_)
  match a with
  | ⟨0, _⟩ => show 0 + 1 * q.val = q.val; omega
  | ⟨1, _⟩ => show 0 + 1 * l.val = l.val; omega

theorem pay36_apply (x : Vec Ideal S1x16x256 .f32) (q : Fin 16) (l : Fin 256) : k0_pay36 x (ix2 q l) = x (ix3 0 q l) := by
  pointwise [k0_pay36]

theorem pay37_apply (x : Vec Ideal S1x8x256 .f32) (q : Fin 8) (l : Fin 256) : k0_pay37 x (ix2 q l) = x (ix3 0 q l) := by
  pointwise [k0_pay37]

/-- The pooling scale and the taps by number. -/
def psM (c : Dev nD) (l : ℕ) : EReal := if h : l < 256 then m (c.tc.loc main_arg4) (ix1 ⟨l, h⟩) else 0
def cwM (c : Dev nD) (a l : ℕ) : EReal := if h : a < 3 ∧ l < 256 then m (c.tc.loc main_arg5) (ix2 ⟨a, h.1⟩ ⟨l, h.2⟩) else 0

theorem ps_apply (c : Dev nD) (t : Fin cfg0.N) (l : Fin 256) : (iblk m c 6 t : Vec Ideal S1x256 .f32) (ix2 0 l) = psM m c l.val := by
  rw [psM, dif_pos l.isLt, blk6, V_ps]
  pointwise

theorem cw_apply (c : Dev nD) (t : Fin cfg0.N) (a : Fin 3) (l : Fin 256) : (iblk m c 7 t : Vec Ideal S3x256 .f32) (ix2 a l) = cwM m c a.val l.val := by
  rw [cwM, dif_pos ⟨a.isLt, l.isLt⟩, blk7, V_main_arg5]

theorem coord1 : ∀ t : Fin grid0.N, ((grid0.coords t) 1).val = t.val % 16 := by decide +kernel

/-- The rotation with a signed sine table is the rotary pair. -/
theorem rope_eq (A : ℕ → ℕ → EReal) (B : ℕ → EReal) (R p o c : ℕ) (hB : ∀ f, B f = A R f) (hp : R % 8192 = p) :
    ropeRow B (fun l => CR p (l % 32)) (fun l => if l % 64 < 32 then -(SR p (l % 32)) else SR p (l % 32)) o c = ropeS A CR SR o R c := by
  subst hp
  unfold ropeRow ropeS
  have e1 : c % 128 % 32 = c % 32 := by omega
  have e2 : c % 128 % 64 = c % 64 := by omega
  simp only [e1, e2, hB]
  by_cases e : c % 64 < 32
  · rw [if_pos e, if_pos e, if_pos e, mul_neg, sub_eq_add_neg]
  · rw [if_neg e, if_neg e, if_neg e]

theorem row_mod (t : Fin cfg0.N) (r : Fin 512) : (t.val * 512 + r.val) % 8192 = t.val % 16 * 512 + r.val := by omega
theorem row_lt (t : Fin cfg0.N) (r : Fin 512) : t.val * 512 + r.val < 32768 := by have := lt_of_lt_of_eq t.isLt N_0; omega

/-- The rotated queries. -/
def resQ (c : Dev nD) : Buf (Elt Ideal) ((c.tc : Thread nD τ).loc main_v42_0) := fun i : S32768x512.Idx =>
  ropeS (AM m c) CR SR 0 (i 0).val (i 1).val

/-- The rotated keys. -/
def resK (c : Dev nD) : Buf (Elt Ideal) ((c.tc : Thread nD τ).loc main_v42_1) := fun i : S32768x512.Idx =>
  ropeS (AM m c) CR SR 512 (i 0).val (i 1).val

/-- The values. -/
def resV (c : Dev nD) : Buf (Elt Ideal) ((c.tc : Thread nD τ).loc main_v42_2) := fun i : S32768x512.Idx =>
  AM m c (i 0).val (1024 + (i 1).val)

/-- The pooling input. -/
def resU (c : Dev nD) : Buf (Elt Ideal) ((c.tc : Thread nD τ).loc main_v42_3) := fun i : S32768x256.Idx =>
  AM m c (i 0).val (1536 + (i 1).val)

/-- The convolved product. -/
def resZ (c : Dev nD) : Buf (Elt Ideal) ((c.tc : Thread nD τ).loc main_v42_4) := fun i : S32768x256.Idx =>
  zS (AM m c) (i 0).val (i 1).val

/-- The pooled and the convolved half. -/
def resPC (c : Dev nD) : Buf (Elt Ideal) ((c.tc : Thread nD τ).loc main_v42_5) := fun i : S32768x512.Idx =>
  if (i 1).val < 256 then poolS (AM m c) (PM m c) (psM m c) (i 0).val (i 1).val
    else convS (AM m c) (cwM m c) (i 0).val ((i 1).val - 256)

/-- A point's block of result Q, row by row. -/
theorem pointQ (c : Dev nD) (t : Fin cfg0.N) (r : Fin 512) (l : Fin 512) :
    ((outsAt0 m c t.val t.isLt).1 : Vec Ideal S512x512 .f32) (ix2 r l) = resQ m c (ix2 ⟨t.val * 512 + r.val, row_lt t r⟩ l) := by
  rw [outs_q]
  refine (qTerm_apply _ _ _ _ _ (fun l => CR (t.val % 16 * 512 + r.val) (l % 32))
    (fun l => if l % 64 < 32 then -(SR (t.val % 16 * 512 + r.val) (l % 32)) else SR (t.val % 16 * 512 + r.val) (l % 32)) r l
    (fun l => cos_apply m c t r l) (fun l => sin_apply m c t r l)).trans ?_
  exact rope_eq (AM m c) _ _ _ _ _ (fun f => bRow_eq m c t r f) (row_mod t r)

/-- A point's block of result K, row by row. -/
theorem pointK (c : Dev nD) (t : Fin cfg0.N) (r : Fin 512) (l : Fin 512) :
    ((outsAt0 m c t.val t.isLt).2.1 : Vec Ideal S512x512 .f32) (ix2 r l) = resK m c (ix2 ⟨t.val * 512 + r.val, row_lt t r⟩ l) := by
  rw [outs_k]
  refine (kTerm_apply _ _ _ _ _ (fun l => CR (t.val % 16 * 512 + r.val) (l % 32))
    (fun l => if l % 64 < 32 then -(SR (t.val % 16 * 512 + r.val) (l % 32)) else SR (t.val % 16 * 512 + r.val) (l % 32)) r l
    (fun l => cos_apply m c t r l) (fun l => sin_apply m c t r l)).trans ?_
  exact rope_eq (AM m c) _ _ _ _ _ (fun f => bRow_eq m c t r f) (row_mod t r)

/-- A point's block of result V, row by row. -/
theorem pointV (c : Dev nD) (t : Fin cfg0.N) (r : Fin 512) (l : Fin 512) :
    ((outsAt0 m c t.val t.isLt).2.2.1 : Vec Ideal S512x512 .f32) (ix2 r l) = resV m c (ix2 ⟨t.val * 512 + r.val, row_lt t r⟩ l) := by
  rw [outs_v]
  exact (vTerm_apply _ _ _ _ _).trans (bRow_eq m c t r _)

/-- A point's block of result U, row by row. -/
theorem pointU (c : Dev nD) (t : Fin cfg0.N) (r : Fin 512) (l : Fin 256) :
    ((outsAt0 m c t.val t.isLt).2.2.2.1 : Vec Ideal S512x256 .f32) (ix2 r l) = resU m c (ix2 ⟨t.val * 512 + r.val, row_lt t r⟩ l) := by
  rw [outs_u]
  exact u_row m c t r l

/-- A point's block of result Z, row by row. -/
theorem pointZ (c : Dev nD) (t : Fin cfg0.N) (r : Fin 512) (l : Fin 256) :
    ((outsAt0 m c t.val t.isLt).2.2.2.2.1 : Vec Ideal S512x256 .f32) (ix2 r l) = resZ m c (ix2 ⟨t.val * 512 + r.val, row_lt t r⟩ l) := by
  rw [outs_z]
  exact z_row m c t r l

/-- A point's block of result PC, row by row. -/
theorem pointPC (c : Dev nD) (t : Fin cfg0.N) (r : Fin 512) (l : Fin 512) :
    ((outsAt0 m c t.val t.isLt).2.2.2.2.2.1 : Vec Ideal S512x512 .bf16) (ix2 r l) = resPC m c (ix2 ⟨t.val * 512 + r.val, row_lt t r⟩ l) := by
  have hlo : ∀ (U : Vec Ideal S528x256 .f32) (Z : Vec Ideal S520x256 .f32),
      (∀ (j : Fin 256) (i : ℕ), i ≤ 15 → uN U (16 - i + r.val) j.val = backS (fun R => AM m c R (1536 + j.val)) (t.val * 512 + r.val) i) →
      (∀ (j : Fin 256) (i : ℕ), i ≤ 2 → zN Z (8 - i + r.val) j.val = backS (fun R => zS (AM m c) R j.val) (t.val * 512 + r.val) i) →
      pcTerm (grid0.coords t) (iblk m c 0 t) (iblk m c 1 t) (iblk m c 2 t) (iblk m c 5 t) (iblk m c 6 t) (iblk m c 7 t) U Z (ix2 r l)
        = resPC m c (ix2 ⟨t.val * 512 + r.val, row_lt t r⟩ l) := by
    intro U Z hU hZ
    by_cases e : l.val < 256
    · have el : l = ⟨0 + (⟨l.val, e⟩ : Fin 256).val, by show 0 + l.val < 512; omega⟩ := Fin.ext (by show l.val = 0 + l.val; omega)
      refine ((congrArg (fun y => pcTerm (grid0.coords t) (iblk m c 0 t) (iblk m c 1 t) (iblk m c 2 t) (iblk m c 5 t) (iblk m c 6 t) (iblk m c 7 t) U Z (ix2 r y)) el).trans
        (pc_lo (AM m c) (PM m c) (psM m c) (t.val * 512 + r.val) _ _ _ _ _ _ _ U Z r ⟨l.val, e⟩ ?_ (fun f => bRow_eq m c t r f) hU (wp_apply m c t) (ps_apply m c t))).trans ?_
      · rw [row_mod, coord1]
      · exact (if_pos e).symm
    · have el : l = ⟨256 + (⟨l.val - 256, by omega⟩ : Fin 256).val, by show 256 + (l.val - 256) < 512; omega⟩ := Fin.ext (by show l.val = 256 + (l.val - 256); omega)
      refine ((congrArg (fun y => pcTerm (grid0.coords t) (iblk m c 0 t) (iblk m c 1 t) (iblk m c 2 t) (iblk m c 5 t) (iblk m c 6 t) (iblk m c 7 t) U Z (ix2 r y)) el).trans
        (pc_hi (AM m c) (cwM m c) (t.val * 512 + r.val) _ _ _ _ _ _ _ U Z r ⟨l.val - 256, by omega⟩ (fun f => bRow_eq m c t r f) hZ (cw_apply m c t))).trans ?_
      exact (if_neg e).symm
  by_cases h0 : t.val % 16 = 0
  · rw [outs_pc_A m c t h0]
    refine hlo _ _ (fun j i hi => ?_) (fun j i hi => ?_)
    · exact backU (fun R l => AM m c R (1536 + l)) t.val _ _ (u_row m c t)
        (fun q l => by rw [if_pos h0]; exact (pay36_apply _ _ _).trans (blk8 m c t _)) r j i (by omega)
    · exact backZ (fun R l => zS (AM m c) R l) t.val _ _ (z_row m c t)
        (fun q l => by rw [if_pos h0]; exact (pay37_apply _ _ _).trans (blk9 m c t _)) r j i (by omega)
  · rw [outs_pc_B m c t h0]
    refine hlo _ _ (fun j i hi => ?_) (fun j i hi => ?_)
    · exact backU (fun R l => AM m c R (1536 + l)) t.val _ _ (u_row m c t)
        (fun q l => by rw [if_neg h0]; exact (ldU0_apply _ _ _).trans (carryU m c ⟨t.val - 1, Nat.lt_of_le_of_lt (Nat.sub_le _ _) t.isLt⟩ q l)) r j i (by omega)
    · exact backZ (fun R l => zS (AM m c) R l) t.val _ _ (z_row m c t)
        (fun q l => by rw [if_neg h0]; exact (ldZ0_apply _ _ _).trans (carryZ m c ⟨t.val - 1, Nat.lt_of_le_of_lt (Nat.sub_le _ _) t.isLt⟩ q l)) r j i (by omega)

end Cert.InprojIdeal.Block

end
-- ==== Proof.InprojRun.lean ====
/-
  The input projection's run read: each of its six result arrays is the plain formula of the call's arguments (`final…`), and the claim
  `algebraic`.
-/
module

public import proofs.«01_k».proof.Proof.InprojPoint
public import proofs.«01_k».proof.Defs

@[expose] public section

set_option maxRecDepth 16384

noncomputable section

namespace Cert.InprojIdeal.Block

open Cert.InprojIdeal Cert.InprojIdeal.Gen Idealize.ShloMosaic Idealize.ShloMosaic.TcCoe Idealize.SL.Sem
open Idealize.ShloMosaic.Pipeline (Dat)
open Cert.InprojSpec
open Cert.RefInprojIdeal.Value (CR SR)

variable (m : (ℓ : Loc nD τ sig) → Buf (Elt Ideal) ℓ) (ρ : Dev nD → PrngReg)

theorem idx10 : ∀ t : Fin grid0.N, win0_10.index t 0 = t.val ∧ win0_10.index t 1 = 0 := by decide +kernel

/-- What point `t` writes back of result Q is the result, read through the point's block. -/
theorem flushedQ (c : Dev nD) (t : Fin cfg0.N) :
    (dats m 0 c).flushed 10 t = ((cfg0.win 10).blk t).view.read (Elt Ideal) (resQ m c) := by
  rw [Value.flushed10]
  funext j
  obtain ⟨r, l, rfl⟩ : ∃ (r : Fin 512) (l : Fin 512), j = ix2 r l := ⟨j 0, j 1, eq_ix2 j⟩
  rw [View.read_apply]
  show ((outsAt0 m c t.val t.isLt).1 : Vec Ideal S512x512 .f32) (ix2 r l) = _
  rw [pointQ]
  refine congrArg (resQ m c) (funext fun a => Fin.ext ?_)
  match a with
  | ⟨0, _⟩ => show t.val * 512 + r.val = win0_10.index t 0 * 512 + 1 * r.val; rw [(idx10 t).1]; omega
  | ⟨1, _⟩ => show l.val = win0_10.index t 1 * 512 + 1 * l.val; rw [(idx10 t).2]; omega

/-- The blocks tile the result array. -/
theorem coverQ (i : S32768x512.Idx) : ∃ t : Fin cfg0.N, (cfg0.win 10).flush t = true ∧ i ∈ ((cfg0.win 10).blk t).view.set := by
  have h0 : (i 0 : Nat) < 32768 := (i 0).isLt
  have h1 : (i 1 : Nat) < 512 := (i 1).isLt
  refine ⟨⟨(i 0 : Nat) / 512, lt_of_lt_of_eq (by omega) N_0.symm⟩, flush0_10 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_0).slice (win0_10.rect t)).set
  rw [View.set_slice_whole, Rect.mem_set_unit]
  intro a
  match a with
  | ⟨0, _⟩ =>
    show win0_10.index t 0 * 512 ≤ (i 0 : Nat) ∧ (i 0 : Nat) < win0_10.index t 0 * 512 + 512
    rw [(idx10 t).1, hv]; omega
  | ⟨1, _⟩ =>
    show win0_10.index t 1 * 512 ≤ (i 1 : Nat) ∧ (i 1 : Nat) < win0_10.index t 1 * 512 + 512
    rw [(idx10 t).2]; omega

/-- The result array after the run. -/
theorem finalQ (c : Dev nD) : (dats m 0 c).arrAt 10 cfg0.N = resQ m c :=
  (dats m 0 c).arrAt_eq_of_cover 10 (resQ m c) (fun t _ => flushedQ m c t) coverQ

theorem idx11 : ∀ t : Fin grid0.N, win0_11.index t 0 = t.val ∧ win0_11.index t 1 = 0 := by decide +kernel

/-- What point `t` writes back of result K is the result, read through the point's block. -/
theorem flushedK (c : Dev nD) (t : Fin cfg0.N) :
    (dats m 0 c).flushed 11 t = ((cfg0.win 11).blk t).view.read (Elt Ideal) (resK m c) := by
  rw [Value.flushed11]
  funext j
  obtain ⟨r, l, rfl⟩ : ∃ (r : Fin 512) (l : Fin 512), j = ix2 r l := ⟨j 0, j 1, eq_ix2 j⟩
  rw [View.read_apply]
  show ((outsAt0 m c t.val t.isLt).2.1 : Vec Ideal S512x512 .f32) (ix2 r l) = _
  rw [pointK]
  refine congrArg (resK m c) (funext fun a => Fin.ext ?_)
  match a with
  | ⟨0, _⟩ => show t.val * 512 + r.val = win0_11.index t 0 * 512 + 1 * r.val; rw [(idx11 t).1]; omega
  | ⟨1, _⟩ => show l.val = win0_11.index t 1 * 512 + 1 * l.val; rw [(idx11 t).2]; omega

/-- The blocks tile the result array. -/
theorem coverK (i : S32768x512.Idx) : ∃ t : Fin cfg0.N, (cfg0.win 11).flush t = true ∧ i ∈ ((cfg0.win 11).blk t).view.set := by
  have h0 : (i 0 : Nat) < 32768 := (i 0).isLt
  have h1 : (i 1 : Nat) < 512 := (i 1).isLt
  refine ⟨⟨(i 0 : Nat) / 512, lt_of_lt_of_eq (by omega) N_0.symm⟩, flush0_11 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_1).slice (win0_11.rect t)).set
  rw [View.set_slice_whole, Rect.mem_set_unit]
  intro a
  match a with
  | ⟨0, _⟩ =>
    show win0_11.index t 0 * 512 ≤ (i 0 : Nat) ∧ (i 0 : Nat) < win0_11.index t 0 * 512 + 512
    rw [(idx11 t).1, hv]; omega
  | ⟨1, _⟩ =>
    show win0_11.index t 1 * 512 ≤ (i 1 : Nat) ∧ (i 1 : Nat) < win0_11.index t 1 * 512 + 512
    rw [(idx11 t).2]; omega

/-- The result array after the run. -/
theorem finalK (c : Dev nD) : (dats m 0 c).arrAt 11 cfg0.N = resK m c :=
  (dats m 0 c).arrAt_eq_of_cover 11 (resK m c) (fun t _ => flushedK m c t) coverK

theorem idx12 : ∀ t : Fin grid0.N, win0_12.index t 0 = t.val ∧ win0_12.index t 1 = 0 := by decide +kernel

/-- What point `t` writes back of result V is the result, read through the point's block. -/
theorem flushedV (c : Dev nD) (t : Fin cfg0.N) :
    (dats m 0 c).flushed 12 t = ((cfg0.win 12).blk t).view.read (Elt Ideal) (resV m c) := by
  rw [Value.flushed12]
  funext j
  obtain ⟨r, l, rfl⟩ : ∃ (r : Fin 512) (l : Fin 512), j = ix2 r l := ⟨j 0, j 1, eq_ix2 j⟩
  rw [View.read_apply]
  show ((outsAt0 m c t.val t.isLt).2.2.1 : Vec Ideal S512x512 .f32) (ix2 r l) = _
  rw [pointV]
  refine congrArg (resV m c) (funext fun a => Fin.ext ?_)
  match a with
  | ⟨0, _⟩ => show t.val * 512 + r.val = win0_12.index t 0 * 512 + 1 * r.val; rw [(idx12 t).1]; omega
  | ⟨1, _⟩ => show l.val = win0_12.index t 1 * 512 + 1 * l.val; rw [(idx12 t).2]; omega

/-- The blocks tile the result array. -/
theorem coverV (i : S32768x512.Idx) : ∃ t : Fin cfg0.N, (cfg0.win 12).flush t = true ∧ i ∈ ((cfg0.win 12).blk t).view.set := by
  have h0 : (i 0 : Nat) < 32768 := (i 0).isLt
  have h1 : (i 1 : Nat) < 512 := (i 1).isLt
  refine ⟨⟨(i 0 : Nat) / 512, lt_of_lt_of_eq (by omega) N_0.symm⟩, flush0_12 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_2).slice (win0_12.rect t)).set
  rw [View.set_slice_whole, Rect.mem_set_unit]
  intro a
  match a with
  | ⟨0, _⟩ =>
    show win0_12.index t 0 * 512 ≤ (i 0 : Nat) ∧ (i 0 : Nat) < win0_12.index t 0 * 512 + 512
    rw [(idx12 t).1, hv]; omega
  | ⟨1, _⟩ =>
    show win0_12.index t 1 * 512 ≤ (i 1 : Nat) ∧ (i 1 : Nat) < win0_12.index t 1 * 512 + 512
    rw [(idx12 t).2]; omega

/-- The result array after the run. -/
theorem finalV (c : Dev nD) : (dats m 0 c).arrAt 12 cfg0.N = resV m c :=
  (dats m 0 c).arrAt_eq_of_cover 12 (resV m c) (fun t _ => flushedV m c t) coverV

theorem idx13 : ∀ t : Fin grid0.N, win0_13.index t 0 = t.val ∧ win0_13.index t 1 = 0 := by decide +kernel

/-- What point `t` writes back of result U is the result, read through the point's block. -/
theorem flushedU (c : Dev nD) (t : Fin cfg0.N) :
    (dats m 0 c).flushed 13 t = ((cfg0.win 13).blk t).view.read (Elt Ideal) (resU m c) := by
  rw [Value.flushed13]
  funext j
  obtain ⟨r, l, rfl⟩ : ∃ (r : Fin 512) (l : Fin 256), j = ix2 r l := ⟨j 0, j 1, eq_ix2 j⟩
  rw [View.read_apply]
  show ((outsAt0 m c t.val t.isLt).2.2.2.1 : Vec Ideal S512x256 .f32) (ix2 r l) = _
  rw [pointU]
  refine congrArg (resU m c) (funext fun a => Fin.ext ?_)
  match a with
  | ⟨0, _⟩ => show t.val * 512 + r.val = win0_13.index t 0 * 512 + 1 * r.val; rw [(idx13 t).1]; omega
  | ⟨1, _⟩ => show l.val = win0_13.index t 1 * 256 + 1 * l.val; rw [(idx13 t).2]; omega

/-- The blocks tile the result array. -/
theorem coverU (i : S32768x256.Idx) : ∃ t : Fin cfg0.N, (cfg0.win 13).flush t = true ∧ i ∈ ((cfg0.win 13).blk t).view.set := by
  have h0 : (i 0 : Nat) < 32768 := (i 0).isLt
  have h1 : (i 1 : Nat) < 256 := (i 1).isLt
  refine ⟨⟨(i 0 : Nat) / 512, lt_of_lt_of_eq (by omega) N_0.symm⟩, flush0_13 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_3).slice (win0_13.rect t)).set
  rw [View.set_slice_whole, Rect.mem_set_unit]
  intro a
  match a with
  | ⟨0, _⟩ =>
    show win0_13.index t 0 * 512 ≤ (i 0 : Nat) ∧ (i 0 : Nat) < win0_13.index t 0 * 512 + 512
    rw [(idx13 t).1, hv]; omega
  | ⟨1, _⟩ =>
    show win0_13.index t 1 * 256 ≤ (i 1 : Nat) ∧ (i 1 : Nat) < win0_13.index t 1 * 256 + 256
    rw [(idx13 t).2]; omega

/-- The result array after the run. -/
theorem finalU (c : Dev nD) : (dats m 0 c).arrAt 13 cfg0.N = resU m c :=
  (dats m 0 c).arrAt_eq_of_cover 13 (resU m c) (fun t _ => flushedU m c t) coverU

theorem idx14 : ∀ t : Fin grid0.N, win0_14.index t 0 = t.val ∧ win0_14.index t 1 = 0 := by decide +kernel

/-- What point `t` writes back of result Z is the result, read through the point's block. -/
theorem flushedZ (c : Dev nD) (t : Fin cfg0.N) :
    (dats m 0 c).flushed 14 t = ((cfg0.win 14).blk t).view.read (Elt Ideal) (resZ m c) := by
  rw [Value.flushed14]
  funext j
  obtain ⟨r, l, rfl⟩ : ∃ (r : Fin 512) (l : Fin 256), j = ix2 r l := ⟨j 0, j 1, eq_ix2 j⟩
  rw [View.read_apply]
  show ((outsAt0 m c t.val t.isLt).2.2.2.2.1 : Vec Ideal S512x256 .f32) (ix2 r l) = _
  rw [pointZ]
  refine congrArg (resZ m c) (funext fun a => Fin.ext ?_)
  match a with
  | ⟨0, _⟩ => show t.val * 512 + r.val = win0_14.index t 0 * 512 + 1 * r.val; rw [(idx14 t).1]; omega
  | ⟨1, _⟩ => show l.val = win0_14.index t 1 * 256 + 1 * l.val; rw [(idx14 t).2]; omega

/-- The blocks tile the result array. -/
theorem coverZ (i : S32768x256.Idx) : ∃ t : Fin cfg0.N, (cfg0.win 14).flush t = true ∧ i ∈ ((cfg0.win 14).blk t).view.set := by
  have h0 : (i 0 : Nat) < 32768 := (i 0).isLt
  have h1 : (i 1 : Nat) < 256 := (i 1).isLt
  refine ⟨⟨(i 0 : Nat) / 512, lt_of_lt_of_eq (by omega) N_0.symm⟩, flush0_14 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_4).slice (win0_14.rect t)).set
  rw [View.set_slice_whole, Rect.mem_set_unit]
  intro a
  match a with
  | ⟨0, _⟩ =>
    show win0_14.index t 0 * 512 ≤ (i 0 : Nat) ∧ (i 0 : Nat) < win0_14.index t 0 * 512 + 512
    rw [(idx14 t).1, hv]; omega
  | ⟨1, _⟩ =>
    show win0_14.index t 1 * 256 ≤ (i 1 : Nat) ∧ (i 1 : Nat) < win0_14.index t 1 * 256 + 256
    rw [(idx14 t).2]; omega

/-- The result array after the run. -/
theorem finalZ (c : Dev nD) : (dats m 0 c).arrAt 14 cfg0.N = resZ m c :=
  (dats m 0 c).arrAt_eq_of_cover 14 (resZ m c) (fun t _ => flushedZ m c t) coverZ

theorem idx15 : ∀ t : Fin grid0.N, win0_15.index t 0 = t.val ∧ win0_15.index t 1 = 0 := by decide +kernel

/-- What point `t` writes back of result PC is the result, read through the point's block. -/
theorem flushedPC (c : Dev nD) (t : Fin cfg0.N) :
    (dats m 0 c).flushed 15 t = ((cfg0.win 15).blk t).view.read (Elt Ideal) (resPC m c) := by
  rw [Value.flushed15]
  funext j
  obtain ⟨r, l, rfl⟩ : ∃ (r : Fin 512) (l : Fin 512), j = ix2 r l := ⟨j 0, j 1, eq_ix2 j⟩
  rw [View.read_apply]
  show ((outsAt0 m c t.val t.isLt).2.2.2.2.2.1 : Vec Ideal S512x512 .bf16) (ix2 r l) = _
  rw [pointPC]
  refine congrArg (resPC m c) (funext fun a => Fin.ext ?_)
  match a with
  | ⟨0, _⟩ => show t.val * 512 + r.val = win0_15.index t 0 * 512 + 1 * r.val; rw [(idx15 t).1]; omega
  | ⟨1, _⟩ => show l.val = win0_15.index t 1 * 512 + 1 * l.val; rw [(idx15 t).2]; omega

/-- The blocks tile the result array. -/
theorem coverPC (i : S32768x512.Idx) : ∃ t : Fin cfg0.N, (cfg0.win 15).flush t = true ∧ i ∈ ((cfg0.win 15).blk t).view.set := by
  have h0 : (i 0 : Nat) < 32768 := (i 0).isLt
  have h1 : (i 1 : Nat) < 512 := (i 1).isLt
  refine ⟨⟨(i 0 : Nat) / 512, lt_of_lt_of_eq (by omega) N_0.symm⟩, flush0_15 _, ?_⟩
  generalize ht : (⟨(i 0 : Nat) / 512, lt_of_lt_of_eq (by omega) N_0.symm⟩ : Fin cfg0.N) = t
  have hv : t.val = (i 0 : Nat) / 512 := by rw [← ht]
  show i ∈ ((View.whole main_v42_5).slice (win0_15.rect t)).set
  rw [View.set_slice_whole, Rect.mem_set_unit]
  intro a
  match a with
  | ⟨0, _⟩ =>
    show win0_15.index t 0 * 512 ≤ (i 0 : Nat) ∧ (i 0 : Nat) < win0_15.index t 0 * 512 + 512
    rw [(idx15 t).1, hv]; omega
  | ⟨1, _⟩ =>
    show win0_15.index t 1 * 512 ≤ (i 1 : Nat) ∧ (i 1 : Nat) < win0_15.index t 1 * 512 + 512
    rw [(idx15 t).2]; omega

/-- The result array after the run. -/
theorem finalPC (c : Dev nD) : (dats m 0 c).arrAt 15 cfg0.N = resPC m c :=
  (dats m 0 c).arrAt_eq_of_cover 15 (resPC m c) (fun t _ => flushedPC m c t) coverPC

variable {m} {m' : (ℓ : Loc Cert.RefInprojIdeal.nD Cert.RefInprojIdeal.τ Cert.RefInprojIdeal.sig) → Buf (Elt Ideal) ℓ} {c : Dev nD}

theorem AR_eq (e0 : m' (c.tc.loc Cert.RefInprojIdeal.main_arg0) = m (c.tc.loc main_arg0)) (e1 : m' (c.tc.loc Cert.RefInprojIdeal.main_arg1) = m (c.tc.loc main_arg1))
    (e2 : m' (c.tc.loc Cert.RefInprojIdeal.main_arg2) = m (c.tc.loc main_arg2)) : Cert.RefInprojIdeal.Value.AR (StableHlo.launchContents m' c) = AM m c := by
  funext R f
  show gp (fun r k => m' (c.tc.loc Cert.RefInprojIdeal.main_arg0) (ix2 r k)) (fun j => m' (c.tc.loc Cert.RefInprojIdeal.main_arg1) (ix1 j))
    (fun k f => m' (c.tc.loc Cert.RefInprojIdeal.main_arg2) (ix2 k f)) R f = _
  rw [e0, e1, e2]
  rfl

theorem PR_eq (e3 : m' (c.tc.loc Cert.RefInprojIdeal.main_arg3) = m (c.tc.loc main_arg3)) : Cert.RefInprojIdeal.Value.PR (StableHlo.launchContents m' c) = PM m c := by
  funext g k l
  show (if h : g < 4 ∧ k < 64 ∧ l < 64 then m' (c.tc.loc Cert.RefInprojIdeal.main_arg3) (ix3 ⟨g, h.1⟩ ⟨k, h.2.1⟩ ⟨l, h.2.2⟩) else (0 : EReal)) = _
  rw [e3]
  rfl

theorem psR_eq (e4 : m' (c.tc.loc Cert.RefInprojIdeal.main_arg4) = m (c.tc.loc main_arg4)) : Cert.RefInprojIdeal.Value.psR (StableHlo.launchContents m' c) = psM m c := by
  funext l
  show (if h : l < 256 then m' (c.tc.loc Cert.RefInprojIdeal.main_arg4) (ix1 ⟨l, h⟩) else (0 : EReal)) = _
  rw [e4]
  rfl

theorem cwR_eq (e5 : m' (c.tc.loc Cert.RefInprojIdeal.main_arg5) = m (c.tc.loc main_arg5)) : Cert.RefInprojIdeal.Value.cwR (StableHlo.launchContents m' c) = cwM m c := by
  funext a l
  show (if h : a < 3 ∧ l < 256 then m' (c.tc.loc Cert.RefInprojIdeal.main_arg5) (ix2 ⟨a, h.1⟩ ⟨l, h.2⟩) else (0 : EReal)) = _
  rw [e5]
  rfl

theorem refQ (hA : Cert.RefInprojIdeal.Value.AR (StableHlo.launchContents m' c) = AM m c) :
    (Cert.RefInprojIdeal.Value.res_main_v197 (StableHlo.launchContents m' c) : Vec Ideal S32768x512 .f32) = resQ m c := by
  funext j
  obtain ⟨r, l, rfl⟩ : ∃ (r : Fin 32768) (l : Fin 512), j = ix2 r l := ⟨j 0, j 1, eq_ix2 j⟩
  refine (Cert.RefInprojIdeal.Value.v197_apply (StableHlo.launchContents m' c) r l).trans ?_
  rw [hA]
  rfl

theorem refK (hA : Cert.RefInprojIdeal.Value.AR (StableHlo.launchContents m' c) = AM m c) :
    (Cert.RefInprojIdeal.Value.res_main_v212 (StableHlo.launchContents m' c) : Vec Ideal S32768x512 .f32) = resK m c := by
  funext j
  obtain ⟨r, l, rfl⟩ : ∃ (r : Fin 32768) (l : Fin 512), j = ix2 r l := ⟨j 0, j 1, eq_ix2 j⟩
  refine (Cert.RefInprojIdeal.Value.v212_apply (StableHlo.launchContents m' c) r l).trans ?_
  rw [hA]
  rfl

theorem refV (hA : Cert.RefInprojIdeal.Value.AR (StableHlo.launchContents m' c) = AM m c) :
    (Cert.RefInprojIdeal.Value.res_main_v17 (StableHlo.launchContents m' c) : Vec Ideal S32768x512 .f32) = resV m c := by
  funext j
  obtain ⟨r, l, rfl⟩ : ∃ (r : Fin 32768) (l : Fin 512), j = ix2 r l := ⟨j 0, j 1, eq_ix2 j⟩
  refine (Cert.RefInprojIdeal.Value.v17_apply (StableHlo.launchContents m' c) r l).trans ?_
  rw [hA]
  rfl

theorem refU (hA : Cert.RefInprojIdeal.Value.AR (StableHlo.launchContents m' c) = AM m c) :
    (Cert.RefInprojIdeal.Value.res_main_v18 (StableHlo.launchContents m' c) : Vec Ideal S32768x256 .f32) = resU m c := by
  funext j
  obtain ⟨r, l, rfl⟩ : ∃ (r : Fin 32768) (l : Fin 256), j = ix2 r l := ⟨j 0, j 1, eq_ix2 j⟩
  refine (Cert.RefInprojIdeal.Value.v18_apply (StableHlo.launchContents m' c) r l).trans ?_
  rw [hA]
  rfl

theorem refZ (hA : Cert.RefInprojIdeal.Value.AR (StableHlo.launchContents m' c) = AM m c) :
    (Cert.RefInprojIdeal.Value.res_main_v157 (StableHlo.launchContents m' c) : Vec Ideal S32768x256 .f32) = resZ m c := by
  funext j
  obtain ⟨r, l, rfl⟩ : ∃ (r : Fin 32768) (l : Fin 256), j = ix2 r l := ⟨j 0, j 1, eq_ix2 j⟩
  refine (Cert.RefInprojIdeal.Value.v157_apply (StableHlo.launchContents m' c) r l).trans ?_
  rw [hA]
  rfl

theorem refPC (hA : Cert.RefInprojIdeal.Value.AR (StableHlo.launchContents m' c) = AM m c) (hP : Cert.RefInprojIdeal.Value.PR (StableHlo.launchContents m' c) = PM m c)
    (hs : Cert.RefInprojIdeal.Value.psR (StableHlo.launchContents m' c) = psM m c) (hw : Cert.RefInprojIdeal.Value.cwR (StableHlo.launchContents m' c) = cwM m c) :
    (Cert.RefInprojIdeal.Value.res_main_v215 (StableHlo.launchContents m' c) : Vec Ideal S32768x512 .bf16) = resPC m c := by
  funext j
  obtain ⟨r, l, rfl⟩ : ∃ (r : Fin 32768) (l : Fin 512), j = ix2 r l := ⟨j 0, j 1, eq_ix2 j⟩
  by_cases e : l.val < 256
  · have el : ∃ (l' : Fin 256) (h : 0 + l'.val < 512), l = ⟨0 + l'.val, h⟩ := ⟨⟨l.val, e⟩, by show 0 + l.val < 512; omega, Fin.ext (by show l.val = 0 + l.val; omega)⟩
    obtain ⟨l', h', rfl⟩ := el
    refine (Cert.RefInprojIdeal.Value.v215_lo (StableHlo.launchContents m' c) r l').trans ?_
    rw [hA, hP, hs]
    refine Eq.trans ?_ (if_pos e).symm
    show poolS _ _ _ r.val l'.val = poolS _ _ _ r.val (0 + l'.val)
    rw [Nat.zero_add]
  · have el : ∃ (l' : Fin 256) (h : 256 + l'.val < 512), l = ⟨256 + l'.val, h⟩ := ⟨⟨l.val - 256, by omega⟩, by show 256 + (l.val - 256) < 512; omega, Fin.ext (by show l.val = 256 + (l.val - 256); omega)⟩
    obtain ⟨l', h', rfl⟩ := el
    refine (Cert.RefInprojIdeal.Value.v215_hi (StableHlo.launchContents m' c) r l').trans ?_
    rw [hA, hw]
    refine Eq.trans ?_ (if_neg e).symm
    show convS _ _ r.val l'.val = convS _ _ r.val (256 + l'.val - 256)
    rw [Nat.add_sub_cancel_left]

/-- The claim: the kernel's six result arrays and the reference's are equal over the extended reals. -/
theorem algebraic : Cert.algebraic_InprojIdeal_RefInprojIdeal := by
  intro m ρ m' ρ' _ hagree
  refine ⟨resQ m, resK m, resV m, resU m, resZ m, resPC m, ?_, ?_⟩
  · exact (θ_run Cert.InprojIdeal.defs _ _).mono (fun _ h c => ⟨(h c).1.trans (finalQ m c), (h c).2.1.trans (finalK m c), (h c).2.2.1.trans (finalV m c),
        (h c).2.2.2.1.trans (finalU m c), (h c).2.2.2.2.1.trans (finalZ m c), (h c).2.2.2.2.2.1.trans (finalPC m c), (h c).2.2.2.2.2.2⟩)
      (Value.run_blocks (F := Ideal) m ρ)
  · refine (θ_run Cert.RefInprojIdeal.defs _ _).mono (fun _ h c => ?_) (Cert.RefInprojIdeal.Value.run (F := Ideal) m' ρ')
    obtain ⟨e0, e1, e2, e3, e4, e5⟩ := hagree c
    have hA := AR_eq e0 e1 e2
    obtain ⟨h1, h2, h3, h4, h5, h6, hk⟩ := h c
    exact ⟨h1.trans (refQ hA), h2.trans (refK hA), h3.trans (refV hA), h4.trans (refU hA), h5.trans (refZ hA),
      h6.trans (refPC hA (PR_eq e3) (psR_eq e4) (cwR_eq e5)), hk⟩

end Cert.InprojIdeal.Block

end
-- ==== Proof.GateAlg.lean ====
/-
  The block gate, read over the extended reals: one grid point's gates and picks as functions of the page sums and the query
  (`gateRow`, `pick`, `mask`), and the reference's result as the same functions of its arguments.
-/
module

public import proofs.«01_k».proof.Proof.Gen.GateIdeal.Value
public import proofs.«01_k».proof.Proof.Gen.RefGateIdeal.Run
public import Idealize.ShloMosaic.Lib.Pointwise

@[expose] public section

set_option maxRecDepth 16384

noncomputable section

namespace Cert.GateIdeal.Block

open Cert.GateIdeal Cert.GateIdeal.Gen Idealize.ShloMosaic Idealize.ShloMosaic.TcCoe Idealize.SL.Sem

/-- The largest of 64 gates. -/
def top (g : Fin 64 → EReal) : EReal :=
  (Finset.univ : Finset (Fin 64)).fold max (Ideal.ofBits .f32 0xFF800000#32) g

/-- The first block whose gate is the largest. -/
def pick (g : Fin 64 → EReal) : BitVec 32 :=
  (Finset.univ : Finset (Fin 64)).fold IntOp.minsi 2147483647#32 fun b => if g b = top g then BitVec.ofNat 32 b.val else 1073741824#32

/-- The gates with the picked block taken out. -/
def mask (g : Fin 64 → EReal) : Fin 64 → EReal := fun b =>
  if BitVec.ofNat 32 b.val = pick g then Ideal.ofBits .f32 0xFF800000#32 else g b

/-- The eight rows of a lane: its first, second and third pick, then zeros. -/
def picks (g : Fin 64 → EReal) (p : Fin 8) : BitVec 32 :=
  if p.val < 1 then pick g else if p.val - 1 < 1 then pick (mask g) else if p.val - 1 - 1 < 1 then pick (mask (mask g)) else 0#32

/-- A block's gate for every lane, from its two page sums and the query: the query's head against the block's mean key,
    zero on the lanes past the heads. -/
def gateRow (s : Fin 1024 → EReal) (q : Fin 512 → EReal) (h : Fin 128) : EReal :=
  if hh : h.val < 8 then ∑ d : Fin 64, q ⟨h.val * 64 + d.val, by omega⟩ *
    ((s ⟨h.val * 64 + d.val, by omega⟩ + s ⟨512 + (h.val * 64 + d.val), by omega⟩) * Ideal.ofBits .f32 0x3B800000#32)
  else 0

/-- A sequence's gates of a lane, one per block of keys. -/
def gatesOf (s : S32x128x512.Idx → EReal) (q : S32x1x512.Idx → EReal) (n : Fin 32) (h : Fin 128) : Fin 64 → EReal := fun b =>
  gateRow (fun l => s (ix3 n ⟨b.val * 2 + l.val / 512, by omega⟩ ⟨l.val % 512, by omega⟩)) (fun l => q (ix3 n 0 l)) h

/-- The kernel's pick of every lane. -/
def idxK (g : FVec Ideal S64x128 .f32) : IVec S128 32 :=
  multiReductionI .minsi [0] S128 (select (cmpf .oeq g (broadcastTo S64x128 (shapeCast S1x128
    (multiReduction .maximumf [0] S128 g 0xFF800000#32 reduces_S64x128_S128 (.inl rfl) rfl) shapeCasts_S128_S1x128) broadcasts_S1x128_S64x128))
    (iota .tc S64x128 32 [0] iota_S64x128_d0_w32) (broadcast S64x128 1073741824#32)) 2147483647#32 reduces_S64x128_S128 rfl

/-- The kernel's gates with every lane's pick taken out. -/
def mskK (g : FVec Ideal S64x128 .f32) : FVec Ideal S64x128 .f32 :=
  select (cmpi .eq (iota .tc S64x128 32 [0] iota_S64x128_d0_w32)
    (broadcastTo S64x128 (shapeCast S1x128 (idxK g) shapeCasts_S128_S1x128) broadcasts_S1x128_S64x128))
    (broadcast S64x128 (Scalar.ofBits .f32 0xFF800000#32)) g

/-- The kernel's gates with the blocks past the end taken out: none is. -/
def inK (g : FVec Ideal S64x128 .f32) : FVec Ideal S64x128 .f32 :=
  select (cmpi .slt (iota .tc S64x128 32 [0] iota_S64x128_d0_w32) (broadcast S64x128 64#32)) g
    (broadcast S64x128 (Scalar.ofBits .f32 0xFF800000#32))

theorem pay2_eq (g : FVec Ideal S64x128 .f32) : k0_pay2 g = shapeCast S1x8x128 (concatenate S8x128 0
    [⟨S1x128, shapeCast S1x128 (idxK (inK g)) shapeCasts_S128_S1x128⟩,
     ⟨S1x128, shapeCast S1x128 (idxK (mskK (inK g))) shapeCasts_S128_S1x128⟩,
     ⟨S1x128, shapeCast S1x128 (idxK (mskK (mskK (inK g)))) shapeCasts_S128_S1x128⟩,
     ⟨S5x128, broadcast S5x128 0#32⟩] concatenates_S1x128_S1x128_S1x128_S5x128_S8x128_d0) shapeCasts_S8x128_S1x8x128 := rfl

theorem lt64 : ∀ b : Fin 64, IntOp.cmpi .slt (BitVec.ofNat 32 b.val) 64#32 = 1#1 := by decide +kernel

theorem inK_eq (g : FVec Ideal S64x128 .f32) : inK g = g := by
  funext j
  obtain ⟨b, h, rfl⟩ : ∃ (b : Fin 64) (h : Fin 128), j = ix2 b h := ⟨j 0, j 1, eq_ix2 j⟩
  unfold inK
  pointwise
  rw [lt64]
  rfl

theorem idxK_apply (g : FVec Ideal S64x128 .f32) (h : Fin 128) : idxK g (ix1 h) = pick fun b => g (ix2 b h) := by
  unfold idxK
  refine (multiReductionI_eq_fold _ _ _ _ _ _).trans ?_
  refine (Shape.Reduces.fold_filter_drop_single _ _ _ _ _).trans ?_
  unfold pick
  refine congrArg (fun f => (Finset.univ : Finset (Fin 64)).fold IntOp.minsi 2147483647#32 f) (funext fun (b : Fin 64) => ?_)
  have e : reduces_S64x128_S128.lift (ix1 h) b = ix2 b h := funext fun a => Fin.ext (by
    match a with
    | ⟨0, _⟩ => rfl
    | ⟨1, _⟩ => rfl)
  refine Eq.trans (congrArg (select _ _ _) e) ?_
  pointwise
  rfl

theorem select_eq {α : Type} (a b : BitVec 32) (x y : α) :
    Scalar.select (IntOp.cmpi .eq a b) x y = if a = b then x else y := by
  unfold Scalar.select IntOp.cmpi
  by_cases h : a = b
  · simp [h]
  · simp [h, beq_eq_false_iff_ne.mpr h]

theorem mskK_apply (g : FVec Ideal S64x128 .f32) (b : Fin 64) (h : Fin 128) :
    mskK g (ix2 b h) = mask (fun b => g (ix2 b h)) b := by
  unfold mskK mask
  pointwise
  rw [idxK_apply, select_eq]

theorem pay2_apply (g : FVec Ideal S64x128 .f32) (p : Fin 8) (h : Fin 128) :
    k0_pay2 g (ix3 0 p h) = picks (fun b => g (ix2 b h)) p := by
  rw [pay2_eq]
  pointwise
  simp only [idxK_apply, mskK_apply, inK_eq]
  rfl

/-- The head a lane of the query belongs to, as the kernel computes it. -/
theorem head_eq : ∀ x : Fin 512, Scalar.select
      (IntOp.andi
        (IntOp.cmpi CmpIPredicate.ne
          (IntOp.subi (BitVec.setWidth 32 (IntOp.cmpi CmpIPredicate.sgt (BitVec.ofNat 32 ↑x) 0#32))
            (BitVec.setWidth 32 (IntOp.cmpi CmpIPredicate.slt (BitVec.ofNat 32 ↑x) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑x) 64#32) 0#32))
      (IntOp.subi (IntOp.divsi ArithUnit.vector (BitVec.ofNat 32 ↑x) 64#32) 1#32)
      (IntOp.divsi ArithUnit.vector (BitVec.ofNat 32 ↑x) 64#32) = BitVec.ofNat 32 (x.val / 64) := by
  decide +kernel

/-- A sum over 512 lanes, head by head. -/
theorem sum_heads (f : Fin 512 → EReal) : ∑ x, f x = ∑ c : Fin 8, ∑ d : Fin 64, f ⟨c.val * 64 + d.val, by omega⟩ := by
  rw [← Fintype.sum_prod_type']
  refine (Fintype.sum_equiv (finProdFinEquiv (m := 8) (n := 64)) _ _ fun p => congrArg f (Fin.ext ?_)).symm
  show p.1.val * 64 + p.2.val = p.2.val + 64 * p.1.val
  omega

theorem ofNat_eq_iff (a b : ℕ) (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

theorem pay1_apply (x0 : Vec Ideal S1x64x1024 .f32) (x1 : Vec Ideal S1x1x512 .f32) (b : Fin 64) (h : Fin 128) :
    k0_pay1 x0 x1 (ix2 b h) = gateRow (fun j => x0 (ix3 0 b j)) (fun j => x1 (ix3 0 0 j)) h := by
  unfold k0_pay1
  pointwise
  simp only [head_eq, select_eq]
  rw [sum_heads]
  have e : ∀ (c : Fin 8) (d : Fin 64), (BitVec.ofNat 32 ((c.val * 64 + d.val) / 64) = BitVec.ofNat 32 h.val) ↔ c.val = h.val := fun c d => by
    rw [ofNat_eq_iff _ _ (by omega) (by omega)]; omega
  simp only [e]
  unfold gateRow
  split
  · rename_i hh
    rw [Finset.sum_eq_single (⟨h.val, hh⟩ : Fin 8)]
    · refine Finset.sum_congr rfl fun d _ => ?_
      rw [if_pos rfl, mul_comm]
    · intro c _ hc
      refine Finset.sum_eq_zero fun d _ => if_neg fun hv => hc (Fin.ext hv)
    · intro hc; exact absurd (Finset.mem_univ _) hc
  · rename_i hh
    refine Finset.sum_eq_zero fun c _ => Finset.sum_eq_zero fun d _ => if_neg fun hv => hh (lt_of_eq_of_lt (Eq.symm hv) c.isLt)

end Cert.GateIdeal.Block

end
-- ==== Proof.GateRef.lean ====
/-
  The reference's gate result, read over the extended reals: every lane's picks from its gates, the gates from the page sums
  and the query.
-/
module

public import proofs.«01_k».proof.Proof.GateAlg
public import Idealize.ShloMosaic.Lib.Tactic.CleanTypes

@[expose] public section

set_option maxRecDepth 16384

noncomputable section

namespace Cert.RefGateIdeal.Read

open Cert.RefGateIdeal Cert.RefGateIdeal.Gen Idealize.ShloMosaic Idealize.ShloMosaic.TcCoe Idealize.SL.Sem
open Cert.GateIdeal.Block (top pick mask picks gateRow gatesOf select_eq)

/-- The reference's gates, of the page sums and the queries. -/
def gates (s : FVec Ideal S32x128x512 .f32) (q : FVec Ideal S32x1x512 .f32) : FVec Ideal S32x128x64 .f32 :=
  concatenate S32x128x64 1 [⟨S32x8x64, (Host.dotGeneral dot_S32x8x64_S32x64x8x64_S32x8x64_2_3_n_1_01_02 none (shapeCast _ q shapeCasts_S32x1x512_S32x8x64) (Host.divf (Host.reduceAdd (shapeCast _ s shapeCasts_S32x128x512_S32x64x2x8x64) (constant S_ .f32 0x00000000#32) reducesTo_S32x64x2x8x64_S32x64x8x64_d2 h_S_) (broadcastInDim S32x64x8x64 ![] bcast_S_S32x64x8x64 (constant S_ .f32 0x43800000#32))))⟩, ⟨S32x120x64, (broadcastInDim S32x120x64 ![] bcast_S_S32x120x64 (constant S_ .f32 0x00000000#32))⟩] concatenates_S32x8x64_S32x120x64_S32x128x64_d1

/-- The reference's pick of every lane. -/
def idxR (g : FVec Ideal S32x128x64 .f32) : IVec S32x128 32 :=
  Host.reduce IntOp.minsi (select (cmpf .oeq g (broadcastInDim S32x128x64 ![0, 1, 2] bcast_S32x128x1_S32x128x64_0_1_2 (broadcastInDim S32x128x1 ![0, 1] bcast_S32x128_S32x128x1_0_1 (Host.reduce FloatOps.maximumf g (constant S_ .f32 0xFF800000#32) reducesTo_S32x128x64_S32x128_d2 h_S_)))) (broadcastInDim S32x128x64 ![2] bcast_S64_S32x128x64_2 (iotaInDim S64 32 0)) (broadcastInDim S32x128x64 ![] bcast_S_S32x128x64 (id (constantI S_ 32 1073741824#32)))) (constantI S_ 32 2147483647#32) reducesTo_S32x128x64_S32x128_d2 h_S_

/-- The reference's gates with every lane's pick taken out. -/
def mskR (g : FVec Ideal S32x128x64 .f32) : FVec Ideal S32x128x64 .f32 :=
  select (cmpi .eq (broadcastInDim S32x128x64 ![0, 1, 2] bcast_S1x1x64_S32x128x64_0_1_2 (broadcastInDim S1x1x64 ![2] bcast_S64_S1x1x64_2 (iotaInDim S64 32 0))) (broadcastInDim S32x128x64 ![0, 1, 2] bcast_S32x128x1_S32x128x64_0_1_2 (broadcastInDim S32x128x1 ![0, 1] bcast_S32x128_S32x128x1_0_1 (idxR g)))) (broadcastInDim S32x128x64 ![] bcast_S_S32x128x64 (id (constant S_ .f32 0xFF800000#32))) g

theorem red2 : S32x128x64.Reduces [2] S32x128 := by decide

theorem lift2 (n : Fin 32) (h : Fin 128) (b : Fin 64) : red2.lift (ix2 n h) b = ix3 n h b := funext fun a => Fin.ext (by
  match a with
  | ⟨0, _⟩ => rfl
  | ⟨1, _⟩ => rfl
  | ⟨2, _⟩ => rfl)

theorem idxR_apply (g : FVec Ideal S32x128x64 .f32) (n : Fin 32) (h : Fin 128) : idxR g (ix2 n h) = pick fun b => g (ix3 n h b) := by
  unfold idxR
  refine (Host.reduce_eq_fold_single _ _ _ _ red2 _ _).trans ?_
  unfold pick
  refine congrArg (fun f => (Finset.univ : Finset (Fin 64)).fold IntOp.minsi 2147483647#32 f) (funext fun (b : Fin 64) => ?_)
  refine Eq.trans (congrArg (select _ _ _) (lift2 n h b)) ?_
  pointwise
  rfl

theorem mskR_apply (g : FVec Ideal S32x128x64 .f32) (n : Fin 32) (h : Fin 128) (b : Fin 64) :
    mskR g (ix3 n h b) = mask (fun b => g (ix3 n h b)) b := by
  unfold mskR mask
  pointwise
  rw [idxR_apply, select_eq]
  rfl

/-- Division by 256 is multiplication by its reciprocal. -/
theorem div_256 (x : EReal) : Ideal.div x (Ideal.ofBits .f32 0x43800000#32) = x * Ideal.ofBits .f32 0x3B800000#32 := by
  have h1 : Ideal.ofBits .f32 0x43800000#32 = ((256 : ℝ) : EReal) := by
    simp [Ideal.ofBits, Ideal.ieee, -EReal.coe_mul]; norm_num
  have h2 : Ideal.ofBits .f32 0x3B800000#32 = ((1 / 256 : ℝ) : EReal) := by
    simp [Ideal.ofBits, Ideal.ieee, -EReal.coe_mul]; norm_num
  rw [h1, h2, Ideal.div_coe (by norm_num)]

theorem gates_apply (s : FVec Ideal S32x128x512 .f32) (q : FVec Ideal S32x1x512 .f32) (n : Fin 32) (h : Fin 128) (b : Fin 64) :
    gates s q (ix3 n h b) = gatesOf s q n h b := by
  unfold gates
  pointwise
  unfold gatesOf gateRow
  split
  · rename_i hh
    refine Finset.sum_congr rfl fun d _ => ?_
    rw [div_256, Fin.sum_univ_two]
    have hd := d.isLt
    congr 1
    congr 1
    congr 1
    · refine congrArg s (funext fun a => Fin.ext ?_)
      match a with
      | ⟨0, _⟩ => rfl
      | ⟨1, _⟩ => show b.val * 2 + 0 = b.val * 2 + (h.val * 64 + d.val) / 512; omega
      | ⟨2, _⟩ => show h.val * 64 + d.val = (h.val * 64 + d.val) % 512; omega
    · refine congrArg s (funext fun a => Fin.ext ?_)
      match a with
      | ⟨0, _⟩ => rfl
      | ⟨1, _⟩ => show b.val * 2 + 1 = b.val * 2 + (512 + (h.val * 64 + d.val)) / 512; omega
      | ⟨2, _⟩ => show h.val * 64 + d.val = (512 + (h.val * 64 + d.val)) % 512; omega
  · rfl

variable (m : (ℓ : Loc nD τ sig) → Buf (Elt Ideal) ℓ)

set_option maxHeartbeats 3200000 in
theorem res_eq (c : Dev nD) : (Value.res_main_v50 m c : IVec S32x8x128 32) =
    concatenate S32x8x128 1 [⟨S32x3x128, concatenate S32x3x128 1
      [⟨S32x1x128, broadcastInDim S32x1x128 ![0, 2] bcast_S32x128_S32x1x128_0_2 (idxR (gates (m ((c.tc : Thread nD τ).loc main_arg0)) (m ((c.tc : Thread nD τ).loc main_arg1))))⟩,
       ⟨S32x1x128, broadcastInDim S32x1x128 ![0, 2] bcast_S32x128_S32x1x128_0_2 (idxR (mskR (gates (m ((c.tc : Thread nD τ).loc main_arg0)) (m ((c.tc : Thread nD τ).loc main_arg1)))))⟩,
       ⟨S32x1x128, broadcastInDim S32x1x128 ![0, 2] bcast_S32x128_S32x1x128_0_2 (idxR (mskR (mskR (gates (m ((c.tc : Thread nD τ).loc main_arg0)) (m ((c.tc : Thread nD τ).loc main_arg1))))))⟩]
      concatenates_S32x1x128_S32x1x128_S32x1x128_S32x3x128_d1⟩,
      ⟨S32x5x128, broadcastInDim S32x5x128 ![] bcast_S_S32x5x128 (constantI S_ 32 0#32)⟩] concatenates_S32x3x128_S32x5x128_S32x8x128_d1 := by
  unfold Value.res_main_v50
  rfl

/-- The reference's result: every lane's three picks of its gates. -/
theorem ref_apply (c : Dev nD) (n : Fin 32) (p : Fin 8) (h : Fin 128) :
    (Value.res_main_v50 m c : IVec S32x8x128 32) (ix3 n p h)
      = picks (gatesOf (m ((c.tc : Thread nD τ).loc main_arg0)) (m ((c.tc : Thread nD τ).loc main_arg1)) n h) p := by
  rw [res_eq]
  pointwise
  simp only [idxR_apply, mskR_apply, gates_apply]
  unfold picks
  have hp := p.isLt
  by_cases h1 : p.val < 1
  · rw [dif_pos (by omega), dif_pos h1, if_pos h1]
  · by_cases h2 : p.val - 1 < 1
    · rw [dif_pos (by omega), dif_neg h1, dif_pos h2, if_neg h1, if_pos h2]
    · by_cases h3 : p.val - 1 - 1 < 1
      · rw [dif_pos (by omega), dif_neg h1, dif_neg h2, if_neg h1, if_neg h2, if_pos h3]
      · rw [dif_neg (by omega), if_neg h1, if_neg h2, if_neg h3]

end Cert.RefGateIdeal.Read

end
-- ==== Proof.GateRun.lean ====
/-
  The block gate's run, read: its result array is the reference's composed term of the same arguments, block by block
  (`flushed_eq`), hence as a whole (`final_o`), and the claim `algebraic`.
-/
module

public import proofs.«01_k».proof.Proof.GateRef
public import proofs.«01_k».proof.Defs

@[expose] public section

set_option maxRecDepth 16384

noncomputable section

namespace Cert.GateIdeal.Block

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

theorem idx0 : ∀ t : Fin grid0.N, win0_0.index t 0 = t.val ∧ win0_0.index t 1 = 0 ∧ win0_0.index t 2 = 0 := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = t.val ∧ win0_2.index t 1 = 0 ∧ win0_2.index t 2 = 0 := by decide +kernel

/-- The page sums, two pages to a row. -/
theorem V_pages (c : Dev nD) : V m c main_v0 = shapeCast S32x64x1024 (m (c.tc.loc main_arg0)) shapeCasts_S32x128x512_S32x64x1024 := by
  unfold V
  simp only [hostOps0]
  after_results_simp <;> rfl

/-- The sequence a grid point works on. -/
def seq (t : Fin cfg0.N) : Fin 32 := ⟨t.val, lt_of_lt_of_eq t.isLt N_0⟩

theorem blk0 (c : Dev nD) (t : Fin cfg0.N) (b : Fin 64) (l : Fin 1024) :
    (iblk m c 0 t : Vec Ideal S1x64x1024 .f32) (ix3 0 b l)
      = m (c.tc.loc main_arg0) (ix3 (seq t) ⟨b.val * 2 + l.val / 512, by omega⟩ ⟨l.val % 512, by omega⟩) := by
  unfold iblk
  rw [View.read_apply]
  show V m c main_v0 _ = _
  rw [V_pages]
  refine (congrArg _ (funext fun a => Fin.ext ?_ : _ = ix3 (seq t) b l)).trans ?_
  · match a with
    | ⟨0, _⟩ => show win0_0.index t 0 * 1 + 1 * 0 = t.val; rw [(idx0 t).1]; omega
    | ⟨1, _⟩ => show win0_0.index t 1 * 64 + 1 * b.val = b.val; rw [(idx0 t).2.1]; omega
    | ⟨2, _⟩ => show win0_0.index t 2 * 1024 + 1 * l.val = l.val; rw [(idx0 t).2.2]; omega
  · refine shapeCast_apply _ _ _ (ix3 (seq t) ⟨b.val * 2 + l.val / 512, by omega⟩ ⟨l.val % 512, by omega⟩) ?_
    rw [Shape.rowMajor_val_three, Shape.rowMajor_val_three]
    show ((seq t).val * 128 + (b.val * 2 + l.val / 512)) * 512 + l.val % 512 = ((seq t).val * 64 + b.val) * 1024 + l.val
    omega

theorem blk1 (c : Dev nD) (t : Fin cfg0.N) (l : Fin 512) :
    (iblk m c 1 t : Vec Ideal S1x1x512 .f32) (ix3 0 0 l) = m (c.tc.loc main_arg1) (ix3 (seq t) 0 l) := by
  unfold iblk
  rw [View.read_apply]
  show V m c main_arg1 _ = _
  rw [V_main_arg1]
  refine congrArg _ (funext fun a => Fin.ext ?_)
  match a with
  | ⟨0, _⟩ => show win0_1.index t 0 * 1 + 1 * 0 = t.val; rw [(idx1 t).1]; omega
  | ⟨1, _⟩ => show win0_1.index t 1 * 1 + 1 * 0 = 0; rw [(idx1 t).2.1]
  | ⟨2, _⟩ => show win0_1.index t 2 * 512 + 1 * l.val = l.val; rw [(idx1 t).2.2]; omega

/-- The result: every lane's three picks of its gates. -/
def result (c : Dev nD) : Buf (Elt Ideal) ((c.tc : Thread nD τ).loc main_v1) := fun i : S32x8x128.Idx =>
  picks (gatesOf (m (c.tc.loc main_arg0)) (m (c.tc.loc main_arg1)) (i 0) (i 2)) (i 1)

/-- A point's output block: the picks of its sequence. -/
theorem block_apply (c : Dev nD) (t : Fin cfg0.N) (p : Fin 8) (h : Fin 128) :
    (out0_2 (iblk m c 0 t) (iblk m c 1 t) : Vec Ideal S1x8x128 .i32) (ix3 0 p h) = result m c (ix3 (seq t) p h) := by
  unfold out0_2
  rw [View.canon_cons_unit_zero hz, View.ld_unit_zero (S := S1x64x1024) hz, View.ld_unit_zero (S := S1x1x512) hz, pay2_apply]
  simp only [pay1_apply, blk0, blk1]
  rfl

/-- What point `t` writes back is the result, read through the point's block. -/
theorem flushed_eq (c : Dev nD) (t : Fin cfg0.N) :
    (dats m 0 c).flushed 2 t = ((cfg0.win 2).blk t).view.read (Elt Ideal) (result m c) := by
  rw [Value.flushed2]
  funext j
  obtain ⟨p, h, rfl⟩ : ∃ (p : Fin 8) (h : Fin 128), j = ix3 0 p h := ⟨j 1, j 2, (eq_ix3 j).trans (congrArg (fun z : Fin 1 => ix3 z (j 1) (j 2)) (Subsingleton.elim (α := Fin 1) (j 0) 0))⟩
  rw [View.read_apply]
  show (out0_2 (iblk m c 0 t) (iblk m c 1 t) : Vec Ideal S1x8x128 .i32) (ix3 0 p h) = _
  rw [block_apply]
  refine congrArg (result m c) (funext fun a => Fin.ext ?_)
  match a with
  | ⟨0, _⟩ => show t.val = win0_2.index t 0 * 1 + 1 * 0; rw [(idx2 t).1]; omega
  | ⟨1, _⟩ => show p.val = win0_2.index t 1 * 8 + 1 * p.val; rw [(idx2 t).2.1]; omega
  | ⟨2, _⟩ => show h.val = win0_2.index t 2 * 128 + 1 * h.val; rw [(idx2 t).2.2]; omega

/-- The blocks tile the result array. -/
theorem cover (i : S32x8x128.Idx) : ∃ t : Fin cfg0.N, (cfg0.win 2).flush t = true ∧ i ∈ ((cfg0.win 2).blk t).view.set := by
  have h0 : (i 0 : Nat) < 32 := (i 0).isLt
  have h1 : (i 1 : Nat) < 8 := (i 1).isLt
  have h2 : (i 2 : Nat) < 128 := (i 2).isLt
  refine ⟨⟨(i 0 : Nat), lt_of_lt_of_eq h0 N_0.symm⟩, flush0_2 _, ?_⟩
  generalize ht : (⟨(i 0 : Nat), lt_of_lt_of_eq h0 N_0.symm⟩ : Fin cfg0.N) = t
  have hv : t.val = (i 0 : Nat) := by rw [← ht]
  show i ∈ ((View.whole main_v1).slice (win0_2.rect t)).set
  rw [View.set_slice_whole, Rect.mem_set_unit]
  intro a
  match a with
  | ⟨0, _⟩ =>
    show win0_2.index t 0 * 1 ≤ (i 0 : Nat) ∧ (i 0 : Nat) < win0_2.index t 0 * 1 + 1
    rw [(idx2 t).1, hv]; omega
  | ⟨1, _⟩ =>
    show win0_2.index t 1 * 8 ≤ (i 1 : Nat) ∧ (i 1 : Nat) < win0_2.index t 1 * 8 + 8
    rw [(idx2 t).2.1]; omega
  | ⟨2, _⟩ =>
    show win0_2.index t 2 * 128 ≤ (i 2 : Nat) ∧ (i 2 : Nat) < win0_2.index t 2 * 128 + 128
    rw [(idx2 t).2.2]; omega

/-- The result array after the run. -/
theorem final_o (c : Dev nD) : (dats m 0 c).arrAt 2 cfg0.N = result m c :=
  (dats m 0 c).arrAt_eq_of_cover 2 (result m c) (fun t _ => flushed_eq m c t) cover

/-- The claim: the kernel's result array and the reference's are equal over the extended reals. -/
theorem algebraic : Cert.algebraic_GateIdeal_RefGateIdeal := by
  intro m ρ m' ρ' _ hagree
  refine ⟨fun c => result m c, ?_, ?_⟩
  · exact (θ_run Cert.GateIdeal.defs _ _).mono (fun _ h c => ⟨(h c).1.trans (final_o m c), (h c).2⟩)
      (Value.run_blocks (F := Ideal) m ρ)
  · refine (θ_run Cert.RefGateIdeal.defs _ _).mono (fun _ h c => ⟨(h c).1.trans ?_, (h c).2⟩)
      (Cert.RefGateIdeal.Value.run (F := Ideal) m' ρ')
    obtain ⟨e0, e1⟩ := hagree c
    funext j
    obtain ⟨n, p, h, rfl⟩ : ∃ (n : Fin 32) (p : Fin 8) (h : Fin 128), j = ix3 n p h := ⟨j 0, j 1, j 2, eq_ix3 j⟩
    refine (Cert.RefGateIdeal.Read.ref_apply m' c n p h).trans ?_
    rw [e0, e1]
    rfl

end Cert.GateIdeal.Block

end
-- ==== Proof.PagesOk.lean ====
/-
  The page sums' precondition, read: a page table whose entries all name pages of the cache has every entry below 5120, and
  at such a table every window's block lies inside the cache (`ok_of_pre`), for the kernel and for its idealization.
-/
module

public import proofs.«01_k».proof.Proof.Gen.Pages.Frame
public import proofs.«01_k».proof.Proof.Gen.PagesIdeal.Frame
public import Idealize.ShloMosaic.Lib.Tactic.CleanTypes
public import proofs.«01_k».proof.Defs

@[expose] public section

set_option maxRecDepth 16384

noncomputable section

namespace Cert.PagesPre

open Idealize.ShloMosaic Idealize.ShloMosaic.TcCoe Idealize.SL.Sem

/-- The predicate's one shape fact. -/
theorem facts : Cert.Pre_pages_named.Facts := ⟨by decide⟩

/-- A word from 0 up to 5119, as signed comparisons tell, is a number below 5120. -/
theorem lt_of_word (x : BitVec 32) (h : IntOp.andi (Scalar.cmpi .sge x 0#32) (Scalar.cmpi .slt x 5120#32) = 1#1) : x.toNat < 5120 := by
  rw [WordCmp.scalar_cmpi_eq, WordCmp.scalar_cmpi_eq, WordCmp.andi_sge_zero_slt_ofNat (k := 5120) (by decide)] at h
  exact (WordCmp.ofBool_decide_eq_one_iff _).mp h

/-- Under the predicate every entry of the table is below 5120. -/
theorem lt_of_pre {F : FTy → Type} [FloatOps F] (k : FVec F ⟨4, ![2, 5120, 128, 512]⟩ .f32) (x : IVec ⟨2, ![32, 128]⟩ 32)
    (h : letI := facts; Cert.Pre_pages_named.fn k x = fun _ => 1#1) (j : (⟨2, ![32, 128]⟩ : Shape).Idx) : (x j).toNat < 5120 := by
  have e := congrFun h j
  unfold Cert.Pre_pages_named.fn at e
  exact lt_of_word (x j) (Eq.trans rfl e)

end Cert.PagesPre

namespace Cert.Pages.Block

open Cert.Pages Cert.Pages.Gen Idealize.ShloMosaic Idealize.ShloMosaic.TcCoe Idealize.SL.Sem

variable {F : FTy → Type} [FloatOps F]

/-- At a table whose entries are below 5120 every window's block lies inside the cache. -/
theorem ok_of_lt (pf : pre0.Contents (Elt F)) (hp : ∀ x, BitVec.toNat (pf 0 x : BitVec 32) < 5120) : ok0 pf := by
  refine ⟨?_, ?_, ?_, ?_, ?_, ?_, ?_, ?_⟩ <;>
  · intro i
    refine ⟨fun a => ?_, .inl rfl⟩
    match a with
    | ⟨0, _⟩ => show (0 + 1) * 1 ≤ 2; omega
    | ⟨1, _⟩ => exact (Nat.mul_one _).trans_le (hp _)
    | ⟨2, _⟩ => show (0 + 1) * 128 ≤ 128; omega
    | ⟨3, _⟩ => show (0 + 1) * 512 ≤ 512; omega

/-- Under the precondition every entry of the table is below 5120. -/
theorem lt_of_pre (m : (ℓ : Loc nD τ sig) → Buf (Elt Bits) ℓ) (h : letI := Cert.PagesPre.facts; Cert.Pre_Pages m)
    (j : (⟨2, ![32, 128]⟩ : Shape).Idx) : BitVec.toNat (tbl m 0 j : BitVec 32) < 5120 :=
  Cert.PagesPre.lt_of_pre _ _ (h 0) j

/-- Under the precondition every window's block lies inside the cache. -/
theorem ok_of_pre (m : (ℓ : Loc nD τ sig) → Buf (Elt Bits) ℓ) (h : letI := Cert.PagesPre.facts; Cert.Pre_Pages m) : Ok m :=
  ok_of_lt (tbl m) (lt_of_pre m h)

end Cert.Pages.Block

namespace Cert.PagesIdeal.Block

open Cert.PagesIdeal Cert.PagesIdeal.Gen Idealize.ShloMosaic Idealize.ShloMosaic.TcCoe Idealize.SL.Sem

variable {F : FTy → Type} [FloatOps F]

/-- At a table whose entries are below 5120 every window's block lies inside the cache. -/
theorem ok_of_lt (pf : pre0.Contents (Elt F)) (hp : ∀ x, BitVec.toNat (pf 0 x : BitVec 32) < 5120) : ok0 pf := by
  refine ⟨?_, ?_, ?_, ?_, ?_, ?_, ?_, ?_⟩ <;>
  · intro i
    refine ⟨fun a => ?_, .inl rfl⟩
    match a with
    | ⟨0, _⟩ => show (0 + 1) * 1 ≤ 2; omega
    | ⟨1, _⟩ => exact (Nat.mul_one _).trans_le (hp _)
    | ⟨2, _⟩ => show (0 + 1) * 128 ≤ 128; omega
    | ⟨3, _⟩ => show (0 + 1) * 512 ≤ 512; omega

/-- Under the precondition every entry of the table is below 5120. -/
theorem lt_of_pre (m : (ℓ : Loc nD τ sig) → Buf (Elt Ideal) ℓ) (h : letI := Cert.PagesPre.facts; Cert.Pre_PagesIdeal m)
    (j : (⟨2, ![32, 128]⟩ : Shape).Idx) : BitVec.toNat (tbl m 0 j : BitVec 32) < 5120 :=
  Cert.PagesPre.lt_of_pre _ _ (h 0) j

/-- Under the precondition every window's block lies inside the cache. -/
theorem ok_of_pre (m : (ℓ : Loc nD τ sig) → Buf (Elt Ideal) ℓ) (h : letI := Cert.PagesPre.facts; Cert.Pre_PagesIdeal m) : Ok m :=
  ok_of_lt (tbl m) (lt_of_pre m h)

end Cert.PagesIdeal.Block

end
-- ==== Proof.PagesBlock.lean ====
/-
  One grid point's block of page sums, read over the extended reals: row w of the block is the sum of the 128 rows of the
  page that the w-th window holds.
-/
module

public import proofs.«01_k».proof.Proof.Gen.PagesIdeal.Frame
public import Idealize.ShloMosaic.Lib.Pointwise

@[expose] public section

set_option maxRecDepth 16384

noncomputable section

namespace Cert.PagesIdeal.Block

open Cert.PagesIdeal Cert.PagesIdeal.Gen Idealize.ShloMosaic Idealize.ShloMosaic.TcCoe Idealize.SL.Sem

theorem hz4 : (![0, 0, 0, 0] : Fin 4 → Nat) = fun _ => 0 := funext fun a => by fin_cases a <;> rfl

/-- A page's rows summed, lane by lane. -/
def pageSum (x : FVec Ideal S1x1x128x512 .f32) (l : Fin 512) : EReal := ∑ r : Fin 128, x (ix4 0 0 r l)

theorem red0 : S128x512.Reduces [0] S512 := by decide

theorem lift0 (l : Fin 512) (r : Fin 128) : red0.lift (ix1 l) r = ix2 r l := funext fun a => Fin.ext (by
  match a with
  | ⟨0, _⟩ => rfl
  | ⟨1, _⟩ => rfl)

/-- The sum of a page's rows, at a lane. -/
theorem sum_apply (x : FVec Ideal S1x1x128x512 .f32) (l : Fin 512) :
    (multiReduction .add [0] S512 (shapeCast S128x512 x shapeCasts_S1x1x128x512_S128x512) 0x00000000#32 reduces_S128x512_S512 (.inl rfl) rfl : FVec Ideal S512 .f32) (ix1 l)
      = pageSum x l := by
  refine (Ideal.multiReduction_add_single _ _ red0 _ _ _).trans ?_
  unfold pageSum
  refine Finset.sum_congr rfl fun (r : Fin 128) _ => ?_
  refine (congrArg _ (lift0 l r)).trans ?_
  pointwise

theorem pay2_apply (x : FVec Ideal S1x1x128x512 .f32) (a b : Fin 1) (l : Fin 512) : k0_pay2 (F := Ideal) x (ix3 a b l) = pageSum x l := by
  unfold k0_pay2
  exact Eq.trans (by pointwise) (sum_apply x l)

theorem pay3_apply (x : FVec Ideal S1x1x128x512 .f32) (a b : Fin 1) (l : Fin 512) : k0_pay3 (F := Ideal) x (ix3 a b l) = pageSum x l := by
  unfold k0_pay3
  exact Eq.trans (by pointwise) (sum_apply x l)

theorem pay4_apply (x : FVec Ideal S1x1x128x512 .f32) (a b : Fin 1) (l : Fin 512) : k0_pay4 (F := Ideal) x (ix3 a b l) = pageSum x l := by
  unfold k0_pay4
  exact Eq.trans (by pointwise) (sum_apply x l)

theorem pay7_apply (x : FVec Ideal S1x1x128x512 .f32) (a b : Fin 1) (l : Fin 512) : k0_pay7 (F := Ideal) x (ix3 a b l) = pageSum x l := by
  unfold k0_pay7
  exact Eq.trans (by pointwise) (sum_apply x l)

theorem pay8_apply (x : FVec Ideal S1x1x128x512 .f32) (a b : Fin 1) (l : Fin 512) : k0_pay8 (F := Ideal) x (ix3 a b l) = pageSum x l := by
  unfold k0_pay8
  exact Eq.trans (by pointwise) (sum_apply x l)

theorem pay9_apply (x : FVec Ideal S1x1x128x512 .f32) (a b : Fin 1) (l : Fin 512) : k0_pay9 (F := Ideal) x (ix3 a b l) = pageSum x l := by
  unfold k0_pay9
  exact Eq.trans (by pointwise) (sum_apply x l)

theorem pay6_apply (x : FVec Ideal S1x1x128x512 .f32) (a b : Fin 1) (l : Fin 512) : k0_pay6 (F := Ideal) (k0_pay5 x) (ix3 a b l) = pageSum x l := by
  unfold k0_pay6 k0_pay5
  exact Eq.trans (by pointwise) (sum_apply x l)

theorem pay1_apply (x : FVec Ideal S1x1x128x512 .f32) (a b : Fin 1) (l : Fin 512) : k0_pay1 (F := Ideal) (k0_pay10 x) (ix3 a b l) = pageSum x l := by
  unfold k0_pay1 k0_pay10
  exact Eq.trans (by pointwise) (sum_apply x l)

/-- The eight pages by number. -/
def pagesOf (x0 x1 x2 x3 x4 x5 x6 x7 : FVec Ideal S1x1x128x512 .f32) : Fin 8 → FVec Ideal S1x1x128x512 .f32
  | 0 => x0 | 1 => x1 | 2 => x2 | 3 => x3 | 4 => x4 | 5 => x5 | 6 => x6 | 7 => x7

theorem idx_one (x : S1x1x512.Idx) : ∃ l : Fin 512, x = ix3 0 0 l :=
  ⟨x 2, (eq_ix3 x).trans (congrArg₂ (fun (a b : Fin 1) => ix3 a b (x 2)) (Subsingleton.elim (α := Fin 1) (x 0) 0) (Subsingleton.elim (α := Fin 1) (x 1) 0))⟩

theorem at_lane (l : Fin 512) : l.val = 0 + 1 * l.val := by omega

/-- What a point leaves in its output block: row w is the sum of page w's rows. -/
theorem out_A (c : Dev nD) (i : grid0.Coords) (arg3 : Memref sig .tc .vmem S1x1x128x512 .f32) (harg3 : arg3.IsWhole) (arg4 : Memref sig .tc .vmem S1x1x128x512 .f32) (harg4 : arg4.IsWhole) (arg5 : Memref sig .tc .vmem S1x1x128x512 .f32) (harg5 : arg5.IsWhole) (arg6 : Memref sig .tc .vmem S1x1x128x512 .f32) (harg6 : arg6.IsWhole) (arg7 : Memref sig .tc .vmem S1x1x128x512 .f32) (harg7 : arg7.IsWhole) (arg8 : Memref sig .tc .vmem S1x1x128x512 .f32) (harg8 : arg8.IsWhole) (arg9 : Memref sig .tc .vmem S1x1x128x512 .f32) (harg9 : arg9.IsWhole) (arg10 : Memref sig .tc .vmem S1x1x128x512 .f32) (harg10 : arg10.IsWhole) (arg11 : Memref sig .tc .vmem S1x8x512 .f32) (harg11 : arg11.IsWhole)
    (x0 : Vec Ideal S1x1x128x512 .f32) (x1 : Vec Ideal S1x1x128x512 .f32) (x2 : Vec Ideal S1x1x128x512 .f32) (x3 : Vec Ideal S1x1x128x512 .f32) (x4 : Vec Ideal S1x1x128x512 .f32) (x5 : Vec Ideal S1x1x128x512 .f32) (x6 : Vec Ideal S1x1x128x512 .f32) (x7 : Vec Ideal S1x1x128x512 .f32) (xt0 : TbBuf0 (F := Ideal) c tbM0_0)  (y : S1x8x512.Idx) :
    out0_A_8 c i arg3 harg3 arg4 harg4 arg5 harg5 arg6 harg6 arg7 harg7 arg8 harg8 arg9 harg9 arg10 harg10 arg11 harg11 x0 x1 x2 x3 x4 x5 x6 x7 xt0 y = pageSum (pagesOf x0 x1 x2 x3 x4 x5 x6 x7 (y 1)) (y 2) := by
  unfold out0_A_8
  refine View.read_writes_apply_of_pieces _ _ (fun y : S1x8x512.Idx => pageSum (pagesOf x0 x1 x2 x3 x4 x5 x6 x7 (y 1)) (y 2)) _ ?_ y
    (cover0_A_8 c i arg3 harg3 arg4 harg4 arg5 harg5 arg6 harg6 arg7 harg7 arg8 harg8 arg9 harg9 arg10 harg10 arg11 harg11 x0 x1 x2 x3 x4 x5 x6 x7 xt0 y)
  unfold kernelRun0_A
  dsimp only
  sl_unfold_words
  simp only [View.readAt_eq_ld, harg3.read_unread, harg4.read_unread, harg5.read_unread, harg6.read_unread, harg7.read_unread, harg8.read_unread, harg9.read_unread, harg10.read_unread, View.ld_unit_zero (S := S1x1x128x512) hz4]
  simp only [List.forall_mem_cons, List.forall_mem_nil]
  refine ⟨fun x => ?_, fun x => ?_, fun x => ?_, fun x => ?_, fun x => ?_, fun x => ?_, fun x => ?_, fun x => ?_, by simp⟩
  · obtain ⟨l, rfl⟩ := idx_one x
    exact (pay1_apply x7 0 0 l).trans (congrArg₂ (fun w l => pageSum (pagesOf x0 x1 x2 x3 x4 x5 x6 x7 w) l) (Fin.ext rfl : (7 : Fin 8) = _) (Fin.ext (at_lane l)))
  · obtain ⟨l, rfl⟩ := idx_one x
    exact (pay9_apply x6 0 0 l).trans (congrArg₂ (fun w l => pageSum (pagesOf x0 x1 x2 x3 x4 x5 x6 x7 w) l) (Fin.ext rfl : (6 : Fin 8) = _) (Fin.ext (at_lane l)))
  · obtain ⟨l, rfl⟩ := idx_one x
    exact (pay8_apply x5 0 0 l).trans (congrArg₂ (fun w l => pageSum (pagesOf x0 x1 x2 x3 x4 x5 x6 x7 w) l) (Fin.ext rfl : (5 : Fin 8) = _) (Fin.ext (at_lane l)))
  · obtain ⟨l, rfl⟩ := idx_one x
    exact (pay7_apply x4 0 0 l).trans (congrArg₂ (fun w l => pageSum (pagesOf x0 x1 x2 x3 x4 x5 x6 x7 w) l) (Fin.ext rfl : (4 : Fin 8) = _) (Fin.ext (at_lane l)))
  · obtain ⟨l, rfl⟩ := idx_one x
    exact (pay6_apply x3 0 0 l).trans (congrArg₂ (fun w l => pageSum (pagesOf x0 x1 x2 x3 x4 x5 x6 x7 w) l) (Fin.ext rfl : (3 : Fin 8) = _) (Fin.ext (at_lane l)))
  · obtain ⟨l, rfl⟩ := idx_one x
    exact (pay4_apply x2 0 0 l).trans (congrArg₂ (fun w l => pageSum (pagesOf x0 x1 x2 x3 x4 x5 x6 x7 w) l) (Fin.ext rfl : (2 : Fin 8) = _) (Fin.ext (at_lane l)))
  · obtain ⟨l, rfl⟩ := idx_one x
    exact (pay3_apply x1 0 0 l).trans (congrArg₂ (fun w l => pageSum (pagesOf x0 x1 x2 x3 x4 x5 x6 x7 w) l) (Fin.ext rfl : (1 : Fin 8) = _) (Fin.ext (at_lane l)))
  · obtain ⟨l, rfl⟩ := idx_one x
    exact (pay2_apply x0 0 0 l).trans (congrArg₂ (fun w l => pageSum (pagesOf x0 x1 x2 x3 x4 x5 x6 x7 w) l) (Fin.ext rfl : (0 : Fin 8) = _) (Fin.ext (at_lane l)))

end Cert.PagesIdeal.Block

end
-- ==== Proof.PagesRef.lean ====
/-
  The reference's page sums, read over the extended reals: at a page table whose entries are below 5120, the sum of the 128
  rows of the page that the table names.
-/
module

public import proofs.«01_k».proof.Proof.Gen.RefPagesIdeal.Run
public import Idealize.ShloMosaic.Lib.Pointwise
public import Idealize.ShloMosaic.Lib.WordCmp

@[expose] public section

set_option maxRecDepth 16384

noncomputable section

namespace Cert.RefPagesIdeal.Read

open Cert.RefPagesIdeal Cert.RefPagesIdeal.Gen Idealize.ShloMosaic Idealize.ShloMosaic.TcCoe Idealize.SL.Sem

/-- Where the reference's reading of the cache starts: layer 0, and the page that the table names. -/
def starts (p : IVec S32x128 32) : IVec S32x128x2 32 :=
  concatenate S32x128x2 2 [⟨S32x128x1, (broadcastInDim S32x128x1 ![0, 1] bcast_S32x128_S32x128x1_0_1 (id (broadcastInDim S32x128 ![] bcast_S_S32x128 (constantI S_ 32 0#32))))⟩, ⟨S32x128x1, (broadcastInDim S32x128x1 ![0, 1] bcast_S32x128_S32x128x1_0_1 (select (cmpi .slt p (broadcastInDim S32x128 ![] bcast_S_S32x128 (constantI S_ 32 0#32))) (addi p (broadcastInDim S32x128 ![] bcast_S_S32x128 (constantI S_ 32 5120#32))) p))⟩] concatenates_S32x128x1_S32x128x1_S32x128x2_d2

/-- The reference's result, of the cache and the page table. -/
def res (k : FVec Ideal S2x5120x128x512 .f32) (p : IVec S32x128 32) : FVec Ideal S32x128x512 .f32 :=
  Host.reduceAdd (Host.gather gather_S2x5120x128x512_S32x128x2_S32x128x128x512_23_01_n_n_01_2_11128512 k (starts p)) (constant S_ .f32 0x00000000#32) reducesTo_S32x128x128x512_S32x128x512_d2 h_S_

theorem starts_layer (p : IVec S32x128 32) (b : Fin 32) (j : Fin 128) : starts p (ix3 b j 0) = 0#32 := by
  unfold starts
  pointwise
  rfl

theorem starts_page (p : IVec S32x128 32) (b : Fin 32) (j : Fin 128) (h : (p (ix2 b j)).toNat < 5120) :
    starts p (ix3 b j 1) = p (ix2 b j) := by
  unfold starts
  pointwise
  rw [WordCmp.cmpi_slt_zero, WordCmp.select_ofBool, if_neg (by simp only [decide_eq_true_eq]; omega)]

/-- The reference's reading of the cache at in-range start words. -/
theorem gather_apply (k : FVec Ideal S2x5120x128x512 .f32) (s : IVec S32x128x2 32) (b : Fin 32) (j : Fin 128) (r : Fin 128) (l : Fin 512)
    (q : Fin 5120) (h0 : s (ix3 b j 0) = 0#32) (h1 : (s (ix3 b j 1)).toNat = q.val) :
    Host.gather gather_S2x5120x128x512_S32x128x2_S32x128x128x512_23_01_n_n_01_2_11128512 k s (ix4 b j r l) = k (ix4 0 q r l) := by
  have hq : min (s (ix3 b j 1)).toInt.toNat (5120 - 1) = q.val := by
    have := q.isLt
    rw [WordCmp.toInt_eq_toNat_of_lt_half (by rw [h1]; omega), h1]
    omega
  have hl : min (s (ix3 b j 0)).toInt.toNat (2 - 1) = 0 := by rw [h0]; rfl
  unfold Host.gather
  refine congrArg k (funext fun a => Fin.ext ?_)
  generalize hd : gather_S2x5120x128x512_S32x128x2_S32x128x128x512_23_01_n_n_01_2_11128512 = d at *
  subst hd
  match a with
  | ⟨0, _⟩ =>
    refine Eq.trans ?_ hl
    show GatherDims.start _ _ s 0 + GatherDims.batchCoord _ _ 0 + GatherDims.offCoord _ _ 0 = _
    rw [GatherDims.batchCoord_eq_zero _ _ _ List.not_mem_nil, GatherDims.offCoord_eq_zero _ _ _ (by decide)]
    unfold GatherDims.start
    rw [dif_pos (by decide)]
    simp only [Nat.add_zero]
    refine congrArg (fun z => min (s z).toInt.toNat (2 - 1)) (funext fun e => Fin.ext ?_)
    match e with
    | ⟨0, _⟩ => rfl
    | ⟨1, _⟩ => rfl
    | ⟨2, _⟩ => rfl
  | ⟨1, _⟩ =>
    refine Eq.trans ?_ hq
    show GatherDims.start _ _ s 1 + GatherDims.batchCoord _ _ 1 + GatherDims.offCoord _ _ 1 = _
    rw [GatherDims.batchCoord_eq_zero _ _ _ List.not_mem_nil, GatherDims.offCoord_eq_zero _ _ _ (by decide)]
    unfold GatherDims.start
    rw [dif_pos (by decide)]
    simp only [Nat.add_zero]
    refine congrArg (fun z => min (s z).toInt.toNat (5120 - 1)) (funext fun e => Fin.ext ?_)
    match e with
    | ⟨0, _⟩ => rfl
    | ⟨1, _⟩ => rfl
    | ⟨2, _⟩ => rfl
  | ⟨2, _⟩ =>
    show GatherDims.start _ _ s 2 + GatherDims.batchCoord _ _ 2 + GatherDims.offCoord _ _ 2 = _
    rw [GatherDims.batchCoord_eq_zero _ _ _ List.not_mem_nil]
    unfold GatherDims.start GatherDims.offCoord
    rw [dif_neg (by decide), dif_pos (by decide), Nat.zero_add]
    rfl
  | ⟨3, _⟩ =>
    show GatherDims.start _ _ s 3 + GatherDims.batchCoord _ _ 3 + GatherDims.offCoord _ _ 3 = _
    rw [GatherDims.batchCoord_eq_zero _ _ _ List.not_mem_nil]
    unfold GatherDims.start GatherDims.offCoord
    rw [dif_neg (by decide), dif_pos (by decide), Nat.zero_add]
    rfl

theorem red2 : S32x128x128x512.Reduces [2] S32x128x512 := by decide

theorem lift2 (b : Fin 32) (j : Fin 128) (l : Fin 512) (r : Fin 128) : red2.lift (ix3 b j l) r = ix4 b j r l := funext fun a => Fin.ext (by
  match a with
  | ⟨0, _⟩ => rfl
  | ⟨1, _⟩ => rfl
  | ⟨2, _⟩ => rfl
  | ⟨3, _⟩ => rfl)

/-- The reference's result at a place: the sum of the named page's rows at the lane. -/
theorem res_apply (k : FVec Ideal S2x5120x128x512 .f32) (p : IVec S32x128 32) (b : Fin 32) (j : Fin 128) (l : Fin 512)
    (h : (p (ix2 b j)).toNat < 5120) : res k p (ix3 b j l) = ∑ r : Fin 128, k (ix4 0 ⟨(p (ix2 b j)).toNat, h⟩ r l) := by
  unfold res
  refine (Ideal.hostReduceAdd_single _ red2 _ _ _).trans ?_
  refine (congrArg₂ (fun a b : EReal => a + b) (Ideal.ofBits_zero .f32) (Finset.sum_congr rfl fun (r : Fin 128) _ => ?_)).trans (zero_add _)
  refine (congrArg _ (lift2 b j l r)).trans ?_
  exact gather_apply k (starts p) b j r l ⟨_, h⟩ (starts_layer p b j) (congrArg BitVec.toNat (starts_page p b j h))

end Cert.RefPagesIdeal.Read

end
-- ==== Proof.PagesRun.lean ====
/-
  The page sums' run, read: at every place of the result array the sum of the 128 rows of the page that the table names, by
  blocks (`flushed_eq`), hence as a whole (`final_o`), and the claim `algebraic`.
-/
module

public import proofs.«01_k».proof.Proof.PagesOk
public import proofs.«01_k».proof.Proof.PagesBlock
public import proofs.«01_k».proof.Proof.PagesRef
public import proofs.«01_k».proof.Defs

@[expose] public section

set_option maxRecDepth 16384

noncomputable section

namespace Cert.PagesIdeal.Block

open Cert.PagesIdeal Cert.PagesIdeal.Gen Cert.PagesIdeal.Facts₀ Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem coord0 : ∀ t : Fin grid0.N, ((grid0.coords t) 0).val = t.val / 16 := by decide +kernel
theorem coord1 : ∀ t : Fin grid0.N, ((grid0.coords t) 1).val = t.val % 16 := by decide +kernel
theorem idx8 : ∀ i : grid0.Coords, cc0_transform_8 i 0 = (i 0).val ∧ cc0_transform_8 i 1 = (i 1).val ∧ cc0_transform_8 i 2 = 0 := by
  intro i
  have h0 : (i 0).val < 32 := (i 0).isLt
  have h1 : (i 1).val < 16 := (i 1).isLt
  refine ⟨?_, ?_, rfl⟩
  · show (BitVec.ofNat 32 (i 0).val).toNat = _
    rw [BitVec.toNat_ofNat]; omega
  · show (BitVec.ofNat 32 (i 1).val).toNat = _
    rw [BitVec.toNat_ofNat]; omega

/-- The sequence that a grid point works on, and the place in its page list of the point's w-th page. -/
def seq (i : grid0.Coords) : Fin 32 := ⟨(i 0).val, (i 0).isLt⟩
def col (i : grid0.Coords) (w : Fin 8) : Fin 128 := ⟨(i 1).val * 8 + w.val, by have h : (i 1).val < 16 := (i 1).isLt; omega⟩

theorem off_seq (i : grid0.Coords) : (BitVec.ofNat 32 (i 0).val).toNat = (seq i).val := by
  have h0 : (i 0).val < 32 := (i 0).isLt
  show _ = (i 0).val
  rw [BitVec.toNat_ofNat]; omega

theorem off_col (i : grid0.Coords) (w : Fin 8) :
    (Scalar.addi (Scalar.muli (BitVec.ofNat 32 (i 1).val) 8#32) (BitVec.ofNat 32 w.val)).toNat = (col i w).val := by
  have h1 : (i 1).val < 16 := (i 1).isLt
  show ((BitVec.ofNat 32 (i 1).val * 8#32) + BitVec.ofNat 32 w.val).toNat = (i 1).val * 8 + w.val
  simp only [BitVec.toNat_add, BitVec.toNat_mul, BitVec.toNat_ofNat]
  omega

/-- The table's word at a one-element rectangle that starts at a row and a column. -/
theorem word_at (p : IVec S32x128 32) (off : Fin 2 → Nat) (inb : ∀ a, off a + S1x1.size a ≤ S32x128.size a) (b : Fin 32) (j : Fin 128)
    (h0 : off 0 = b.val) (h1 : off 1 = j.val) (x : S1x1.Idx) :
    (p ((Rect.unit (s := S32x128) off S1x1.size inb).emb x)).toNat = (p (ix2 b j)).toNat := by
  refine congrArg (fun z => (p z).toNat) (funext fun a => Fin.ext ?_)
  match a with
  | ⟨0, _⟩ =>
    have hx : (x 0).val < 1 := (x 0).isLt
    show off 0 + 1 * (x 0).val = b.val; omega
  | ⟨1, _⟩ =>
    have hx : (x 1).val < 1 := (x 1).isLt
    show off 1 + 1 * (x 1).val = j.val; omega

theorem page0 (pf : pre0.Contents (Elt Ideal)) (i : grid0.Coords) :
    cc0_transform_0 Facts₀.k0_off1_inb Facts₀.numel1_S1x1 pf i 1 = (pf 0 (ix2 (seq i) (col i 0)) : BitVec 32).toNat :=
  word_at (pf 0) _ _ _ _ (off_seq i) (off_col i 0) _

theorem page1 (pf : pre0.Contents (Elt Ideal)) (i : grid0.Coords) :
    cc0_transform_1 Facts₀.k0_off1_inb Facts₀.numel1_S1x1 pf i 1 = (pf 0 (ix2 (seq i) (col i 1)) : BitVec 32).toNat :=
  word_at (pf 0) _ _ _ _ (off_seq i) (off_col i 1) _

theorem page2 (pf : pre0.Contents (Elt Ideal)) (i : grid0.Coords) :
    cc0_transform_2 Facts₀.k0_off1_inb Facts₀.numel1_S1x1 pf i 1 = (pf 0 (ix2 (seq i) (col i 2)) : BitVec 32).toNat :=
  word_at (pf 0) _ _ _ _ (off_seq i) (off_col i 2) _

theorem page3 (pf : pre0.Contents (Elt Ideal)) (i : grid0.Coords) :
    cc0_transform_3 Facts₀.k0_off1_inb Facts₀.numel1_S1x1 pf i 1 = (pf 0 (ix2 (seq i) (col i 3)) : BitVec 32).toNat :=
  word_at (pf 0) _ _ _ _ (off_seq i) (off_col i 3) _

theorem page4 (pf : pre0.Contents (Elt Ideal)) (i : grid0.Coords) :
    cc0_transform_4 Facts₀.k0_off1_inb Facts₀.numel1_S1x1 pf i 1 = (pf 0 (ix2 (seq i) (col i 4)) : BitVec 32).toNat :=
  word_at (pf 0) _ _ _ _ (off_seq i) (off_col i 4) _

theorem page5 (pf : pre0.Contents (Elt Ideal)) (i : grid0.Coords) :
    cc0_transform_5 Facts₀.k0_off1_inb Facts₀.numel1_S1x1 pf i 1 = (pf 0 (ix2 (seq i) (col i 5)) : BitVec 32).toNat :=
  word_at (pf 0) _ _ _ _ (off_seq i) (off_col i 5) _

theorem page6 (pf : pre0.Contents (Elt Ideal)) (i : grid0.Coords) :
    cc0_transform_6 Facts₀.k0_off1_inb Facts₀.numel1_S1x1 pf i 1 = (pf 0 (ix2 (seq i) (col i 6)) : BitVec 32).toNat :=
  word_at (pf 0) _ _ _ _ (off_seq i) (off_col i 6) _

theorem page7 (pf : pre0.Contents (Elt Ideal)) (i : grid0.Coords) :
    cc0_transform_7 Facts₀.k0_off1_inb Facts₀.numel1_S1x1 pf i 1 = (pf 0 (ix2 (seq i) (col i 7)) : BitVec 32).toNat :=
  word_at (pf 0) _ _ _ _ (off_seq i) (off_col i 7) _

variable (hp : ∀ x : (⟨2, ![32, 128]⟩ : Shape).Idx, BitVec.toNat (tbl m 0 x : BitVec 32) < 5120) (hO : Ok m)

/-- The page that the table names at a place. -/
def page (b : Fin 32) (j : Fin 128) : Fin 5120 := ⟨(tbl m 0 (ix2 b j) : BitVec 32).toNat, hp _⟩

theorem blk0 (c : Dev nD) (t : Fin (cfgM m hO).N) (r : Fin 128) (l : Fin 512) :
    (iblk m hO c 0 t : Vec Ideal S1x1x128x512 .f32) (ix4 0 0 r l)
      = m (c.tc.loc main_arg0) (ix4 0 (page m hp (seq (grid0.coords t)) (col (grid0.coords t) 0)) r l) := by
  refine (congrFun (V_main_arg0 m c) _).trans (congrArg (m (c.tc.loc main_arg0)) (funext fun a => Fin.ext ?_))
  match a with
  | ⟨0, _⟩ => rfl
  | ⟨1, _⟩ =>
    show cc0_transform_0 Facts₀.k0_off1_inb Facts₀.numel1_S1x1 (tbl m) (grid0.coords t) 1 * 1 + 1 * 0 = _
    rw [page0]
    show _ = (tbl m 0 _ : BitVec 32).toNat
    omega
  | ⟨2, _⟩ => show 0 * 128 + 1 * r.val = r.val; omega
  | ⟨3, _⟩ => show 0 * 512 + 1 * l.val = l.val; omega

theorem blk1 (c : Dev nD) (t : Fin (cfgM m hO).N) (r : Fin 128) (l : Fin 512) :
    (iblk m hO c 1 t : Vec Ideal S1x1x128x512 .f32) (ix4 0 0 r l)
      = m (c.tc.loc main_arg0) (ix4 0 (page m hp (seq (grid0.coords t)) (col (grid0.coords t) 1)) r l) := by
  refine (congrFun (V_main_arg0 m c) _).trans (congrArg (m (c.tc.loc main_arg0)) (funext fun a => Fin.ext ?_))
  match a with
  | ⟨0, _⟩ => rfl
  | ⟨1, _⟩ =>
    show cc0_transform_1 Facts₀.k0_off1_inb Facts₀.numel1_S1x1 (tbl m) (grid0.coords t) 1 * 1 + 1 * 0 = _
    rw [page1]
    show _ = (tbl m 0 _ : BitVec 32).toNat
    omega
  | ⟨2, _⟩ => show 0 * 128 + 1 * r.val = r.val; omega
  | ⟨3, _⟩ => show 0 * 512 + 1 * l.val = l.val; omega

theorem blk2 (c : Dev nD) (t : Fin (cfgM m hO).N) (r : Fin 128) (l : Fin 512) :
    (iblk m hO c 2 t : Vec Ideal S1x1x128x512 .f32) (ix4 0 0 r l)
      = m (c.tc.loc main_arg0) (ix4 0 (page m hp (seq (grid0.coords t)) (col (grid0.coords t) 2)) r l) := by
  refine (congrFun (V_main_arg0 m c) _).trans (congrArg (m (c.tc.loc main_arg0)) (funext fun a => Fin.ext ?_))
  match a with
  | ⟨0, _⟩ => rfl
  | ⟨1, _⟩ =>
    show cc0_transform_2 Facts₀.k0_off1_inb Facts₀.numel1_S1x1 (tbl m) (grid0.coords t) 1 * 1 + 1 * 0 = _
    rw [page2]
    show _ = (tbl m 0 _ : BitVec 32).toNat
    omega
  | ⟨2, _⟩ => show 0 * 128 + 1 * r.val = r.val; omega
  | ⟨3, _⟩ => show 0 * 512 + 1 * l.val = l.val; omega

theorem blk3 (c : Dev nD) (t : Fin (cfgM m hO).N) (r : Fin 128) (l : Fin 512) :
    (iblk m hO c 3 t : Vec Ideal S1x1x128x512 .f32) (ix4 0 0 r l)
      = m (c.tc.loc main_arg0) (ix4 0 (page m hp (seq (grid0.coords t)) (col (grid0.coords t) 3)) r l) := by
  refine (congrFun (V_main_arg0 m c) _).trans (congrArg (m (c.tc.loc main_arg0)) (funext fun a => Fin.ext ?_))
  match a with
  | ⟨0, _⟩ => rfl
  | ⟨1, _⟩ =>
    show cc0_transform_3 Facts₀.k0_off1_inb Facts₀.numel1_S1x1 (tbl m) (grid0.coords t) 1 * 1 + 1 * 0 = _
    rw [page3]
    show _ = (tbl m 0 _ : BitVec 32).toNat
    omega
  | ⟨2, _⟩ => show 0 * 128 + 1 * r.val = r.val; omega
  | ⟨3, _⟩ => show 0 * 512 + 1 * l.val = l.val; omega

theorem blk4 (c : Dev nD) (t : Fin (cfgM m hO).N) (r : Fin 128) (l : Fin 512) :
    (iblk m hO c 4 t : Vec Ideal S1x1x128x512 .f32) (ix4 0 0 r l)
      = m (c.tc.loc main_arg0) (ix4 0 (page m hp (seq (grid0.coords t)) (col (grid0.coords t) 4)) r l) := by
  refine (congrFun (V_main_arg0 m c) _).trans (congrArg (m (c.tc.loc main_arg0)) (funext fun a => Fin.ext ?_))
  match a with
  | ⟨0, _⟩ => rfl
  | ⟨1, _⟩ =>
    show cc0_transform_4 Facts₀.k0_off1_inb Facts₀.numel1_S1x1 (tbl m) (grid0.coords t) 1 * 1 + 1 * 0 = _
    rw [page4]
    show _ = (tbl m 0 _ : BitVec 32).toNat
    omega
  | ⟨2, _⟩ => show 0 * 128 + 1 * r.val = r.val; omega
  | ⟨3, _⟩ => show 0 * 512 + 1 * l.val = l.val; omega

theorem blk5 (c : Dev nD) (t : Fin (cfgM m hO).N) (r : Fin 128) (l : Fin 512) :
    (iblk m hO c 5 t : Vec Ideal S1x1x128x512 .f32) (ix4 0 0 r l)
      = m (c.tc.loc main_arg0) (ix4 0 (page m hp (seq (grid0.coords t)) (col (grid0.coords t) 5)) r l) := by
  refine (congrFun (V_main_arg0 m c) _).trans (congrArg (m (c.tc.loc main_arg0)) (funext fun a => Fin.ext ?_))
  match a with
  | ⟨0, _⟩ => rfl
  | ⟨1, _⟩ =>
    show cc0_transform_5 Facts₀.k0_off1_inb Facts₀.numel1_S1x1 (tbl m) (grid0.coords t) 1 * 1 + 1 * 0 = _
    rw [page5]
    show _ = (tbl m 0 _ : BitVec 32).toNat
    omega
  | ⟨2, _⟩ => show 0 * 128 + 1 * r.val = r.val; omega
  | ⟨3, _⟩ => show 0 * 512 + 1 * l.val = l.val; omega

theorem blk6 (c : Dev nD) (t : Fin (cfgM m hO).N) (r : Fin 128) (l : Fin 512) :
    (iblk m hO c 6 t : Vec Ideal S1x1x128x512 .f32) (ix4 0 0 r l)
      = m (c.tc.loc main_arg0) (ix4 0 (page m hp (seq (grid0.coords t)) (col (grid0.coords t) 6)) r l) := by
  refine (congrFun (V_main_arg0 m c) _).trans (congrArg (m (c.tc.loc main_arg0)) (funext fun a => Fin.ext ?_))
  match a with
  | ⟨0, _⟩ => rfl
  | ⟨1, _⟩ =>
    show cc0_transform_6 Facts₀.k0_off1_inb Facts₀.numel1_S1x1 (tbl m) (grid0.coords t) 1 * 1 + 1 * 0 = _
    rw [page6]
    show _ = (tbl m 0 _ : BitVec 32).toNat
    omega
  | ⟨2, _⟩ => show 0 * 128 + 1 * r.val = r.val; omega
  | ⟨3, _⟩ => show 0 * 512 + 1 * l.val = l.val; omega

theorem blk7 (c : Dev nD) (t : Fin (cfgM m hO).N) (r : Fin 128) (l : Fin 512) :
    (iblk m hO c 7 t : Vec Ideal S1x1x128x512 .f32) (ix4 0 0 r l)
      = m (c.tc.loc main_arg0) (ix4 0 (page m hp (seq (grid0.coords t)) (col (grid0.coords t) 7)) r l) := by
  refine (congrFun (V_main_arg0 m c) _).trans (congrArg (m (c.tc.loc main_arg0)) (funext fun a => Fin.ext ?_))
  match a with
  | ⟨0, _⟩ => rfl
  | ⟨1, _⟩ =>
    show cc0_transform_7 Facts₀.k0_off1_inb Facts₀.numel1_S1x1 (tbl m) (grid0.coords t) 1 * 1 + 1 * 0 = _
    rw [page7]
    show _ = (tbl m 0 _ : BitVec 32).toNat
    omega
  | ⟨2, _⟩ => show 0 * 128 + 1 * r.val = r.val; omega
  | ⟨3, _⟩ => show 0 * 512 + 1 * l.val = l.val; omega

/-- The rows of a page of the first layer summed, at a lane. -/
def rowSum (k : FVec Ideal S2x5120x128x512 .f32) (p : Fin 5120) (l : Fin 512) : EReal := ∑ r : Fin 128, k (ix4 0 p r l)

/-- The result: every named page's rows summed, lane by lane. -/
def result (c : Dev nD) : Buf (Elt Ideal) ((c.tc : Thread nD τ).loc main_v0) := fun i : S32x128x512.Idx =>
  rowSum (m (c.tc.loc main_arg0)) (page m hp (i 0) (i 1)) (i 2)

/-- A point's output block: its sequence's eight page sums. -/
theorem block_apply (c : Dev nD) (t : Fin (cfgM m hO).N) (w : Fin 8) (l : Fin 512) :
    (outsAt0 m hO c t : Vec Ideal S1x8x512 .f32) (ix3 0 w l) = result m hp c (ix3 (seq (grid0.coords t)) (col (grid0.coords t) w) l) := by
  unfold outsAt0
  refine (out_A _ _ _ _ _ _ _ _ _ _ _ _ _ _ _ _ _ _ _ _ _ _ _ _ _ _ _ _ _ _).trans ?_
  show pageSum (pagesOf _ _ _ _ _ _ _ _ w) l = rowSum (m (c.tc.loc main_arg0)) (page m hp (seq (grid0.coords t)) (col (grid0.coords t) w)) l
  unfold pageSum rowSum
  refine Finset.sum_congr rfl fun r _ => ?_
  match w with
  | 0 => exact blk0 m hp hO c t r l
  | 1 => exact blk1 m hp hO c t r l
  | 2 => exact blk2 m hp hO c t r l
  | 3 => exact blk3 m hp hO c t r l
  | 4 => exact blk4 m hp hO c t r l
  | 5 => exact blk5 m hp hO c t r l
  | 6 => exact blk6 m hp hO c t r l
  | 7 => exact blk7 m hp hO c t r l

/-- What point `t` writes back is the result, read through the point's block. -/
theorem flushed_eq (c : Dev nD) (t : Fin (cfgM m hO).N) :
    (dats m hO 0 c).flushed 8 t = (((cfgM m hO).win 8).blk t).view.read (Elt Ideal) (result m hp c) := by
  show ((cfgM m hO).win 8).cut (grid0.coords t) ((dats m hO 0 c).after 8 t) = _
  rw [after0_8]
  refine funext fun (j : S1x8x512.Idx) => ?_
  obtain ⟨w, l, rfl⟩ : ∃ (w : Fin 8) (l : Fin 512), j = ix3 0 w l := ⟨j 1, j 2, (eq_ix3 j).trans (congrArg (fun z : Fin 1 => ix3 z (j 1) (j 2)) (Subsingleton.elim (α := Fin 1) (j 0) 0))⟩
  refine (block_apply m hp hO c t w l).trans ?_
  refine Eq.trans ?_ (View.read_apply _ _).symm
  refine congrArg (result m hp c) (funext fun a => Fin.ext ?_)
  match a with
  | ⟨0, _⟩ => show ((grid0.coords t) 0).val = cc0_transform_8 (grid0.coords t) 0 * 1 + 1 * 0; rw [(idx8 _).1]; omega
  | ⟨1, _⟩ => show ((grid0.coords t) 1).val * 8 + w.val = cc0_transform_8 (grid0.coords t) 1 * 8 + 1 * w.val; rw [(idx8 _).2.1]; omega
  | ⟨2, _⟩ => show l.val = cc0_transform_8 (grid0.coords t) 2 * 512 + 1 * l.val; rw [(idx8 _).2.2]; omega

/-- The blocks tile the result array. -/
theorem cover (i : S32x128x512.Idx) : ∃ t : Fin (cfgM m hO).N, ((cfgM m hO).win 8).flush t = true ∧ i ∈ (((cfgM m hO).win 8).blk t).view.set := by
  have h0 : (i 0 : Nat) < 32 := (i 0).isLt
  have h1 : (i 1 : Nat) < 128 := (i 1).isLt
  have h2 : (i 2 : Nat) < 512 := (i 2).isLt
  have hN : (cfgM m hO).N = 512 := N_0
  refine ⟨⟨(i 0 : Nat) * 16 + (i 1 : Nat) / 8, by omega⟩, flush0_8 (adm m hO) _, ?_⟩
  generalize ht : (⟨(i 0 : Nat) * 16 + (i 1 : Nat) / 8, by omega⟩ : Fin (cfgM m hO).N) = t
  have hv : t.val = (i 0 : Nat) * 16 + (i 1 : Nat) / 8 := by rw [← ht]
  have c0 := coord0 t
  have c1 := coord1 t
  have e : (((cfgM m hO).win 8).blk t).view.set = (((cfgM m hO).win 8).rect t : Rect S32x128x512).set := View.set_slice_whole main_v0 _
  refine (Finset.ext_iff.mp e i).mpr (Rect.mem_set_unit.mpr ?_)
  intro a
  match a with
  | ⟨0, _⟩ =>
    show cc0_transform_8 (grid0.coords t) 0 * 1 ≤ (i 0 : Nat) ∧ (i 0 : Nat) < cc0_transform_8 (grid0.coords t) 0 * 1 + 1
    rw [(idx8 _).1]; omega
  | ⟨1, _⟩ =>
    show cc0_transform_8 (grid0.coords t) 1 * 8 ≤ (i 1 : Nat) ∧ (i 1 : Nat) < cc0_transform_8 (grid0.coords t) 1 * 8 + 8
    rw [(idx8 _).2.1]; omega
  | ⟨2, _⟩ =>
    show cc0_transform_8 (grid0.coords t) 2 * 512 ≤ (i 2 : Nat) ∧ (i 2 : Nat) < cc0_transform_8 (grid0.coords t) 2 * 512 + 512
    rw [(idx8 _).2.2]; omega

/-- The result array after the run. -/
theorem final_o (c : Dev nD) : (dats m hO 0 c).arrAt 8 (cfgM m hO).N = result m hp c :=
  (dats m hO 0 c).arrAt_eq_of_cover 8 (result m hp c) (fun t _ => flushed_eq m hp hO c t) (cover m hO)

/-- The claim: under the precondition the kernel's result array and the reference's are equal over the extended reals. -/
theorem algebraic : letI := Cert.PagesPre.facts; Cert.algebraic_PagesIdeal_RefPagesIdeal := by
  intro m ρ m' ρ' hpre hagree
  have hp := lt_of_pre m hpre
  have hO : Ok m := ok_of_pre m hpre
  refine ⟨fun c => result m hp c, ?_, ?_⟩
  · exact (θ_run Cert.PagesIdeal.defs _ _).mono (fun _ h c => ⟨((h c).1 8).trans (final_o m hp hO c),
      ((h c).1 7).trans (((dats m hO 0 c).arrAt_in 7 rfl _).trans ((A_eq m hO c 7).trans (V_main_arg0 m c))),
      ((h c).2 main_arg1 (by decide : main_arg1 ∈ Pipeline.restRefs sig spec0)).trans (V_main_arg1 m c)⟩) (run_main m ρ hO)
  · refine (θ_run Cert.RefPagesIdeal.defs _ _).mono (fun _ h c => ⟨(h c).1.trans ?_, (h c).2⟩)
      (Cert.RefPagesIdeal.Value.run (F := Ideal) m' ρ')
    obtain ⟨e0, e1⟩ := hagree c
    obtain rfl : c = 0 := Subsingleton.elim _ _
    rw [e0, e1]
    funext j
    obtain ⟨b, p, l, rfl⟩ : ∃ (b : Fin 32) (p : Fin 128) (l : Fin 512), j = ix3 b p l := ⟨j 0, j 1, j 2, eq_ix3 j⟩
    exact Cert.RefPagesIdeal.Read.res_apply _ _ b p l (hp (ix2 b p))

end Cert.PagesIdeal.Block

end
-- ==== Proof.lean ====
/- The proof of the certificate: per program the frame, for the six references the frame of a host program, `preserves` with
   no rewrite, and per kernel call the value claim, proved in the call's own modules. -/
module

public import proofs.«01_k».proof.Proof.MixRun
public import proofs.«01_k».proof.Proof.FfnRun
public import proofs.«01_k».proof.Proof.MidRun
public import proofs.«01_k».proof.Proof.InprojRun
public import proofs.«01_k».proof.Proof.GateRun
public import proofs.«01_k».proof.Proof.PagesOk
public import proofs.«01_k».proof.Proof.PagesRun
public import proofs.«01_k».proof.Proof.Gen.FfnIdeal.Value
public import proofs.«01_k».proof.Proof.Gen.RefFfnIdeal.Run
public import proofs.«01_k».proof.Proof.Gen.FfnMixIdeal.Value
public import proofs.«01_k».proof.Proof.Gen.FfnMidIdeal.Value
public import proofs.«01_k».proof.Proof.Gen.RefFfnMidIdeal.Run
public import proofs.«01_k».proof.Proof.Gen.RefFfnMixIdeal.Run
public import proofs.«01_k».proof.Proof.Gen.InprojIdeal.Value
public import proofs.«01_k».proof.Proof.Gen.RefInprojIdeal.Run
public import proofs.«01_k».proof.Proof.Gen.Inproj.Frame
public import proofs.«01_k».proof.Proof.Gen.InprojIdeal.Frame
public import proofs.«01_k».proof.Proof.Gen.RefInprojIdeal
public import proofs.«01_k».proof.Proof.Gen.RefPagesIdeal.Run
public import proofs.«01_k».proof.Proof.Gen.Pages.Frame
public import proofs.«01_k».proof.Proof.Gen.PagesIdeal.Frame
public import proofs.«01_k».proof.Proof.Gen.RefPagesIdeal
public import proofs.«01_k».proof.Proof.Gen.GateIdeal.Value
public import proofs.«01_k».proof.Proof.Gen.RefGateIdeal.Run
public import proofs.«01_k».proof.Proof.Gen.Gate.Frame
public import proofs.«01_k».proof.Proof.Gen.GateIdeal.Frame
public import proofs.«01_k».proof.Proof.Gen.RefGateIdeal
public import proofs.«01_k».proof.Defs
public import proofs.«01_k».proof.Proof.Gen.Ffn.Frame
public import proofs.«01_k».proof.Proof.Gen.FfnIdeal.Frame
public import proofs.«01_k».proof.Proof.Gen.FfnMix.Frame
public import proofs.«01_k».proof.Proof.Gen.FfnMixIdeal.Frame
public import proofs.«01_k».proof.Proof.Gen.FfnMid.Frame
public import proofs.«01_k».proof.Proof.Gen.FfnMidIdeal.Frame
public import proofs.«01_k».proof.Proof.Gen.RefFfnIdeal
public import proofs.«01_k».proof.Proof.Gen.RefFfnMixIdeal
public import proofs.«01_k».proof.Proof.Gen.RefFfnMidIdeal
public import Idealize.ShloMosaic.Adequacy
public import Idealize.ShloMosaic.Init

@[expose] public section

noncomputable section

namespace Cert.Proof

open Idealize.ShloMosaic Idealize.SL.Sem

/-- The reference's program ends with its result and its arguments as they were, every counter at zero. -/
theorem frame_RefFfnIdeal : Cert.quiescent_RefFfnIdeal := fun m ρ _ =>
  (θ_run Cert.RefFfnIdeal.defs _ _).mono
    (fun r h => ⟨fun c => (h c).2, Idealize.ShloMosaic.sem_eq_zero_of_no_sems (by decide) r.2⟩)
    (Cert.RefFfnIdeal.Value.run (F := Ideal) m ρ)

/-- The reference's program ends with its result and its arguments as they were, every counter at zero. -/
theorem frame_RefFfnMixIdeal : Cert.quiescent_RefFfnMixIdeal := fun m ρ _ =>
  (θ_run Cert.RefFfnMixIdeal.defs _ _).mono
    (fun r h => ⟨fun c => (h c).2, Idealize.ShloMosaic.sem_eq_zero_of_no_sems (by decide) r.2⟩)
    (Cert.RefFfnMixIdeal.Value.run (F := Ideal) m ρ)

/-- The reference's program ends with its result and its arguments as they were, every counter at zero. -/
theorem frame_RefFfnMidIdeal : Cert.quiescent_RefFfnMidIdeal := fun m ρ _ =>
  (θ_run Cert.RefFfnMidIdeal.defs _ _).mono
    (fun r h => ⟨fun c => (h c).2, Idealize.ShloMosaic.sem_eq_zero_of_no_sems (by decide) r.2⟩)
    (Cert.RefFfnMidIdeal.Value.run (F := Ideal) m ρ)

/-- The reference's program ends with its results and its arguments as they were, every counter at zero. -/
theorem frame_RefInprojIdeal : Cert.quiescent_RefInprojIdeal := fun m ρ _ =>
  (θ_run Cert.RefInprojIdeal.defs _ _).mono
    (fun r h => ⟨fun c => (h c).2.2.2.2.2.2, Idealize.ShloMosaic.sem_eq_zero_of_no_sems (by decide) r.2⟩)
    (Cert.RefInprojIdeal.Value.run (F := Ideal) m ρ)

/-- The reference's program ends with its result and its arguments as they were, every counter at zero. -/
theorem frame_RefGateIdeal : Cert.quiescent_RefGateIdeal := fun m ρ _ =>
  (θ_run Cert.RefGateIdeal.defs _ _).mono
    (fun r h => ⟨fun c => (h c).2, Idealize.ShloMosaic.sem_eq_zero_of_no_sems (by decide) r.2⟩)
    (Cert.RefGateIdeal.Value.run (F := Ideal) m ρ)

/-- The reference's program ends with its result and its arguments as they were, every counter at zero, whatever the page
table holds. -/
theorem frame_RefPagesIdeal : Cert.quiescent_RefPagesIdeal := fun m ρ _ =>
  (θ_run Cert.RefPagesIdeal.defs _ _).mono
    (fun r h => ⟨fun c => (h c).2, Idealize.ShloMosaic.sem_eq_zero_of_no_sems (by decide) r.2⟩)
    (Cert.RefPagesIdeal.Value.run (F := Ideal) m ρ)

/-- Everything the certificate claims. -/
theorem claim : Cert.Claim := ⟨Cert.Ffn.Gen.facts, Cert.FfnIdeal.Gen.facts, Cert.RefFfnIdeal.Gen.facts,
  Cert.FfnMix.Gen.facts, Cert.FfnMixIdeal.Gen.facts, Cert.RefFfnMixIdeal.Gen.facts,
  Cert.FfnMid.Gen.facts, Cert.FfnMidIdeal.Gen.facts, Cert.RefFfnMidIdeal.Gen.facts,
  Cert.Inproj.Gen.facts, Cert.InprojIdeal.Gen.facts, Cert.RefInprojIdeal.Gen.facts,
  Cert.Gate.Gen.facts, Cert.GateIdeal.Gen.facts, Cert.RefGateIdeal.Gen.facts,
  Cert.Pages.Gen.facts, Cert.PagesIdeal.Gen.facts, Cert.RefPagesIdeal.Gen.facts, Cert.PagesPre.facts,
  fun m ρ _ => Cert.Ffn.Gen.frame m ρ,
  fun m ρ _ => Cert.FfnIdeal.Gen.frame m ρ,
  frame_RefFfnIdeal,
  fun m ρ _ => Cert.FfnMix.Gen.frame m ρ,
  fun m ρ _ => Cert.FfnMixIdeal.Gen.frame m ρ,
  frame_RefFfnMixIdeal,
  fun m ρ _ => Cert.FfnMid.Gen.frame m ρ,
  fun m ρ _ => Cert.FfnMidIdeal.Gen.frame m ρ,
  frame_RefFfnMidIdeal,
  fun m ρ _ => Cert.Inproj.Gen.frame m ρ,
  fun m ρ _ => Cert.InprojIdeal.Gen.frame m ρ,
  frame_RefInprojIdeal,
  fun m ρ _ => Cert.Gate.Gen.frame m ρ,
  fun m ρ _ => Cert.GateIdeal.Gen.frame m ρ,
  frame_RefGateIdeal,
  fun m ρ h => Cert.Pages.Gen.frame m ρ (Cert.Pages.Block.ok_of_pre m h),
  fun m ρ h => Cert.PagesIdeal.Gen.frame m ρ (Cert.PagesIdeal.Block.ok_of_pre m h),
  frame_RefPagesIdeal,
  fun m ρ _ => frame_RefPagesIdeal m ρ trivial,
  trivial,
  Cert.FfnIdeal.Block.algebraic,
  trivial,
  Cert.FfnMixIdeal.Block.algebraic,
  trivial,
  Cert.FfnMidIdeal.Block.algebraic,
  trivial,
  Cert.InprojIdeal.Block.algebraic,
  trivial,
  Cert.GateIdeal.Block.algebraic,
  trivial,
  Cert.PagesIdeal.Block.algebraic⟩

end Cert.Proof

end
